-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite [hPre_finite : Cert.Pre_finite.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite [hPre_finite : Cert.Pre_finite.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5))) = (fun _ => 1#1)

def Pre_AttnD (m : (ℓ : Loc Cert.AttnD.nD Cert.AttnD.τ Cert.AttnD.sig) → Buf (Elt Bits) ℓ) : Prop :=
  True

def Pre_AttnDIdeal (m : (ℓ : Loc Cert.AttnDIdeal.nD Cert.AttnDIdeal.τ Cert.AttnDIdeal.sig) → Buf (Elt Ideal) ℓ) : Prop :=
  True

def Pre_AttnDIdeal_finite [hPre_finite : Cert.Pre_finite.Facts] (m : (ℓ : Loc Cert.AttnDIdeal.nD Cert.AttnDIdeal.τ Cert.AttnDIdeal.sig) → Buf (Elt Ideal) ℓ) : Prop :=
  ∀ c : Dev Cert.AttnDIdeal.nD,
    (Cert.Pre_finite.fn (F := Ideal) (m ((c.tc : Thread Cert.AttnDIdeal.nD Cert.AttnDIdeal.τ).loc Cert.AttnDIdeal.main_arg0)) (m ((c.tc : Thread Cert.AttnDIdeal.nD Cert.AttnDIdeal.τ).loc Cert.AttnDIdeal.main_arg1)) (m ((c.tc : Thread Cert.AttnDIdeal.nD Cert.AttnDIdeal.τ).loc Cert.AttnDIdeal.main_arg2)) (m ((c.tc : Thread Cert.AttnDIdeal.nD Cert.AttnDIdeal.τ).loc Cert.AttnDIdeal.main_arg3)) (m ((c.tc : Thread Cert.AttnDIdeal.nD Cert.AttnDIdeal.τ).loc Cert.AttnDIdeal.main_arg4)) (m ((c.tc : Thread Cert.AttnDIdeal.nD Cert.AttnDIdeal.τ).loc Cert.AttnDIdeal.main_arg5))) = (fun _ => 1#1)

def Pre_AttnDRefIdeal (m : (ℓ : Loc Cert.AttnDRefIdeal.nD Cert.AttnDRefIdeal.τ Cert.AttnDRefIdeal.sig) → Buf (Elt Ideal) ℓ) : Prop :=
  True

def Pre_AttnDRefIdeal_finite [hPre_finite : Cert.Pre_finite.Facts] (m : (ℓ : Loc Cert.AttnDRefIdeal.nD Cert.AttnDRefIdeal.τ Cert.AttnDRefIdeal.sig) → Buf (Elt Ideal) ℓ) : Prop :=
  ∀ c : Dev Cert.AttnDRefIdeal.nD,
    (Cert.Pre_finite.fn (F := Ideal) (m ((c.tc : Thread Cert.AttnDRefIdeal.nD Cert.AttnDRefIdeal.τ).loc Cert.AttnDRefIdeal.main_arg0)) (m ((c.tc : Thread Cert.AttnDRefIdeal.nD Cert.AttnDRefIdeal.τ).loc Cert.AttnDRefIdeal.main_arg1)) (m ((c.tc : Thread Cert.AttnDRefIdeal.nD Cert.AttnDRefIdeal.τ).loc Cert.AttnDRefIdeal.main_arg2)) (m ((c.tc : Thread Cert.AttnDRefIdeal.nD Cert.AttnDRefIdeal.τ).loc Cert.AttnDRefIdeal.main_arg3)) (m ((c.tc : Thread Cert.AttnDRefIdeal.nD Cert.AttnDRefIdeal.τ).loc Cert.AttnDRefIdeal.main_arg4)) (m ((c.tc : Thread Cert.AttnDRefIdeal.nD Cert.AttnDRefIdeal.τ).loc Cert.AttnDRefIdeal.main_arg5))) = (fun _ => 1#1)

def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCIdeal_finite [hPre_finite : Cert.Pre_finite.Facts] (m : (ℓ : Loc Cert.AttnCIdeal.nD Cert.AttnCIdeal.τ Cert.AttnCIdeal.sig) → Buf (Elt Ideal) ℓ) : Prop :=
  ∀ c : Dev Cert.AttnCIdeal.nD,
    (Cert.Pre_finite.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1)) (m ((c.tc : Thread Cert.AttnCIdeal.nD Cert.AttnCIdeal.τ).loc Cert.AttnCIdeal.main_arg2)) (m ((c.tc : Thread Cert.AttnCIdeal.nD Cert.AttnCIdeal.τ).loc Cert.AttnCIdeal.main_arg3)) (m ((c.tc : Thread Cert.AttnCIdeal.nD Cert.AttnCIdeal.τ).loc Cert.AttnCIdeal.main_arg4)) (m ((c.tc : Thread Cert.AttnCIdeal.nD Cert.AttnCIdeal.τ).loc Cert.AttnCIdeal.main_arg5))) = (fun _ => 1#1)

def Pre_AttnCRefIdeal (m : (ℓ : Loc Cert.AttnCRefIdeal.nD Cert.AttnCRefIdeal.τ Cert.AttnCRefIdeal.sig) → Buf (Elt Ideal) ℓ) : Prop :=
  True

def Pre_AttnCRefIdeal_finite [hPre_finite : Cert.Pre_finite.Facts] (m : (ℓ : Loc Cert.AttnCRefIdeal.nD Cert.AttnCRefIdeal.τ Cert.AttnCRefIdeal.sig) → Buf (Elt Ideal) ℓ) : Prop :=
  ∀ c : Dev Cert.AttnCRefIdeal.nD,
    (Cert.Pre_finite.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1)) (m ((c.tc : Thread Cert.AttnCRefIdeal.nD Cert.AttnCRefIdeal.τ).loc Cert.AttnCRefIdeal.main_arg2)) (m ((c.tc : Thread Cert.AttnCRefIdeal.nD Cert.AttnCRefIdeal.τ).loc Cert.AttnCRefIdeal.main_arg3)) (m ((c.tc : Thread Cert.AttnCRefIdeal.nD Cert.AttnCRefIdeal.τ).loc Cert.AttnCRefIdeal.main_arg4)) (m ((c.tc : Thread Cert.AttnCRefIdeal.nD Cert.AttnCRefIdeal.τ).loc Cert.AttnCRefIdeal.main_arg5))) = (fun _ => 1#1)

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite [hPre_finite : Cert.Pre_finite.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5))) = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite [hPre_finite : Cert.Pre_finite.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5))) = (fun _ => 1#1)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3)
      ∧ r.2.mem ((c.tc : Thread Cert.AttnB.nD Cert.AttnB.τ).loc Cert.AttnB.main_arg4) = m ((c.tc : Thread Cert.AttnB.nD Cert.AttnB.τ).loc Cert.AttnB.main_arg4)
      ∧ r.2.mem ((c.tc : Thread Cert.AttnB.nD Cert.AttnB.τ).loc Cert.AttnB.main_arg5) = m ((c.tc : Thread Cert.AttnB.nD Cert.AttnB.τ).loc Cert.AttnB.main_arg5))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ r.2.sem = fun _ => 0)

def quiescent_AttnBIdeal_pre_finite [hAttnBIdeal : Cert.AttnBIdeal.Facts] [hPre_finite : Cert.Pre_finite.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5))
      ∧ r.2.sem = fun _ => 0)

def quiescent_AttnBRefIdeal_pre_finite [hAttnBRefIdeal : Cert.AttnBRefIdeal.Facts] [hPre_finite : Cert.Pre_finite.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5))
      ∧ r.2.sem = fun _ => 0)

def quiescent_AttnD [hAttnD : Cert.AttnD.Facts] : Prop :=
  ∀ (m : (ℓ : Loc Cert.AttnD.nD Cert.AttnD.τ Cert.AttnD.sig) → Buf (Elt Bits) ℓ) (g : Dev Cert.AttnD.nD → PrngReg), Pre_AttnD m →
    θ_run (Cert.AttnD.defs (F := Bits)) (onTc (τ := Cert.AttnD.τ) (Cert.AttnD.main (F := Bits))) ⟨m, fun _ => 0, g⟩ (fun r => (∀ c : Dev Cert.AttnD.nD,
      r.2.mem ((c.tc : Thread Cert.AttnD.nD Cert.AttnD.τ).loc Cert.AttnD.main_arg0) = m ((c.tc : Thread Cert.AttnD.nD Cert.AttnD.τ).loc Cert.AttnD.main_arg0)
      ∧ r.2.mem ((c.tc : Thread Cert.AttnD.nD Cert.AttnD.τ).loc Cert.AttnD.main_arg1) = m ((c.tc : Thread Cert.AttnD.nD Cert.AttnD.τ).loc Cert.AttnD.main_arg1)
      ∧ r.2.mem ((c.tc : Thread Cert.AttnD.nD Cert.AttnD.τ).loc Cert.AttnD.main_arg2) = m ((c.tc : Thread Cert.AttnD.nD Cert.AttnD.τ).loc Cert.AttnD.main_arg2)
      ∧ r.2.mem ((c.tc : Thread Cert.AttnD.nD Cert.AttnD.τ).loc Cert.AttnD.main_arg3) = m ((c.tc : Thread Cert.AttnD.nD Cert.AttnD.τ).loc Cert.AttnD.main_arg3)
      ∧ r.2.mem ((c.tc : Thread Cert.AttnD.nD Cert.AttnD.τ).loc Cert.AttnD.main_arg4) = m ((c.tc : Thread Cert.AttnD.nD Cert.AttnD.τ).loc Cert.AttnD.main_arg4)
      ∧ r.2.mem ((c.tc : Thread Cert.AttnD.nD Cert.AttnD.τ).loc Cert.AttnD.main_arg5) = m ((c.tc : Thread Cert.AttnD.nD Cert.AttnD.τ).loc Cert.AttnD.main_arg5))
      ∧ r.2.sem = fun _ => 0)

def quiescent_AttnDIdeal [hAttnDIdeal : Cert.AttnDIdeal.Facts] : Prop :=
  ∀ (m : (ℓ : Loc Cert.AttnDIdeal.nD Cert.AttnDIdeal.τ Cert.AttnDIdeal.sig) → Buf (Elt Ideal) ℓ) (g : Dev Cert.AttnDIdeal.nD → PrngReg), Pre_AttnDIdeal m →
    θ_run (Cert.AttnDIdeal.defs (F := Ideal)) (onTc (τ := Cert.AttnDIdeal.τ) (Cert.AttnDIdeal.main (F := Ideal))) ⟨m, fun _ => 0, g⟩ (fun r => (∀ c : Dev Cert.AttnDIdeal.nD,
      r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
      ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
      ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2)
      ∧ r.2.mem ((c.tc : Thread Cert.AttnDIdeal.nD Cert.AttnDIdeal.τ).loc Cert.AttnDIdeal.main_arg3) = m ((c.tc : Thread Cert.AttnDIdeal.nD Cert.AttnDIdeal.τ).loc Cert.AttnDIdeal.main_arg3)
      ∧ r.2.mem ((c.tc : Thread Cert.AttnDIdeal.nD Cert.AttnDIdeal.τ).loc Cert.AttnDIdeal.main_arg4) = m ((c.tc : Thread Cert.AttnDIdeal.nD Cert.AttnDIdeal.τ).loc Cert.AttnDIdeal.main_arg4)
      ∧ r.2.mem ((c.tc : Thread Cert.AttnDIdeal.nD Cert.AttnDIdeal.τ).loc Cert.AttnDIdeal.main_arg5) = m ((c.tc : Thread Cert.AttnDIdeal.nD Cert.AttnDIdeal.τ).loc Cert.AttnDIdeal.main_arg5))
      ∧ r.2.sem = fun _ => 0)

def quiescent_AttnDIdeal_pre_finite [hAttnDIdeal : Cert.AttnDIdeal.Facts] [hPre_finite : Cert.Pre_finite.Facts] : Prop :=
  ∀ (m : (ℓ : Loc Cert.AttnDIdeal.nD Cert.AttnDIdeal.τ Cert.AttnDIdeal.sig) → Buf (Elt Ideal) ℓ) (g : Dev Cert.AttnDIdeal.nD → PrngReg), Pre_AttnDIdeal_finite m →
    θ_run (Cert.AttnDIdeal.defs (F := Ideal)) (onTc (τ := Cert.AttnDIdeal.τ) (Cert.AttnDIdeal.main (F := Ideal))) ⟨m, fun _ => 0, g⟩ (fun r => (∀ c : Dev Cert.AttnDIdeal.nD,
      r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
      ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
      ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2)
      ∧ r.2.mem ((c.tc : Thread Cert.AttnDIdeal.nD Cert.AttnDIdeal.τ).loc Cert.AttnDIdeal.main_arg3) = m ((c.tc : Thread Cert.AttnDIdeal.nD Cert.AttnDIdeal.τ).loc Cert.AttnDIdeal.main_arg3)
      ∧ r.2.mem ((c.tc : Thread Cert.AttnDIdeal.nD Cert.AttnDIdeal.τ).loc Cert.AttnDIdeal.main_arg4) = m ((c.tc : Thread Cert.AttnDIdeal.nD Cert.AttnDIdeal.τ).loc Cert.AttnDIdeal.main_arg4)
      ∧ r.2.mem ((c.tc : Thread Cert.AttnDIdeal.nD Cert.AttnDIdeal.τ).loc Cert.AttnDIdeal.main_arg5) = m ((c.tc : Thread Cert.AttnDIdeal.nD Cert.AttnDIdeal.τ).loc Cert.AttnDIdeal.main_arg5))
      ∧ r.2.sem = fun _ => 0)

def quiescent_AttnDRefIdeal [hAttnDRefIdeal : Cert.AttnDRefIdeal.Facts] : Prop :=
  ∀ (m : (ℓ : Loc Cert.AttnDRefIdeal.nD Cert.AttnDRefIdeal.τ Cert.AttnDRefIdeal.sig) → Buf (Elt Ideal) ℓ) (g : Dev Cert.AttnDRefIdeal.nD → PrngReg), Pre_AttnDRefIdeal m →
    θ_run (Cert.AttnDRefIdeal.defs (F := Ideal)) (onTc (τ := Cert.AttnDRefIdeal.τ) (Cert.AttnDRefIdeal.main (F := Ideal))) ⟨m, fun _ => 0, g⟩ (fun r => (∀ c : Dev Cert.AttnDRefIdeal.nD,
      r.2.mem ((c.tc : Thread Cert.AttnDRefIdeal.nD Cert.AttnDRefIdeal.τ).loc Cert.AttnDRefIdeal.main_arg0) = m ((c.tc : Thread Cert.AttnDRefIdeal.nD Cert.AttnDRefIdeal.τ).loc Cert.AttnDRefIdeal.main_arg0)
      ∧ r.2.mem ((c.tc : Thread Cert.AttnDRefIdeal.nD Cert.AttnDRefIdeal.τ).loc Cert.AttnDRefIdeal.main_arg1) = m ((c.tc : Thread Cert.AttnDRefIdeal.nD Cert.AttnDRefIdeal.τ).loc Cert.AttnDRefIdeal.main_arg1)
      ∧ r.2.mem ((c.tc : Thread Cert.AttnDRefIdeal.nD Cert.AttnDRefIdeal.τ).loc Cert.AttnDRefIdeal.main_arg2) = m ((c.tc : Thread Cert.AttnDRefIdeal.nD Cert.AttnDRefIdeal.τ).loc Cert.AttnDRefIdeal.main_arg2)
      ∧ r.2.mem ((c.tc : Thread Cert.AttnDRefIdeal.nD Cert.AttnDRefIdeal.τ).loc Cert.AttnDRefIdeal.main_arg3) = m ((c.tc : Thread Cert.AttnDRefIdeal.nD Cert.AttnDRefIdeal.τ).loc Cert.AttnDRefIdeal.main_arg3)
      ∧ r.2.mem ((c.tc : Thread Cert.AttnDRefIdeal.nD Cert.AttnDRefIdeal.τ).loc Cert.AttnDRefIdeal.main_arg4) = m ((c.tc : Thread Cert.AttnDRefIdeal.nD Cert.AttnDRefIdeal.τ).loc Cert.AttnDRefIdeal.main_arg4)
      ∧ r.2.mem ((c.tc : Thread Cert.AttnDRefIdeal.nD Cert.AttnDRefIdeal.τ).loc Cert.AttnDRefIdeal.main_arg5) = m ((c.tc : Thread Cert.AttnDRefIdeal.nD Cert.AttnDRefIdeal.τ).loc Cert.AttnDRefIdeal.main_arg5))
      ∧ r.2.sem = fun _ => 0)

def quiescent_AttnDRefIdeal_pre_finite [hAttnDRefIdeal : Cert.AttnDRefIdeal.Facts] [hPre_finite : Cert.Pre_finite.Facts] : Prop :=
  ∀ (m : (ℓ : Loc Cert.AttnDRefIdeal.nD Cert.AttnDRefIdeal.τ Cert.AttnDRefIdeal.sig) → Buf (Elt Ideal) ℓ) (g : Dev Cert.AttnDRefIdeal.nD → PrngReg), Pre_AttnDRefIdeal_finite m →
    θ_run (Cert.AttnDRefIdeal.defs (F := Ideal)) (onTc (τ := Cert.AttnDRefIdeal.τ) (Cert.AttnDRefIdeal.main (F := Ideal))) ⟨m, fun _ => 0, g⟩ (fun r => (∀ c : Dev Cert.AttnDRefIdeal.nD,
      r.2.mem ((c.tc : Thread Cert.AttnDRefIdeal.nD Cert.AttnDRefIdeal.τ).loc Cert.AttnDRefIdeal.main_arg0) = m ((c.tc : Thread Cert.AttnDRefIdeal.nD Cert.AttnDRefIdeal.τ).loc Cert.AttnDRefIdeal.main_arg0)
      ∧ r.2.mem ((c.tc : Thread Cert.AttnDRefIdeal.nD Cert.AttnDRefIdeal.τ).loc Cert.AttnDRefIdeal.main_arg1) = m ((c.tc : Thread Cert.AttnDRefIdeal.nD Cert.AttnDRefIdeal.τ).loc Cert.AttnDRefIdeal.main_arg1)
      ∧ r.2.mem ((c.tc : Thread Cert.AttnDRefIdeal.nD Cert.AttnDRefIdeal.τ).loc Cert.AttnDRefIdeal.main_arg2) = m ((c.tc : Thread Cert.AttnDRefIdeal.nD Cert.AttnDRefIdeal.τ).loc Cert.AttnDRefIdeal.main_arg2)
      ∧ r.2.mem ((c.tc : Thread Cert.AttnDRefIdeal.nD Cert.AttnDRefIdeal.τ).loc Cert.AttnDRefIdeal.main_arg3) = m ((c.tc : Thread Cert.AttnDRefIdeal.nD Cert.AttnDRefIdeal.τ).loc Cert.AttnDRefIdeal.main_arg3)
      ∧ r.2.mem ((c.tc : Thread Cert.AttnDRefIdeal.nD Cert.AttnDRefIdeal.τ).loc Cert.AttnDRefIdeal.main_arg4) = m ((c.tc : Thread Cert.AttnDRefIdeal.nD Cert.AttnDRefIdeal.τ).loc Cert.AttnDRefIdeal.main_arg4)
      ∧ r.2.mem ((c.tc : Thread Cert.AttnDRefIdeal.nD Cert.AttnDRefIdeal.τ).loc Cert.AttnDRefIdeal.main_arg5) = m ((c.tc : Thread Cert.AttnDRefIdeal.nD Cert.AttnDRefIdeal.τ).loc Cert.AttnDRefIdeal.main_arg5))
      ∧ r.2.sem = fun _ => 0)

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0)
      ∧ r.2.mem ((c.tc : Thread Cert.AttnC.nD Cert.AttnC.τ).loc Cert.AttnC.main_arg1) = m ((c.tc : Thread Cert.AttnC.nD Cert.AttnC.τ).loc Cert.AttnC.main_arg1)
      ∧ r.2.mem ((c.tc : Thread Cert.AttnC.nD Cert.AttnC.τ).loc Cert.AttnC.main_arg2) = m ((c.tc : Thread Cert.AttnC.nD Cert.AttnC.τ).loc Cert.AttnC.main_arg2)
      ∧ r.2.mem ((c.tc : Thread Cert.AttnC.nD Cert.AttnC.τ).loc Cert.AttnC.main_arg3) = m ((c.tc : Thread Cert.AttnC.nD Cert.AttnC.τ).loc Cert.AttnC.main_arg3)
      ∧ r.2.mem ((c.tc : Thread Cert.AttnC.nD Cert.AttnC.τ).loc Cert.AttnC.main_arg4) = m ((c.tc : Thread Cert.AttnC.nD Cert.AttnC.τ).loc Cert.AttnC.main_arg4)
      ∧ r.2.mem ((c.tc : Thread Cert.AttnC.nD Cert.AttnC.τ).loc Cert.AttnC.main_arg5) = m ((c.tc : Thread Cert.AttnC.nD Cert.AttnC.τ).loc Cert.AttnC.main_arg5))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2)
      ∧ r.2.mem ((c.tc : Thread Cert.AttnCIdeal.nD Cert.AttnCIdeal.τ).loc Cert.AttnCIdeal.main_arg3) = m ((c.tc : Thread Cert.AttnCIdeal.nD Cert.AttnCIdeal.τ).loc Cert.AttnCIdeal.main_arg3)
      ∧ r.2.mem ((c.tc : Thread Cert.AttnCIdeal.nD Cert.AttnCIdeal.τ).loc Cert.AttnCIdeal.main_arg4) = m ((c.tc : Thread Cert.AttnCIdeal.nD Cert.AttnCIdeal.τ).loc Cert.AttnCIdeal.main_arg4)
      ∧ r.2.mem ((c.tc : Thread Cert.AttnCIdeal.nD Cert.AttnCIdeal.τ).loc Cert.AttnCIdeal.main_arg5) = m ((c.tc : Thread Cert.AttnCIdeal.nD Cert.AttnCIdeal.τ).loc Cert.AttnCIdeal.main_arg5))
      ∧ r.2.sem = fun _ => 0)

def quiescent_AttnCIdeal_pre_finite [hAttnCIdeal : Cert.AttnCIdeal.Facts] [hPre_finite : Cert.Pre_finite.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal_finite m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2)
      ∧ r.2.mem ((c.tc : Thread Cert.AttnCIdeal.nD Cert.AttnCIdeal.τ).loc Cert.AttnCIdeal.main_arg3) = m ((c.tc : Thread Cert.AttnCIdeal.nD Cert.AttnCIdeal.τ).loc Cert.AttnCIdeal.main_arg3)
      ∧ r.2.mem ((c.tc : Thread Cert.AttnCIdeal.nD Cert.AttnCIdeal.τ).loc Cert.AttnCIdeal.main_arg4) = m ((c.tc : Thread Cert.AttnCIdeal.nD Cert.AttnCIdeal.τ).loc Cert.AttnCIdeal.main_arg4)
      ∧ r.2.mem ((c.tc : Thread Cert.AttnCIdeal.nD Cert.AttnCIdeal.τ).loc Cert.AttnCIdeal.main_arg5) = m ((c.tc : Thread Cert.AttnCIdeal.nD Cert.AttnCIdeal.τ).loc Cert.AttnCIdeal.main_arg5))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2)
      ∧ r.2.mem ((c.tc : Thread Cert.AttnCRefIdeal.nD Cert.AttnCRefIdeal.τ).loc Cert.AttnCRefIdeal.main_arg3) = m ((c.tc : Thread Cert.AttnCRefIdeal.nD Cert.AttnCRefIdeal.τ).loc Cert.AttnCRefIdeal.main_arg3)
      ∧ r.2.mem ((c.tc : Thread Cert.AttnCRefIdeal.nD Cert.AttnCRefIdeal.τ).loc Cert.AttnCRefIdeal.main_arg4) = m ((c.tc : Thread Cert.AttnCRefIdeal.nD Cert.AttnCRefIdeal.τ).loc Cert.AttnCRefIdeal.main_arg4)
      ∧ r.2.mem ((c.tc : Thread Cert.AttnCRefIdeal.nD Cert.AttnCRefIdeal.τ).loc Cert.AttnCRefIdeal.main_arg5) = m ((c.tc : Thread Cert.AttnCRefIdeal.nD Cert.AttnCRefIdeal.τ).loc Cert.AttnCRefIdeal.main_arg5))
      ∧ r.2.sem = fun _ => 0)

def quiescent_AttnCRefIdeal_pre_finite [hAttnCRefIdeal : Cert.AttnCRefIdeal.Facts] [hPre_finite : Cert.Pre_finite.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal_finite m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2)
      ∧ r.2.mem ((c.tc : Thread Cert.AttnCRefIdeal.nD Cert.AttnCRefIdeal.τ).loc Cert.AttnCRefIdeal.main_arg3) = m ((c.tc : Thread Cert.AttnCRefIdeal.nD Cert.AttnCRefIdeal.τ).loc Cert.AttnCRefIdeal.main_arg3)
      ∧ r.2.mem ((c.tc : Thread Cert.AttnCRefIdeal.nD Cert.AttnCRefIdeal.τ).loc Cert.AttnCRefIdeal.main_arg4) = m ((c.tc : Thread Cert.AttnCRefIdeal.nD Cert.AttnCRefIdeal.τ).loc Cert.AttnCRefIdeal.main_arg4)
      ∧ r.2.mem ((c.tc : Thread Cert.AttnCRefIdeal.nD Cert.AttnCRefIdeal.τ).loc Cert.AttnCRefIdeal.main_arg5) = m ((c.tc : Thread Cert.AttnCRefIdeal.nD Cert.AttnCRefIdeal.τ).loc Cert.AttnCRefIdeal.main_arg5))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2)
      ∧ r.2.mem ((c.tc : Thread Cert.AttnA.nD Cert.AttnA.τ).loc Cert.AttnA.main_arg3) = m ((c.tc : Thread Cert.AttnA.nD Cert.AttnA.τ).loc Cert.AttnA.main_arg3)
      ∧ r.2.mem ((c.tc : Thread Cert.AttnA.nD Cert.AttnA.τ).loc Cert.AttnA.main_arg4) = m ((c.tc : Thread Cert.AttnA.nD Cert.AttnA.τ).loc Cert.AttnA.main_arg4)
      ∧ r.2.mem ((c.tc : Thread Cert.AttnA.nD Cert.AttnA.τ).loc Cert.AttnA.main_arg5) = m ((c.tc : Thread Cert.AttnA.nD Cert.AttnA.τ).loc Cert.AttnA.main_arg5))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
      ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
      ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5))
      ∧ r.2.sem = fun _ => 0)

def quiescent_AttnAIdeal_pre_finite [hAttnAIdeal : Cert.AttnAIdeal.Facts] [hPre_finite : Cert.Pre_finite.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
      ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
      ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3)
      ∧ r.2.mem ((c.tc : Thread Cert.AttnARefIdeal.nD Cert.AttnARefIdeal.τ).loc Cert.AttnARefIdeal.main_arg4) = m ((c.tc : Thread Cert.AttnARefIdeal.nD Cert.AttnARefIdeal.τ).loc Cert.AttnARefIdeal.main_arg4)
      ∧ r.2.mem ((c.tc : Thread Cert.AttnARefIdeal.nD Cert.AttnARefIdeal.τ).loc Cert.AttnARefIdeal.main_arg5) = m ((c.tc : Thread Cert.AttnARefIdeal.nD Cert.AttnARefIdeal.τ).loc Cert.AttnARefIdeal.main_arg5))
      ∧ r.2.sem = fun _ => 0)

def quiescent_AttnARefIdeal_pre_finite [hAttnARefIdeal : Cert.AttnARefIdeal.Facts] [hPre_finite : Cert.Pre_finite.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3)
      ∧ r.2.mem ((c.tc : Thread Cert.AttnARefIdeal.nD Cert.AttnARefIdeal.τ).loc Cert.AttnARefIdeal.main_arg4) = m ((c.tc : Thread Cert.AttnARefIdeal.nD Cert.AttnARefIdeal.τ).loc Cert.AttnARefIdeal.main_arg4)
      ∧ r.2.mem ((c.tc : Thread Cert.AttnARefIdeal.nD Cert.AttnARefIdeal.τ).loc Cert.AttnARefIdeal.main_arg5) = m ((c.tc : Thread Cert.AttnARefIdeal.nD Cert.AttnARefIdeal.τ).loc Cert.AttnARefIdeal.main_arg5))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v38) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_v23) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_AttnB_AttnBIdeal : Prop :=
  IdealRules.named_const.Statement Cert.AttnBIdeal.κ "mask" .f32 0xF149F2CA#32 ⊥

def algebraic_AttnBIdeal_AttnBRefIdeal_pre_finite [hAttnBIdeal : Cert.AttnBIdeal.Facts] [hAttnBRefIdeal : Cert.AttnBRefIdeal.Facts] [hPre_finite : Cert.Pre_finite.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)
      ∧ m' ((c.tc : Thread Cert.AttnBRefIdeal.nD Cert.AttnBRefIdeal.τ).loc Cert.AttnBRefIdeal.main_arg2) = m ((c.tc : Thread Cert.AttnBIdeal.nD Cert.AttnBIdeal.τ).loc Cert.AttnBIdeal.main_arg2)
      ∧ m' ((c.tc : Thread Cert.AttnBRefIdeal.nD Cert.AttnBRefIdeal.τ).loc Cert.AttnBRefIdeal.main_arg3) = m ((c.tc : Thread Cert.AttnBIdeal.nD Cert.AttnBIdeal.τ).loc Cert.AttnBIdeal.main_arg3)
      ∧ m' ((c.tc : Thread Cert.AttnBRefIdeal.nD Cert.AttnBRefIdeal.τ).loc Cert.AttnBRefIdeal.main_arg4) = m ((c.tc : Thread Cert.AttnBIdeal.nD Cert.AttnBIdeal.τ).loc Cert.AttnBIdeal.main_arg4)
      ∧ m' ((c.tc : Thread Cert.AttnBRefIdeal.nD Cert.AttnBRefIdeal.τ).loc Cert.AttnBRefIdeal.main_arg5) = m ((c.tc : Thread Cert.AttnBIdeal.nD Cert.AttnBIdeal.τ).loc Cert.AttnBIdeal.main_arg5)) →
    ∃ (v0 : (c : Dev Cert.AttnBIdeal.nD) → Buf (Elt Ideal) ((c.tc : Thread Cert.AttnBIdeal.nD Cert.AttnBIdeal.τ).loc Cert.AttnBIdeal.main_v0)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v0) = v0 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
          ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
          ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v134) = v0 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3)
          ∧ r.2.mem ((c.tc : Thread Cert.AttnBRefIdeal.nD Cert.AttnBRefIdeal.τ).loc Cert.AttnBRefIdeal.main_arg4) = m' ((c.tc : Thread Cert.AttnBRefIdeal.nD Cert.AttnBRefIdeal.τ).loc Cert.AttnBRefIdeal.main_arg4)
          ∧ r.2.mem ((c.tc : Thread Cert.AttnBRefIdeal.nD Cert.AttnBRefIdeal.τ).loc Cert.AttnBRefIdeal.main_arg5) = m' ((c.tc : Thread Cert.AttnBRefIdeal.nD Cert.AttnBRefIdeal.τ).loc Cert.AttnBRefIdeal.main_arg5))

def preserves_AttnD_AttnDIdeal : Prop :=
  IdealRules.named_const.Statement Cert.AttnDIdeal.κ "mask" .f32 0xF149F2CA#32 ⊥

def algebraic_AttnDIdeal_AttnDRefIdeal_pre_finite [hAttnDIdeal : Cert.AttnDIdeal.Facts] [hAttnDRefIdeal : Cert.AttnDRefIdeal.Facts] [hPre_finite : Cert.Pre_finite.Facts] : Prop :=
  ∀ (m : (ℓ : Loc Cert.AttnDIdeal.nD Cert.AttnDIdeal.τ Cert.AttnDIdeal.sig) → Buf (Elt Ideal) ℓ) (g : Dev Cert.AttnDIdeal.nD → PrngReg)
    (m' : (ℓ : Loc Cert.AttnDRefIdeal.nD Cert.AttnDRefIdeal.τ Cert.AttnDRefIdeal.sig) → Buf (Elt Ideal) ℓ) (g' : Dev Cert.AttnDRefIdeal.nD → PrngReg), Pre_AttnDIdeal_finite m →
    (∀ c : Dev Cert.AttnDIdeal.nD,
      m' ((c.tc : Thread Cert.AttnDRefIdeal.nD Cert.AttnDRefIdeal.τ).loc Cert.AttnDRefIdeal.main_arg0) = m ((c.tc : Thread Cert.AttnDIdeal.nD Cert.AttnDIdeal.τ).loc Cert.AttnDIdeal.main_arg0)
      ∧ m' ((c.tc : Thread Cert.AttnDRefIdeal.nD Cert.AttnDRefIdeal.τ).loc Cert.AttnDRefIdeal.main_arg1) = m ((c.tc : Thread Cert.AttnDIdeal.nD Cert.AttnDIdeal.τ).loc Cert.AttnDIdeal.main_arg1)
      ∧ m' ((c.tc : Thread Cert.AttnDRefIdeal.nD Cert.AttnDRefIdeal.τ).loc Cert.AttnDRefIdeal.main_arg2) = m ((c.tc : Thread Cert.AttnDIdeal.nD Cert.AttnDIdeal.τ).loc Cert.AttnDIdeal.main_arg2)
      ∧ m' ((c.tc : Thread Cert.AttnDRefIdeal.nD Cert.AttnDRefIdeal.τ).loc Cert.AttnDRefIdeal.main_arg3) = m ((c.tc : Thread Cert.AttnDIdeal.nD Cert.AttnDIdeal.τ).loc Cert.AttnDIdeal.main_arg3)
      ∧ m' ((c.tc : Thread Cert.AttnDRefIdeal.nD Cert.AttnDRefIdeal.τ).loc Cert.AttnDRefIdeal.main_arg4) = m ((c.tc : Thread Cert.AttnDIdeal.nD Cert.AttnDIdeal.τ).loc Cert.AttnDIdeal.main_arg4)
      ∧ m' ((c.tc : Thread Cert.AttnDRefIdeal.nD Cert.AttnDRefIdeal.τ).loc Cert.AttnDRefIdeal.main_arg5) = m ((c.tc : Thread Cert.AttnDIdeal.nD Cert.AttnDIdeal.τ).loc Cert.AttnDIdeal.main_arg5)) →
    ∃ (v0 : (c : Dev Cert.AttnDIdeal.nD) → Buf (Elt Ideal) ((c.tc : Thread Cert.AttnDIdeal.nD Cert.AttnDIdeal.τ).loc Cert.AttnDIdeal.main_v0)),
      θ_run (Cert.AttnDIdeal.defs (F := Ideal)) (onTc (τ := Cert.AttnDIdeal.τ) (Cert.AttnDIdeal.main (F := Ideal))) ⟨m, fun _ => 0, g⟩ (fun r => ∀ c : Dev Cert.AttnDIdeal.nD,
          r.2.mem ((c.tc : Thread Cert.AttnDIdeal.nD Cert.AttnDIdeal.τ).loc Cert.AttnDIdeal.main_v0) = v0 c
          ∧ r.2.mem ((c.tc : Thread Cert.AttnDIdeal.nD Cert.AttnDIdeal.τ).loc Cert.AttnDIdeal.main_arg0) = m ((c.tc : Thread Cert.AttnDIdeal.nD Cert.AttnDIdeal.τ).loc Cert.AttnDIdeal.main_arg0)
          ∧ r.2.mem ((c.tc : Thread Cert.AttnDIdeal.nD Cert.AttnDIdeal.τ).loc Cert.AttnDIdeal.main_arg1) = m ((c.tc : Thread Cert.AttnDIdeal.nD Cert.AttnDIdeal.τ).loc Cert.AttnDIdeal.main_arg1)
          ∧ r.2.mem ((c.tc : Thread Cert.AttnDIdeal.nD Cert.AttnDIdeal.τ).loc Cert.AttnDIdeal.main_arg2) = m ((c.tc : Thread Cert.AttnDIdeal.nD Cert.AttnDIdeal.τ).loc Cert.AttnDIdeal.main_arg2)
          ∧ r.2.mem ((c.tc : Thread Cert.AttnDIdeal.nD Cert.AttnDIdeal.τ).loc Cert.AttnDIdeal.main_arg3) = m ((c.tc : Thread Cert.AttnDIdeal.nD Cert.AttnDIdeal.τ).loc Cert.AttnDIdeal.main_arg3)
          ∧ r.2.mem ((c.tc : Thread Cert.AttnDIdeal.nD Cert.AttnDIdeal.τ).loc Cert.AttnDIdeal.main_arg4) = m ((c.tc : Thread Cert.AttnDIdeal.nD Cert.AttnDIdeal.τ).loc Cert.AttnDIdeal.main_arg4)
          ∧ r.2.mem ((c.tc : Thread Cert.AttnDIdeal.nD Cert.AttnDIdeal.τ).loc Cert.AttnDIdeal.main_arg5) = m ((c.tc : Thread Cert.AttnDIdeal.nD Cert.AttnDIdeal.τ).loc Cert.AttnDIdeal.main_arg5))
      ∧ θ_run (Cert.AttnDRefIdeal.defs (F := Ideal)) (onTc (τ := Cert.AttnDRefIdeal.τ) (Cert.AttnDRefIdeal.main (F := Ideal))) ⟨m', fun _ => 0, g'⟩ (fun r => ∀ c : Dev Cert.AttnDRefIdeal.nD,
          r.2.mem ((c.tc : Thread Cert.AttnDRefIdeal.nD Cert.AttnDRefIdeal.τ).loc Cert.AttnDRefIdeal.main_v134) = v0 c
          ∧ r.2.mem ((c.tc : Thread Cert.AttnDRefIdeal.nD Cert.AttnDRefIdeal.τ).loc Cert.AttnDRefIdeal.main_arg0) = m' ((c.tc : Thread Cert.AttnDRefIdeal.nD Cert.AttnDRefIdeal.τ).loc Cert.AttnDRefIdeal.main_arg0)
          ∧ r.2.mem ((c.tc : Thread Cert.AttnDRefIdeal.nD Cert.AttnDRefIdeal.τ).loc Cert.AttnDRefIdeal.main_arg1) = m' ((c.tc : Thread Cert.AttnDRefIdeal.nD Cert.AttnDRefIdeal.τ).loc Cert.AttnDRefIdeal.main_arg1)
          ∧ r.2.mem ((c.tc : Thread Cert.AttnDRefIdeal.nD Cert.AttnDRefIdeal.τ).loc Cert.AttnDRefIdeal.main_arg2) = m' ((c.tc : Thread Cert.AttnDRefIdeal.nD Cert.AttnDRefIdeal.τ).loc Cert.AttnDRefIdeal.main_arg2)
          ∧ r.2.mem ((c.tc : Thread Cert.AttnDRefIdeal.nD Cert.AttnDRefIdeal.τ).loc Cert.AttnDRefIdeal.main_arg3) = m' ((c.tc : Thread Cert.AttnDRefIdeal.nD Cert.AttnDRefIdeal.τ).loc Cert.AttnDRefIdeal.main_arg3)
          ∧ r.2.mem ((c.tc : Thread Cert.AttnDRefIdeal.nD Cert.AttnDRefIdeal.τ).loc Cert.AttnDRefIdeal.main_arg4) = m' ((c.tc : Thread Cert.AttnDRefIdeal.nD Cert.AttnDRefIdeal.τ).loc Cert.AttnDRefIdeal.main_arg4)
          ∧ r.2.mem ((c.tc : Thread Cert.AttnDRefIdeal.nD Cert.AttnDRefIdeal.τ).loc Cert.AttnDRefIdeal.main_arg5) = m' ((c.tc : Thread Cert.AttnDRefIdeal.nD Cert.AttnDRefIdeal.τ).loc Cert.AttnDRefIdeal.main_arg5))

def preserves_AttnC_AttnCIdeal : Prop :=
  IdealRules.named_const.Statement Cert.AttnCIdeal.κ "mask" .f32 0xF149F2CA#32 ⊥

def algebraic_AttnCIdeal_AttnCRefIdeal_pre_finite [hAttnCIdeal : Cert.AttnCIdeal.Facts] [hAttnCRefIdeal : Cert.AttnCRefIdeal.Facts] [hPre_finite : Cert.Pre_finite.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal_finite m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)
      ∧ m' ((c.tc : Thread Cert.AttnCRefIdeal.nD Cert.AttnCRefIdeal.τ).loc Cert.AttnCRefIdeal.main_arg1) = m ((c.tc : Thread Cert.AttnCIdeal.nD Cert.AttnCIdeal.τ).loc Cert.AttnCIdeal.main_arg1)
      ∧ m' ((c.tc : Thread Cert.AttnCRefIdeal.nD Cert.AttnCRefIdeal.τ).loc Cert.AttnCRefIdeal.main_arg2) = m ((c.tc : Thread Cert.AttnCIdeal.nD Cert.AttnCIdeal.τ).loc Cert.AttnCIdeal.main_arg2)
      ∧ m' ((c.tc : Thread Cert.AttnCRefIdeal.nD Cert.AttnCRefIdeal.τ).loc Cert.AttnCRefIdeal.main_arg3) = m ((c.tc : Thread Cert.AttnCIdeal.nD Cert.AttnCIdeal.τ).loc Cert.AttnCIdeal.main_arg3)
      ∧ m' ((c.tc : Thread Cert.AttnCRefIdeal.nD Cert.AttnCRefIdeal.τ).loc Cert.AttnCRefIdeal.main_arg4) = m ((c.tc : Thread Cert.AttnCIdeal.nD Cert.AttnCIdeal.τ).loc Cert.AttnCIdeal.main_arg4)
      ∧ m' ((c.tc : Thread Cert.AttnCRefIdeal.nD Cert.AttnCRefIdeal.τ).loc Cert.AttnCRefIdeal.main_arg5) = m ((c.tc : Thread Cert.AttnCIdeal.nD Cert.AttnCIdeal.τ).loc Cert.AttnCIdeal.main_arg5)) →
    ∃ (v0 : (c : Dev Cert.AttnCIdeal.nD) → Buf (Elt Ideal) ((c.tc : Thread Cert.AttnCIdeal.nD Cert.AttnCIdeal.τ).loc Cert.AttnCIdeal.main_v0)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v0) = v0 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
          ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
          ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2)
          ∧ r.2.mem ((c.tc : Thread Cert.AttnCIdeal.nD Cert.AttnCIdeal.τ).loc Cert.AttnCIdeal.main_arg3) = m ((c.tc : Thread Cert.AttnCIdeal.nD Cert.AttnCIdeal.τ).loc Cert.AttnCIdeal.main_arg3)
          ∧ r.2.mem ((c.tc : Thread Cert.AttnCIdeal.nD Cert.AttnCIdeal.τ).loc Cert.AttnCIdeal.main_arg4) = m ((c.tc : Thread Cert.AttnCIdeal.nD Cert.AttnCIdeal.τ).loc Cert.AttnCIdeal.main_arg4)
          ∧ r.2.mem ((c.tc : Thread Cert.AttnCIdeal.nD Cert.AttnCIdeal.τ).loc Cert.AttnCIdeal.main_arg5) = m ((c.tc : Thread Cert.AttnCIdeal.nD Cert.AttnCIdeal.τ).loc Cert.AttnCIdeal.main_arg5))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v134) = v0 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0)
          ∧ r.2.mem ((c.tc : Thread Cert.AttnCRefIdeal.nD Cert.AttnCRefIdeal.τ).loc Cert.AttnCRefIdeal.main_arg1) = m' ((c.tc : Thread Cert.AttnCRefIdeal.nD Cert.AttnCRefIdeal.τ).loc Cert.AttnCRefIdeal.main_arg1)
          ∧ r.2.mem ((c.tc : Thread Cert.AttnCRefIdeal.nD Cert.AttnCRefIdeal.τ).loc Cert.AttnCRefIdeal.main_arg2) = m' ((c.tc : Thread Cert.AttnCRefIdeal.nD Cert.AttnCRefIdeal.τ).loc Cert.AttnCRefIdeal.main_arg2)
          ∧ r.2.mem ((c.tc : Thread Cert.AttnCRefIdeal.nD Cert.AttnCRefIdeal.τ).loc Cert.AttnCRefIdeal.main_arg3) = m' ((c.tc : Thread Cert.AttnCRefIdeal.nD Cert.AttnCRefIdeal.τ).loc Cert.AttnCRefIdeal.main_arg3)
          ∧ r.2.mem ((c.tc : Thread Cert.AttnCRefIdeal.nD Cert.AttnCRefIdeal.τ).loc Cert.AttnCRefIdeal.main_arg4) = m' ((c.tc : Thread Cert.AttnCRefIdeal.nD Cert.AttnCRefIdeal.τ).loc Cert.AttnCRefIdeal.main_arg4)
          ∧ r.2.mem ((c.tc : Thread Cert.AttnCRefIdeal.nD Cert.AttnCRefIdeal.τ).loc Cert.AttnCRefIdeal.main_arg5) = m' ((c.tc : Thread Cert.AttnCRefIdeal.nD Cert.AttnCRefIdeal.τ).loc Cert.AttnCRefIdeal.main_arg5))

def preserves_AttnA_AttnAIdeal : Prop :=
  IdealRules.named_const.Statement Cert.AttnAIdeal.κ "mask" .f32 0xF149F2CA#32 ⊥

def algebraic_AttnAIdeal_AttnARefIdeal_pre_finite [hAttnAIdeal : Cert.AttnAIdeal.Facts] [hAttnARefIdeal : Cert.AttnARefIdeal.Facts] [hPre_finite : Cert.Pre_finite.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)
      ∧ m' ((c.tc : Thread Cert.AttnARefIdeal.nD Cert.AttnARefIdeal.τ).loc Cert.AttnARefIdeal.main_arg3) = m ((c.tc : Thread Cert.AttnAIdeal.nD Cert.AttnAIdeal.τ).loc Cert.AttnAIdeal.main_arg3)
      ∧ m' ((c.tc : Thread Cert.AttnARefIdeal.nD Cert.AttnARefIdeal.τ).loc Cert.AttnARefIdeal.main_arg4) = m ((c.tc : Thread Cert.AttnAIdeal.nD Cert.AttnAIdeal.τ).loc Cert.AttnAIdeal.main_arg4)
      ∧ m' ((c.tc : Thread Cert.AttnARefIdeal.nD Cert.AttnARefIdeal.τ).loc Cert.AttnARefIdeal.main_arg5) = m ((c.tc : Thread Cert.AttnAIdeal.nD Cert.AttnAIdeal.τ).loc Cert.AttnAIdeal.main_arg5)) →
    ∃ (v0 : (c : Dev Cert.AttnAIdeal.nD) → Buf (Elt Ideal) ((c.tc : Thread Cert.AttnAIdeal.nD Cert.AttnAIdeal.τ).loc Cert.AttnAIdeal.main_v0)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v0) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
          ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
          ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
          ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v134) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2)
          ∧ r.2.mem ((c.tc : Thread Cert.AttnARefIdeal.nD Cert.AttnARefIdeal.τ).loc Cert.AttnARefIdeal.main_arg3) = m' ((c.tc : Thread Cert.AttnARefIdeal.nD Cert.AttnARefIdeal.τ).loc Cert.AttnARefIdeal.main_arg3)
          ∧ r.2.mem ((c.tc : Thread Cert.AttnARefIdeal.nD Cert.AttnARefIdeal.τ).loc Cert.AttnARefIdeal.main_arg4) = m' ((c.tc : Thread Cert.AttnARefIdeal.nD Cert.AttnARefIdeal.τ).loc Cert.AttnARefIdeal.main_arg4)
          ∧ r.2.mem ((c.tc : Thread Cert.AttnARefIdeal.nD Cert.AttnARefIdeal.τ).loc Cert.AttnARefIdeal.main_arg5) = m' ((c.tc : Thread Cert.AttnARefIdeal.nD Cert.AttnARefIdeal.τ).loc Cert.AttnARefIdeal.main_arg5))

def Claim : Prop :=
  ∃ (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hAttnB : Cert.AttnB.Facts) (hAttnBIdeal : Cert.AttnBIdeal.Facts) (hAttnBRefIdeal : Cert.AttnBRefIdeal.Facts) (hAttnD : Cert.AttnD.Facts) (hAttnDIdeal : Cert.AttnDIdeal.Facts) (hAttnDRefIdeal : Cert.AttnDRefIdeal.Facts) (hAttnC : Cert.AttnC.Facts) (hAttnCIdeal : Cert.AttnCIdeal.Facts) (hAttnCRefIdeal : Cert.AttnCRefIdeal.Facts) (hAttnA : Cert.AttnA.Facts) (hAttnAIdeal : Cert.AttnAIdeal.Facts) (hAttnARefIdeal : Cert.AttnARefIdeal.Facts) (hPre_finite : Cert.Pre_finite.Facts),
    quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_AttnB (hAttnB := hAttnB)
    ∧ quiescent_AttnBIdeal (hAttnBIdeal := hAttnBIdeal)
    ∧ quiescent_AttnBIdeal_pre_finite (hAttnBIdeal := hAttnBIdeal) (hPre_finite := hPre_finite)
    ∧ quiescent_AttnBRefIdeal (hAttnBRefIdeal := hAttnBRefIdeal)
    ∧ quiescent_AttnBRefIdeal_pre_finite (hAttnBRefIdeal := hAttnBRefIdeal) (hPre_finite := hPre_finite)
    ∧ quiescent_AttnD (hAttnD := hAttnD)
    ∧ quiescent_AttnDIdeal (hAttnDIdeal := hAttnDIdeal)
    ∧ quiescent_AttnDIdeal_pre_finite (hAttnDIdeal := hAttnDIdeal) (hPre_finite := hPre_finite)
    ∧ quiescent_AttnDRefIdeal (hAttnDRefIdeal := hAttnDRefIdeal)
    ∧ quiescent_AttnDRefIdeal_pre_finite (hAttnDRefIdeal := hAttnDRefIdeal) (hPre_finite := hPre_finite)
    ∧ quiescent_AttnC (hAttnC := hAttnC)
    ∧ quiescent_AttnCIdeal (hAttnCIdeal := hAttnCIdeal)
    ∧ quiescent_AttnCIdeal_pre_finite (hAttnCIdeal := hAttnCIdeal) (hPre_finite := hPre_finite)
    ∧ quiescent_AttnCRefIdeal (hAttnCRefIdeal := hAttnCRefIdeal)
    ∧ quiescent_AttnCRefIdeal_pre_finite (hAttnCRefIdeal := hAttnCRefIdeal) (hPre_finite := hPre_finite)
    ∧ quiescent_AttnA (hAttnA := hAttnA)
    ∧ quiescent_AttnAIdeal (hAttnAIdeal := hAttnAIdeal)
    ∧ quiescent_AttnAIdeal_pre_finite (hAttnAIdeal := hAttnAIdeal) (hPre_finite := hPre_finite)
    ∧ quiescent_AttnARefIdeal (hAttnARefIdeal := hAttnARefIdeal)
    ∧ quiescent_AttnARefIdeal_pre_finite (hAttnARefIdeal := hAttnARefIdeal) (hPre_finite := hPre_finite)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_AttnB_AttnBIdeal
    ∧ algebraic_AttnBIdeal_AttnBRefIdeal_pre_finite (hAttnBIdeal := hAttnBIdeal) (hAttnBRefIdeal := hAttnBRefIdeal) (hPre_finite := hPre_finite)
    ∧ preserves_AttnD_AttnDIdeal
    ∧ algebraic_AttnDIdeal_AttnDRefIdeal_pre_finite (hAttnDIdeal := hAttnDIdeal) (hAttnDRefIdeal := hAttnDRefIdeal) (hPre_finite := hPre_finite)
    ∧ preserves_AttnC_AttnCIdeal
    ∧ algebraic_AttnCIdeal_AttnCRefIdeal_pre_finite (hAttnCIdeal := hAttnCIdeal) (hAttnCRefIdeal := hAttnCRefIdeal) (hPre_finite := hPre_finite)
    ∧ preserves_AttnA_AttnAIdeal
    ∧ algebraic_AttnAIdeal_AttnARefIdeal_pre_finite (hAttnAIdeal := hAttnAIdeal) (hAttnARefIdeal := hAttnARefIdeal) (hPre_finite := hPre_finite)
-- ==== Pre_finite.lean ====
abbrev S2048x768 : Shape := ⟨2, ![2048, 768]⟩
abbrev S12x2048x3 : Shape := ⟨3, ![12, 2048, 3]⟩
abbrev S64x64 : Shape := ⟨2, ![64, 64]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S2048x768 .bf16) (main_arg1 : FVec F S2048x768 .bf16) (main_arg2 : FVec F S2048x768 .bf16) (main_arg3 : FVec F S12x2048x3 .f32) (main_arg4 : FVec F S64x64 .bf16) (main_arg5 : FVec F S64x64 .bf16) : IVec S_ 1 :=
  let main_v0 : FVec F S2048x768 .bf16 := Host.absf main_arg0
  let main_cst : FVec F S_ .bf16 := constant S_ .bf16 0x7F80#16
  let main_v1 : FVec F S2048x768 .bf16 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x768 .bf16 := Host.absf main_arg1
  let main_cst_0 : FVec F S_ .bf16 := constant S_ .bf16 0x7F80#16
  let main_v5 : FVec F S2048x768 .bf16 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S64x64 .bf16 := Host.absf main_arg4
  let main_cst_2 : FVec F S_ .bf16 := constant S_ .bf16 0x7F80#16
  let main_v10 : FVec F S64x64 .bf16 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Tail.lean ====
abbrev S2048x768 : Shape := ⟨2, ![2048, 768]⟩
abbrev S768x768 : Shape := ⟨2, ![768, 768]⟩
abbrev S1x768 : Shape := ⟨2, ![1, 768]⟩
abbrev S768x3072 : Shape := ⟨2, ![768, 3072]⟩
abbrev S1x3072 : Shape := ⟨2, ![1, 3072]⟩
abbrev S3072x768 : Shape := ⟨2, ![3072, 768]⟩
abbrev S512x768 : Shape := ⟨2, ![512, 768]⟩
abbrev S512 : Shape := ⟨1, ![512]⟩
abbrev S512x1 : Shape := ⟨2, ![512, 1]⟩
abbrev S512x3072 : Shape := ⟨2, ![512, 3072]⟩

abbrev nBuf : Space → Nat
  | .hbm => 10
  | .vmem => 16
  | .smem => 0
  | _ => 0

abbrev bufTy : (tb : Table) → Fin (tcTables nBuf tb) → BufTy
  | .hbm, ⟨0, _⟩ => ⟨S2048x768, .bf16⟩
  | .hbm, ⟨1, _⟩ => ⟨S2048x768, .f32⟩
  | .hbm, ⟨2, _⟩ => ⟨S768x768, .f32⟩
  | .hbm, ⟨3, _⟩ => ⟨S1x768, .f32⟩
  | .hbm, ⟨4, _⟩ => ⟨S1x768, .f32⟩
  | .hbm, ⟨5, _⟩ => ⟨S768x3072, .f32⟩
  | .hbm, ⟨6, _⟩ => ⟨S1x3072, .f32⟩
  | .hbm, ⟨7, _⟩ => ⟨S3072x768, .f32⟩
  | .hbm, ⟨8, _⟩ => ⟨S1x768, .f32⟩
  | .hbm, ⟨9, _⟩ => ⟨S2048x768, .f32⟩
  | .local _ .vmem, ⟨0, _⟩ => ⟨S512x768, .bf16⟩
  | .local _ .vmem, ⟨1, _⟩ => ⟨S512x768, .bf16⟩
  | .local _ .vmem, ⟨2, _⟩ => ⟨S512x768, .f32⟩
  | .local _ .vmem, ⟨3, _⟩ => ⟨S512x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S768x3072, .f32⟩
  | .local _ .vmem, ⟨8, _⟩ => ⟨S1x3072, .f32⟩
  | .local _ .vmem, ⟨9, _⟩ => ⟨S3072x768, .f32⟩
  | .local _ .vmem, ⟨10, _⟩ => ⟨S1x768, .f32⟩
  | .local _ .vmem, ⟨11, _⟩ => ⟨S512x768, .f32⟩
  | .local _ .vmem, ⟨12, _⟩ => ⟨S512x768, .f32⟩
  | .local _ .vmem, ⟨13, _⟩ => ⟨S768x768, .bf16⟩
  | .local _ .vmem, ⟨14, _⟩ => ⟨S768x3072, .bf16⟩
  | .local _ .vmem, ⟨15, _⟩ => ⟨S3072x768, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailRefIdeal.lean ====
abbrev S2048x768 : Shape := ⟨2, ![2048, 768]⟩
abbrev S768x768 : Shape := ⟨2, ![768, 768]⟩
abbrev S1x768 : Shape := ⟨2, ![1, 768]⟩
abbrev S768x3072 : Shape := ⟨2, ![768, 3072]⟩
abbrev S1x3072 : Shape := ⟨2, ![1, 3072]⟩
abbrev S3072x768 : Shape := ⟨2, ![3072, 768]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩

abbrev nBuf : Space → Nat
  | .hbm => 78
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x768, .f32⟩
  | .hbm, ⟨2, _⟩ => ⟨S768x768, .f32⟩
  | .hbm, ⟨3, _⟩ => ⟨S1x768, .f32⟩
  | .hbm, ⟨4, _⟩ => ⟨S1x768, .f32⟩
  | .hbm, ⟨5, _⟩ => ⟨S768x3072, .f32⟩
  | .hbm, ⟨6, _⟩ => ⟨S1x3072, .f32⟩
  | .hbm, ⟨7, _⟩ => ⟨S3072x768, .f32⟩
  | .hbm, ⟨8, _⟩ => ⟨S1x768, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .i32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x768, .f32⟩
  | .hbm, ⟨43, _⟩ => ⟨S2048x768, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048x768, .f32⟩
  | .hbm, ⟨49, _⟩ => ⟨S2048x768, .f32⟩
  | .hbm, ⟨50, _⟩ => ⟨S2048x768, .f32⟩
  | .hbm, ⟨51, _⟩ => ⟨S2048x768, .f32⟩
  | .hbm, ⟨52, _⟩ => ⟨S2048x768, .f32⟩
  | .hbm, ⟨53, _⟩ => ⟨S2048x768, .f32⟩
  | .hbm, ⟨54, _⟩ => ⟨S2048x3072, .f32⟩
  | .hbm, ⟨55, _⟩ => ⟨S2048x3072, .f32⟩
  | .hbm, ⟨56, _⟩ => ⟨S2048x3072, .f32⟩
  | .hbm, ⟨57, _⟩ => ⟨S2048x3072, .f32⟩
  | .hbm, ⟨58, _⟩ => ⟨S2048x3072, .f32⟩
  | .hbm, ⟨59, _⟩ => ⟨S_, .f32⟩
  | .hbm, ⟨60, _⟩ => ⟨S2048x3072, .f32⟩
  | .hbm, ⟨61, _⟩ => ⟨S2048x3072, .f32⟩
  | .hbm, ⟨62, _⟩ => ⟨S2048x3072, .f32⟩
  | .hbm, ⟨63, _⟩ => ⟨S_, .f32⟩
  | .hbm, ⟨64, _⟩ => ⟨S2048x3072, .f32⟩
  | .hbm, ⟨65, _⟩ => ⟨S2048x3072, .f32⟩
  | .hbm, ⟨66, _⟩ => ⟨S2048x3072, .f32⟩
  | .hbm, ⟨67, _⟩ => ⟨S_, .f32⟩
  | .hbm, ⟨68, _⟩ => ⟨S2048x3072, .f32⟩
  | .hbm, ⟨69, _⟩ => ⟨S2048x3072, .f32⟩
  | .hbm, ⟨70, _⟩ => ⟨S_, .f32⟩
  | .hbm, ⟨71, _⟩ => ⟨S2048x3072, .f32⟩
  | .hbm, ⟨72, _⟩ => ⟨S2048x3072, .f32⟩
  | .hbm, ⟨73, _⟩ => ⟨S2048x3072, .f32⟩
  | .hbm, ⟨74, _⟩ => ⟨S2048x768, .f32⟩
  | .hbm, ⟨75, _⟩ => ⟨S2048x768, .f32⟩
  | .hbm, ⟨76, _⟩ => ⟨S2048x768, .f32⟩
  | .hbm, ⟨77, _⟩ => ⟨S2048x768, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_1 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_3 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_4 : Ref sig .tc := ⟨.hbm, 67, rfl⟩
abbrev main_v30 : Ref sig .tc := ⟨.hbm, 68, rfl⟩
abbrev main_v31 : Ref sig .tc := ⟨.hbm, 69, rfl⟩
abbrev main_cst_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩

abbrev nD : Nat := 1
abbrev τ : Topo := Topo.v7x

variable {F : FTy → Type} [FloatOps F]
-- ==== Proj.lean ====
abbrev S2048x768 : Shape := ⟨2, ![2048, 768]⟩
abbrev S1x768 : Shape := ⟨2, ![1, 768]⟩
abbrev S768x768 : Shape := ⟨2, ![768, 768]⟩
abbrev S768x36 : Shape := ⟨2, ![768, 36]⟩
abbrev S2048x36 : Shape := ⟨2, ![2048, 36]⟩
abbrev S512x768 : Shape := ⟨2, ![512, 768]⟩
abbrev S512x36 : Shape := ⟨2, ![512, 36]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S1x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x36, .bf16⟩
  | .hbm, ⟨7, _⟩ => ⟨S2048x768, .bf16⟩
  | .hbm, ⟨8, _⟩ => ⟨S2048x768, .bf16⟩
  | .hbm, ⟨9, _⟩ => ⟨S2048x768, .bf16⟩
  | .hbm, ⟨10, _⟩ => ⟨S2048x36, .f32⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S1x768, .f32⟩
  | .local _ .vmem, ⟨4, _⟩ => ⟨S768x768, .f32⟩
  | .local _ .vmem, ⟨5, _⟩ => ⟨S768x768, .f32⟩
  | .local _ .vmem, ⟨6, _⟩ => ⟨S768x768, .f32⟩
  | .local _ .vmem, ⟨7, _⟩ => ⟨S768x36, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S512x36, .f32⟩
  | .local _ .vmem, ⟨15, _⟩ => ⟨S512x36, .f32⟩
  | .local _ .vmem, ⟨16, _⟩ => ⟨S768x768, .bf16⟩
  | .local _ .vmem, ⟨17, _⟩ => ⟨S768x768, .bf16⟩
  | .local _ .vmem, ⟨18, _⟩ => ⟨S768x768, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x36 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x36 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S2048x768 : Shape := ⟨2, ![2048, 768]⟩
abbrev S1x768 : Shape := ⟨2, ![1, 768]⟩
abbrev S768x768 : Shape := ⟨2, ![768, 768]⟩
abbrev S768x36 : Shape := ⟨2, ![768, 36]⟩
abbrev S_ : Shape := ⟨0, ![]⟩
abbrev S2048 : Shape := ⟨1, ![2048]⟩
abbrev S2048x1 : Shape := ⟨2, ![2048, 1]⟩
abbrev S2048x36 : Shape := ⟨2, ![2048, 36]⟩

abbrev nBuf : Space → Nat
  | .hbm => 57
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S1x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x36, .bf16⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .i32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x768, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x768, .f32⟩
  | .hbm, ⟨38, _⟩ => ⟨S2048x768, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x768, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S2048x768, .f32⟩
  | .hbm, ⟨48, _⟩ => ⟨S2048x768, .f32⟩
  | .hbm, ⟨49, _⟩ => ⟨S2048x768, .f32⟩
  | .hbm, ⟨50, _⟩ => ⟨S2048x768, .bf16⟩
  | .hbm, ⟨51, _⟩ => ⟨S2048x768, .f32⟩
  | .hbm, ⟨52, _⟩ => ⟨S2048x768, .bf16⟩
  | .hbm, ⟨53, _⟩ => ⟨S2048x768, .f32⟩
  | .hbm, ⟨54, _⟩ => ⟨S2048x768, .bf16⟩
  | .hbm, ⟨55, _⟩ => ⟨S768x36, .f32⟩
  | .hbm, ⟨56, _⟩ => ⟨S2048x36, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩

abbrev nD : Nat := 1
abbrev τ : Topo := Topo.v7x

variable {F : FTy → Type} [FloatOps F]
-- ==== AttnB.lean ====
abbrev S2048x768 : Shape := ⟨2, ![2048, 768]⟩
abbrev S12x2048x3 : Shape := ⟨3, ![12, 2048, 3]⟩
abbrev S64x64 : Shape := ⟨2, ![64, 64]⟩
abbrev S512x768 : Shape := ⟨2, ![512, 768]⟩
abbrev S512x384 : Shape := ⟨2, ![512, 384]⟩
abbrev S1024x384 : Shape := ⟨2, ![1024, 384]⟩
abbrev S6x512x3 : Shape := ⟨3, ![6, 512, 3]⟩
abbrev S32x1024 : Shape := ⟨2, ![32, 1024]⟩
abbrev S32x512 : Shape := ⟨2, ![32, 512]⟩
abbrev S1024x64 : Shape := ⟨2, ![1024, 64]⟩
abbrev S512x64 : Shape := ⟨2, ![512, 64]⟩
abbrev S512x1024 : Shape := ⟨2, ![512, 1024]⟩
abbrev S512 : Shape := ⟨1, ![512]⟩
abbrev S512x1 : Shape := ⟨2, ![512, 1]⟩
abbrev S32x64 : Shape := ⟨2, ![32, 64]⟩
abbrev S1x512 : Shape := ⟨2, ![1, 512]⟩
abbrev S1024x128 : Shape := ⟨2, ![1024, 128]⟩
abbrev S512x128 : Shape := ⟨2, ![512, 128]⟩
abbrev S768x64 : Shape := ⟨2, ![768, 64]⟩
abbrev S768x128 : Shape := ⟨2, ![768, 128]⟩
abbrev S1x512x3 : Shape := ⟨3, ![1, 512, 3]⟩
abbrev S512x3 : Shape := ⟨2, ![512, 3]⟩

abbrev nBuf : Space → Nat
  | .hbm => 7
  | .vmem => 12
  | .smem => 0
  | _ => 0

abbrev bufTy : (tb : Table) → Fin (tcTables nBuf tb) → BufTy
  | .hbm, ⟨0, _⟩ => ⟨S2048x768, .bf16⟩
  | .hbm, ⟨1, _⟩ => ⟨S2048x768, .bf16⟩
  | .hbm, ⟨2, _⟩ => ⟨S2048x768, .bf16⟩
  | .hbm, ⟨3, _⟩ => ⟨S12x2048x3, .f32⟩
  | .hbm, ⟨4, _⟩ => ⟨S64x64, .bf16⟩
  | .hbm, ⟨5, _⟩ => ⟨S64x64, .bf16⟩
  | .hbm, ⟨6, _⟩ => ⟨S512x768, .bf16⟩
  | .local _ .vmem, ⟨0, _⟩ => ⟨S512x384, .bf16⟩
  | .local _ .vmem, ⟨1, _⟩ => ⟨S512x384, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S6x512x3, .f32⟩
  | .local _ .vmem, ⟨7, _⟩ => ⟨S6x512x3, .f32⟩
  | .local _ .vmem, ⟨8, _⟩ => ⟨S64x64, .bf16⟩
  | .local _ .vmem, ⟨9, _⟩ => ⟨S64x64, .bf16⟩
  | .local _ .vmem, ⟨10, _⟩ => ⟨S512x384, .bf16⟩
  | .local _ .vmem, ⟨11, _⟩ => ⟨S512x384, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnBIdeal.lean ====
variable {F : FTy → Type} [FloatOps F] [Named F]
def κ : String → Option EReal := fun
  | "mask" => some ⊥
  | _ => none
-- ==== AttnBRefIdeal.lean ====
abbrev S2048x768 : Shape := ⟨2, ![2048, 768]⟩
abbrev S12x2048x3 : Shape := ⟨3, ![12, 2048, 3]⟩
abbrev S64x64 : Shape := ⟨2, ![64, 64]⟩
abbrev S2048x12x64 : Shape := ⟨3, ![2048, 12, 64]⟩
abbrev S12x2048x64 : Shape := ⟨3, ![12, 2048, 64]⟩
abbrev S2048 : Shape := ⟨1, ![2048]⟩
abbrev S12x64x32x64 : Shape := ⟨4, ![12, 64, 32, 64]⟩
abbrev S_ : Shape := ⟨0, ![]⟩
abbrev S12x64x64 : Shape := ⟨3, ![12, 64, 64]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x2048x64 : Shape := ⟨3, ![1, 2048, 64]⟩
abbrev S12x2048 : Shape := ⟨2, ![12, 2048]⟩
abbrev S12x2048x1 : Shape := ⟨3, ![12, 2048, 1]⟩
abbrev S1x2048x1 : Shape := ⟨3, ![1, 2048, 1]⟩
abbrev S12x2048x4 : Shape := ⟨3, ![12, 2048, 4]⟩
abbrev S12x2048x4x1 : Shape := ⟨4, ![12, 2048, 4, 1]⟩
abbrev S1x1x1x64 : Shape := ⟨4, ![1, 1, 1, 64]⟩
abbrev S12x2048x4x64 : Shape := ⟨4, ![12, 2048, 4, 64]⟩
abbrev S1x2048 : Shape := ⟨2, ![1, 2048]⟩
abbrev S2048x2048 : Shape := ⟨2, ![2048, 2048]⟩
abbrev S12x2048x64x32 : Shape := ⟨4, ![12, 2048, 64, 32]⟩
abbrev S12x2048x2048 : Shape := ⟨3, ![12, 2048, 2048]⟩
abbrev S1x2048x2048 : Shape := ⟨3, ![1, 2048, 2048]⟩
abbrev S512x768 : Shape := ⟨2, ![512, 768]⟩

abbrev nBuf : Space → Nat
  | .hbm => 190
  | .vmem => 0
  | .smem => 0
  | _ => 0

abbrev hbmTy0_0 (i : Nat) : BufTy := match i % 128 with
  | 0 => ⟨S2048x768, .bf16⟩
  | 1 => ⟨S2048x768, .bf16⟩
  | 2 => ⟨S2048x768, .bf16⟩
  | 3 => ⟨S12x2048x3, .f32⟩
  | 4 => ⟨S64x64, .bf16⟩
  | 5 => ⟨S64x64, .bf16⟩
  | 6 => ⟨S2048x768, .f32⟩
  | 7 => ⟨S2048x768, .f32⟩
  | 8 => ⟨S2048x768, .f32⟩
  | 9 => ⟨S64x64, .f32⟩
  | 10 => ⟨S64x64, .f32⟩
  | 11 => ⟨S2048x12x64, .f32⟩
  | 12 => ⟨S12x2048x64, .f32⟩
  | 13 => ⟨S2048x12x64, .f32⟩
  | 14 => ⟨S12x2048x64, .f32⟩
  | 15 => ⟨S2048x12x64, .f32⟩
  | 16 => ⟨S12x2048x64, .f32⟩
  | 17 => ⟨S2048, .i32⟩
  | 18 => ⟨S12x64x32x64, .f32⟩
  | 19 => ⟨S_, .f32⟩
  | 20 => ⟨S12x64x64, .f32⟩
  | 21 => ⟨S_, .f32⟩
  | 22 => ⟨S12x64x64, .f32⟩
  | 23 => ⟨S12x64x64, .f32⟩
  | 24 => ⟨S12x64x64, .f32⟩
  | 25 => ⟨S12x64x32x64, .f32⟩
  | 26 => ⟨S_, .f32⟩
  | 27 => ⟨S12x64x64, .f32⟩
  | 28 => ⟨S_, .f32⟩
  | 29 => ⟨S12x64x64, .f32⟩
  | 30 => ⟨S12x64x64, .f32⟩
  | 31 => ⟨S12x64x64, .f32⟩
  | 32 => ⟨S12x2048x64, .f32⟩
  | 33 => ⟨S_, .f32⟩
  | 34 => ⟨S12x2048x64, .f32⟩
  | 35 => ⟨S12x2048x64, .f32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S1x64, .i32⟩
  | 47 => ⟨S2048x1, .i32⟩
  | 48 => ⟨S2048x64, .i32⟩
  | 49 => ⟨S2048x64, .i32⟩
  | 50 => ⟨S2048x64, .i1⟩
  | 51 => ⟨S1x2048x64, .i1⟩
  | 52 => ⟨S_, .f32⟩
  | 53 => ⟨S_, .f32⟩
  | 54 => ⟨S12x2048x64, .i1⟩
  | 55 => ⟨S12x2048x64, .f32⟩
  | 56 => ⟨S12x2048x64, .f32⟩
  | 57 => ⟨S_, .f32⟩
  | 58 => ⟨S12x2048, .f32⟩
  | 59 => ⟨S_, .f32⟩
  | 60 => ⟨S12x2048, .f32⟩
  | 61 => ⟨S12x2048, .f32⟩
  | 62 => ⟨S12x2048x1, .f32⟩
  | 63 => ⟨S12x2048x64, .f32⟩
  | 64 => ⟨S12x2048x64, .f32⟩
  | 65 => ⟨S12x2048x64, .f32⟩
  | 66 => ⟨S_, .f32⟩
  | 67 => ⟨S12x2048, .f32⟩
  | 68 => ⟨S12x2048x1, .f32⟩
  | 69 => ⟨S12x2048x64, .f32⟩
  | 70 => ⟨S12x2048x64, .f32⟩
  | 71 => ⟨S_, .i1⟩
  | 72 => ⟨S2048, .i1⟩
  | 73 => ⟨S1x2048x1, .i1⟩
  | 74 => ⟨S_, .f32⟩
  | 75 => ⟨S_, .f32⟩
  | 76 => ⟨S12x2048x64, .i1⟩
  | 77 => ⟨S12x2048x64, .f32⟩
  | 78 => ⟨S12x2048x64, .f32⟩
  | 79 => ⟨S12x2048x64, .f32⟩
  | 80 => ⟨S1x2048x64, .i1⟩
  | 81 => ⟨S_, .f32⟩
  | 82 => ⟨S_, .f32⟩
  | 83 => ⟨S12x2048x64, .i1⟩
  | 84 => ⟨S12x2048x64, .f32⟩
  | 85 => ⟨S12x2048x64, .f32⟩
  | 86 => ⟨S12x2048x4, .f32⟩
  | 87 => ⟨S12x2048x4, .i32⟩
  | 88 => ⟨S12x2048x4x1, .i32⟩
  | 89 => ⟨S64, .i32⟩
  | 90 => ⟨S1x1x1x64, .i32⟩
  | 91 => ⟨S12x2048x4x64, .i32⟩
  | 92 => ⟨S12x2048x4x64, .i32⟩
  | 93 => ⟨S12x2048x4x64, .i1⟩
  | 94 => ⟨S_, .i1⟩
  | 95 => ⟨S12x2048x64, .i1⟩
  | 96 => ⟨S1x2048, .i32⟩
  | 97 => ⟨S2048x1, .i32⟩
  | 98 => ⟨S2048x2048, .i32⟩
  | 99 => ⟨S2048x2048, .i32⟩
  | 100 => ⟨S2048x2048, .i1⟩
  | 101 => ⟨S12x2048x64x32, .i1⟩
  | 102 => ⟨S12x2048x2048, .i1⟩
  | 103 => ⟨S1x2048x2048, .i1⟩
  | 104 => ⟨S12x2048x2048, .i1⟩
  | 105 => ⟨S12x2048x2048, .i1⟩
  | 106 => ⟨S12x2048x2048, .f32⟩
  | 107 => ⟨S_, .f32⟩
  | 108 => ⟨S12x2048x2048, .f32⟩
  | 109 => ⟨S12x2048x2048, .f32⟩
  | 110 => ⟨S_, .f32⟩
  | 111 => ⟨S_, .f32⟩
  | 112 => ⟨S12x2048x2048, .f32⟩
  | 113 => ⟨S12x2048x2048, .f32⟩
  | 114 => ⟨S_, .f32⟩
  | 115 => ⟨S12x2048, .f32⟩
  | 116 => ⟨S_, .f32⟩
  | 117 => ⟨S12x2048, .f32⟩
  | 118 => ⟨S12x2048, .f32⟩
  | 119 => ⟨S12x2048x1, .f32⟩
  | 120 => ⟨S12x2048x2048, .f32⟩
  | 121 => ⟨S12x2048x2048, .f32⟩
  | 122 => ⟨S12x2048x2048, .f32⟩
  | 123 => ⟨S_, .f32⟩
  | 124 => ⟨S12x2048, .f32⟩
  | 125 => ⟨S12x2048x1, .f32⟩
  | 126 => ⟨S12x2048x2048, .f32⟩
  | 127 => ⟨S12x2048x2048, .f32⟩
  | _ => ⟨S2048x768, .bf16⟩

abbrev hbmTy0_1 (i : Nat) : BufTy := match i % 128 with
  | 0 => ⟨S_, .i1⟩
  | 1 => ⟨S12x2048, .i1⟩
  | 2 => ⟨S12x2048x1, .i1⟩
  | 3 => ⟨S_, .f32⟩
  | 4 => ⟨S_, .f32⟩
  | 5 => ⟨S12x2048x2048, .i1⟩
  | 6 => ⟨S12x2048x2048, .f32⟩
  | 7 => ⟨S12x2048x2048, .f32⟩
  | 8 => ⟨S12x2048x64, .f32⟩
  | 9 => ⟨S1x2048, .i32⟩
  | 10 => ⟨S2048x1, .i32⟩
  | 11 => ⟨S_, .i32⟩
  | 12 => ⟨S2048x1, .i32⟩
  | 13 => ⟨S2048x1, .i32⟩
  | 14 => ⟨S2048x2048, .i32⟩
  | 15 => ⟨S2048x2048, .i32⟩
  | 16 => ⟨S2048x2048, .i1⟩
  | 17 => ⟨S2048x2048, .i1⟩
  | 18 => ⟨S1x2048x2048, .i1⟩
  | 19 => ⟨S_, .f32⟩
  | 20 => ⟨S_, .f32⟩
  | 21 => ⟨S12x2048x2048, .i1⟩
  | 22 => ⟨S12x2048x2048, .f32⟩
  | 23 => ⟨S12x2048x2048, .f32⟩
  | 24 => ⟨S_, .f32⟩
  | 25 => ⟨S12x2048, .f32⟩
  | 26 => ⟨S_, .f32⟩
  | 27 => ⟨S12x2048, .f32⟩
  | 28 => ⟨S12x2048, .f32⟩
  | 29 => ⟨S12x2048x1, .f32⟩
  | 30 => ⟨S12x2048x2048, .f32⟩
  | 31 => ⟨S12x2048x2048, .f32⟩
  | 32 => ⟨S12x2048x2048, .f32⟩
  | 33 => ⟨S_, .f32⟩
  | 34 => ⟨S12x2048, .f32⟩
  | 35 => ⟨S12x2048x1, .f32⟩
  | 36 => ⟨S12x2048x2048, .f32⟩
  | 37 => ⟨S12x2048x2048, .f32⟩
  | 38 => ⟨S12x2048x64, .f32⟩
  | 39 => ⟨S12x2048x3, .f32⟩
  | 40 => ⟨S12x2048x3, .f32⟩
  | 41 => ⟨S_, .f32⟩
  | 42 => ⟨S12x2048x3, .f32⟩
  | 43 => ⟨S12x2048x3, .f32⟩
  | 44 => ⟨S_, .f32⟩
  | 45 => ⟨S12x2048x3, .f32⟩
  | 46 => ⟨S12x2048x3, .f32⟩
  | 47 => ⟨S12x2048x1, .f32⟩
  | 48 => ⟨S12x2048x64, .f32⟩
  | 49 => ⟨S12x2048x64, .f32⟩
  | 50 => ⟨S12x2048x1, .f32⟩
  | 51 => ⟨S12x2048x64, .f32⟩
  | 52 => ⟨S12x2048x64, .f32⟩
  | 53 => ⟨S12x2048x64, .f32⟩
  | 54 => ⟨S12x2048x1, .f32⟩
  | 55 => ⟨S12x2048x64, .f32⟩
  | 56 => ⟨S12x2048x64, .f32⟩
  | 57 => ⟨S12x2048x64, .f32⟩
  | 58 => ⟨S2048x12x64, .f32⟩
  | 59 => ⟨S2048x768, .f32⟩
  | 60 => ⟨S2048x768, .bf16⟩
  | 61 => ⟨S512x768, .bf16⟩
  | _ => ⟨S2048x768, .bf16⟩

abbrev hbmTy (i : Nat) : BufTy := match i / 128 with
  | 0 => hbmTy0_0 i
  | 1 => hbmTy0_1 i
  | _ => ⟨S2048x768, .bf16⟩

abbrev bufTy : (tb : Table) → Fin (tcTables nBuf tb) → BufTy
  | .hbm, ⟨i, _⟩ => hbmTy i
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v55 : Ref sig .tc := ⟨.hbm, 85, rfl⟩
abbrev main_values : Ref sig .tc := ⟨.hbm, 86, rfl⟩
abbrev main_indices : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_call3_v0 : Ref sig .tc := ⟨.hbm, 111, rfl⟩
abbrev main_call3_v1 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_cst_17 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_22 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_cst_24 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_25 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_26 : Ref sig .tc := ⟨.hbm, 169, rfl⟩
abbrev main_v116 : Ref sig .tc := ⟨.hbm, 170, rfl⟩
abbrev main_v117 : Ref sig .tc := ⟨.hbm, 171, rfl⟩
abbrev main_cst_27 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩

abbrev nD : Nat := 1
abbrev τ : Topo := Topo.v7x

variable {F : FTy → Type} [FloatOps F]
-- ==== AttnD.lean ====
abbrev S2048x768 : Shape := ⟨2, ![2048, 768]⟩
abbrev S12x2048x3 : Shape := ⟨3, ![12, 2048, 3]⟩
abbrev S64x64 : Shape := ⟨2, ![64, 64]⟩
abbrev S512x768 : Shape := ⟨2, ![512, 768]⟩
abbrev S512x384 : Shape := ⟨2, ![512, 384]⟩
abbrev S2048x384 : Shape := ⟨2, ![2048, 384]⟩
abbrev S6x512x3 : Shape := ⟨3, ![6, 512, 3]⟩
abbrev S64x2048 : Shape := ⟨2, ![64, 2048]⟩
abbrev S64x512 : Shape := ⟨2, ![64, 512]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S2048x128 : Shape := ⟨2, ![2048, 128]⟩
abbrev S512x128 : Shape := ⟨2, ![512, 128]⟩
abbrev S768x64 : Shape := ⟨2, ![768, 64]⟩
abbrev S768x128 : Shape := ⟨2, ![768, 128]⟩
abbrev S1x512x3 : Shape := ⟨3, ![1, 512, 3]⟩
abbrev S512x3 : Shape := ⟨2, ![512, 3]⟩

abbrev nBuf : Space → Nat
  | .hbm => 7
  | .vmem => 12
  | .smem => 0
  | _ => 0

abbrev bufTy : (tb : Table) → Fin (tcTables nBuf tb) → BufTy
  | .hbm, ⟨0, _⟩ => ⟨S2048x768, .bf16⟩
  | .hbm, ⟨1, _⟩ => ⟨S2048x768, .bf16⟩
  | .hbm, ⟨2, _⟩ => ⟨S2048x768, .bf16⟩
  | .hbm, ⟨3, _⟩ => ⟨S12x2048x3, .f32⟩
  | .hbm, ⟨4, _⟩ => ⟨S64x64, .bf16⟩
  | .hbm, ⟨5, _⟩ => ⟨S64x64, .bf16⟩
  | .hbm, ⟨6, _⟩ => ⟨S512x768, .bf16⟩
  | .local _ .vmem, ⟨0, _⟩ => ⟨S512x384, .bf16⟩
  | .local _ .vmem, ⟨1, _⟩ => ⟨S512x384, .bf16⟩
  | .local _ .vmem, ⟨2, _⟩ => ⟨S2048x384, .bf16⟩
  | .local _ .vmem, ⟨3, _⟩ => ⟨S2048x384, .bf16⟩
  | .local _ .vmem, ⟨4, _⟩ => ⟨S2048x384, .bf16⟩
  | .local _ .vmem, ⟨5, _⟩ => ⟨S2048x384, .bf16⟩
  | .local _ .vmem, ⟨6, _⟩ => ⟨S6x512x3, .f32⟩
  | .local _ .vmem, ⟨7, _⟩ => ⟨S6x512x3, .f32⟩
  | .local _ .vmem, ⟨8, _⟩ => ⟨S64x64, .bf16⟩
  | .local _ .vmem, ⟨9, _⟩ => ⟨S64x64, .bf16⟩
  | .local _ .vmem, ⟨10, _⟩ => ⟨S512x384, .bf16⟩
  | .local _ .vmem, ⟨11, _⟩ => ⟨S512x384, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnDIdeal.lean ====
variable {F : FTy → Type} [FloatOps F] [Named F]
def κ : String → Option EReal := fun
  | "mask" => some ⊥
  | _ => none
-- ==== AttnDRefIdeal.lean ====
abbrev S2048x768 : Shape := ⟨2, ![2048, 768]⟩
abbrev S12x2048x3 : Shape := ⟨3, ![12, 2048, 3]⟩
abbrev S64x64 : Shape := ⟨2, ![64, 64]⟩
abbrev S2048x12x64 : Shape := ⟨3, ![2048, 12, 64]⟩
abbrev S12x2048x64 : Shape := ⟨3, ![12, 2048, 64]⟩
abbrev S2048 : Shape := ⟨1, ![2048]⟩
abbrev S12x64x32x64 : Shape := ⟨4, ![12, 64, 32, 64]⟩
abbrev S_ : Shape := ⟨0, ![]⟩
abbrev S12x64x64 : Shape := ⟨3, ![12, 64, 64]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x2048x64 : Shape := ⟨3, ![1, 2048, 64]⟩
abbrev S12x2048 : Shape := ⟨2, ![12, 2048]⟩
abbrev S12x2048x1 : Shape := ⟨3, ![12, 2048, 1]⟩
abbrev S1x2048x1 : Shape := ⟨3, ![1, 2048, 1]⟩
abbrev S12x2048x4 : Shape := ⟨3, ![12, 2048, 4]⟩
abbrev S12x2048x4x1 : Shape := ⟨4, ![12, 2048, 4, 1]⟩
abbrev S1x1x1x64 : Shape := ⟨4, ![1, 1, 1, 64]⟩
abbrev S12x2048x4x64 : Shape := ⟨4, ![12, 2048, 4, 64]⟩
abbrev S1x2048 : Shape := ⟨2, ![1, 2048]⟩
abbrev S2048x2048 : Shape := ⟨2, ![2048, 2048]⟩
abbrev S12x2048x64x32 : Shape := ⟨4, ![12, 2048, 64, 32]⟩
abbrev S12x2048x2048 : Shape := ⟨3, ![12, 2048, 2048]⟩
abbrev S1x2048x2048 : Shape := ⟨3, ![1, 2048, 2048]⟩
abbrev S512x768 : Shape := ⟨2, ![512, 768]⟩

abbrev nBuf : Space → Nat
  | .hbm => 190
  | .vmem => 0
  | .smem => 0
  | _ => 0

abbrev hbmTy0_0 (i : Nat) : BufTy := match i % 128 with
  | 0 => ⟨S2048x768, .bf16⟩
  | 1 => ⟨S2048x768, .bf16⟩
  | 2 => ⟨S2048x768, .bf16⟩
  | 3 => ⟨S12x2048x3, .f32⟩
  | 4 => ⟨S64x64, .bf16⟩
  | 5 => ⟨S64x64, .bf16⟩
  | 6 => ⟨S2048x768, .f32⟩
  | 7 => ⟨S2048x768, .f32⟩
  | 8 => ⟨S2048x768, .f32⟩
  | 9 => ⟨S64x64, .f32⟩
  | 10 => ⟨S64x64, .f32⟩
  | 11 => ⟨S2048x12x64, .f32⟩
  | 12 => ⟨S12x2048x64, .f32⟩
  | 13 => ⟨S2048x12x64, .f32⟩
  | 14 => ⟨S12x2048x64, .f32⟩
  | 15 => ⟨S2048x12x64, .f32⟩
  | 16 => ⟨S12x2048x64, .f32⟩
  | 17 => ⟨S2048, .i32⟩
  | 18 => ⟨S12x64x32x64, .f32⟩
  | 19 => ⟨S_, .f32⟩
  | 20 => ⟨S12x64x64, .f32⟩
  | 21 => ⟨S_, .f32⟩
  | 22 => ⟨S12x64x64, .f32⟩
  | 23 => ⟨S12x64x64, .f32⟩
  | 24 => ⟨S12x64x64, .f32⟩
  | 25 => ⟨S12x64x32x64, .f32⟩
  | 26 => ⟨S_, .f32⟩
  | 27 => ⟨S12x64x64, .f32⟩
  | 28 => ⟨S_, .f32⟩
  | 29 => ⟨S12x64x64, .f32⟩
  | 30 => ⟨S12x64x64, .f32⟩
  | 31 => ⟨S12x64x64, .f32⟩
  | 32 => ⟨S12x2048x64, .f32⟩
  | 33 => ⟨S_, .f32⟩
  | 34 => ⟨S12x2048x64, .f32⟩
  | 35 => ⟨S12x2048x64, .f32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S1x64, .i32⟩
  | 47 => ⟨S2048x1, .i32⟩
  | 48 => ⟨S2048x64, .i32⟩
  | 49 => ⟨S2048x64, .i32⟩
  | 50 => ⟨S2048x64, .i1⟩
  | 51 => ⟨S1x2048x64, .i1⟩
  | 52 => ⟨S_, .f32⟩
  | 53 => ⟨S_, .f32⟩
  | 54 => ⟨S12x2048x64, .i1⟩
  | 55 => ⟨S12x2048x64, .f32⟩
  | 56 => ⟨S12x2048x64, .f32⟩
  | 57 => ⟨S_, .f32⟩
  | 58 => ⟨S12x2048, .f32⟩
  | 59 => ⟨S_, .f32⟩
  | 60 => ⟨S12x2048, .f32⟩
  | 61 => ⟨S12x2048, .f32⟩
  | 62 => ⟨S12x2048x1, .f32⟩
  | 63 => ⟨S12x2048x64, .f32⟩
  | 64 => ⟨S12x2048x64, .f32⟩
  | 65 => ⟨S12x2048x64, .f32⟩
  | 66 => ⟨S_, .f32⟩
  | 67 => ⟨S12x2048, .f32⟩
  | 68 => ⟨S12x2048x1, .f32⟩
  | 69 => ⟨S12x2048x64, .f32⟩
  | 70 => ⟨S12x2048x64, .f32⟩
  | 71 => ⟨S_, .i1⟩
  | 72 => ⟨S2048, .i1⟩
  | 73 => ⟨S1x2048x1, .i1⟩
  | 74 => ⟨S_, .f32⟩
  | 75 => ⟨S_, .f32⟩
  | 76 => ⟨S12x2048x64, .i1⟩
  | 77 => ⟨S12x2048x64, .f32⟩
  | 78 => ⟨S12x2048x64, .f32⟩
  | 79 => ⟨S12x2048x64, .f32⟩
  | 80 => ⟨S1x2048x64, .i1⟩
  | 81 => ⟨S_, .f32⟩
  | 82 => ⟨S_, .f32⟩
  | 83 => ⟨S12x2048x64, .i1⟩
  | 84 => ⟨S12x2048x64, .f32⟩
  | 85 => ⟨S12x2048x64, .f32⟩
  | 86 => ⟨S12x2048x4, .f32⟩
  | 87 => ⟨S12x2048x4, .i32⟩
  | 88 => ⟨S12x2048x4x1, .i32⟩
  | 89 => ⟨S64, .i32⟩
  | 90 => ⟨S1x1x1x64, .i32⟩
  | 91 => ⟨S12x2048x4x64, .i32⟩
  | 92 => ⟨S12x2048x4x64, .i32⟩
  | 93 => ⟨S12x2048x4x64, .i1⟩
  | 94 => ⟨S_, .i1⟩
  | 95 => ⟨S12x2048x64, .i1⟩
  | 96 => ⟨S1x2048, .i32⟩
  | 97 => ⟨S2048x1, .i32⟩
  | 98 => ⟨S2048x2048, .i32⟩
  | 99 => ⟨S2048x2048, .i32⟩
  | 100 => ⟨S2048x2048, .i1⟩
  | 101 => ⟨S12x2048x64x32, .i1⟩
  | 102 => ⟨S12x2048x2048, .i1⟩
  | 103 => ⟨S1x2048x2048, .i1⟩
  | 104 => ⟨S12x2048x2048, .i1⟩
  | 105 => ⟨S12x2048x2048, .i1⟩
  | 106 => ⟨S12x2048x2048, .f32⟩
  | 107 => ⟨S_, .f32⟩
  | 108 => ⟨S12x2048x2048, .f32⟩
  | 109 => ⟨S12x2048x2048, .f32⟩
  | 110 => ⟨S_, .f32⟩
  | 111 => ⟨S_, .f32⟩
  | 112 => ⟨S12x2048x2048, .f32⟩
  | 113 => ⟨S12x2048x2048, .f32⟩
  | 114 => ⟨S_, .f32⟩
  | 115 => ⟨S12x2048, .f32⟩
  | 116 => ⟨S_, .f32⟩
  | 117 => ⟨S12x2048, .f32⟩
  | 118 => ⟨S12x2048, .f32⟩
  | 119 => ⟨S12x2048x1, .f32⟩
  | 120 => ⟨S12x2048x2048, .f32⟩
  | 121 => ⟨S12x2048x2048, .f32⟩
  | 122 => ⟨S12x2048x2048, .f32⟩
  | 123 => ⟨S_, .f32⟩
  | 124 => ⟨S12x2048, .f32⟩
  | 125 => ⟨S12x2048x1, .f32⟩
  | 126 => ⟨S12x2048x2048, .f32⟩
  | 127 => ⟨S12x2048x2048, .f32⟩
  | _ => ⟨S2048x768, .bf16⟩

abbrev hbmTy0_1 (i : Nat) : BufTy := match i % 128 with
  | 0 => ⟨S_, .i1⟩
  | 1 => ⟨S12x2048, .i1⟩
  | 2 => ⟨S12x2048x1, .i1⟩
  | 3 => ⟨S_, .f32⟩
  | 4 => ⟨S_, .f32⟩
  | 5 => ⟨S12x2048x2048, .i1⟩
  | 6 => ⟨S12x2048x2048, .f32⟩
  | 7 => ⟨S12x2048x2048, .f32⟩
  | 8 => ⟨S12x2048x64, .f32⟩
  | 9 => ⟨S1x2048, .i32⟩
  | 10 => ⟨S2048x1, .i32⟩
  | 11 => ⟨S_, .i32⟩
  | 12 => ⟨S2048x1, .i32⟩
  | 13 => ⟨S2048x1, .i32⟩
  | 14 => ⟨S2048x2048, .i32⟩
  | 15 => ⟨S2048x2048, .i32⟩
  | 16 => ⟨S2048x2048, .i1⟩
  | 17 => ⟨S2048x2048, .i1⟩
  | 18 => ⟨S1x2048x2048, .i1⟩
  | 19 => ⟨S_, .f32⟩
  | 20 => ⟨S_, .f32⟩
  | 21 => ⟨S12x2048x2048, .i1⟩
  | 22 => ⟨S12x2048x2048, .f32⟩
  | 23 => ⟨S12x2048x2048, .f32⟩
  | 24 => ⟨S_, .f32⟩
  | 25 => ⟨S12x2048, .f32⟩
  | 26 => ⟨S_, .f32⟩
  | 27 => ⟨S12x2048, .f32⟩
  | 28 => ⟨S12x2048, .f32⟩
  | 29 => ⟨S12x2048x1, .f32⟩
  | 30 => ⟨S12x2048x2048, .f32⟩
  | 31 => ⟨S12x2048x2048, .f32⟩
  | 32 => ⟨S12x2048x2048, .f32⟩
  | 33 => ⟨S_, .f32⟩
  | 34 => ⟨S12x2048, .f32⟩
  | 35 => ⟨S12x2048x1, .f32⟩
  | 36 => ⟨S12x2048x2048, .f32⟩
  | 37 => ⟨S12x2048x2048, .f32⟩
  | 38 => ⟨S12x2048x64, .f32⟩
  | 39 => ⟨S12x2048x3, .f32⟩
  | 40 => ⟨S12x2048x3, .f32⟩
  | 41 => ⟨S_, .f32⟩
  | 42 => ⟨S12x2048x3, .f32⟩
  | 43 => ⟨S12x2048x3, .f32⟩
  | 44 => ⟨S_, .f32⟩
  | 45 => ⟨S12x2048x3, .f32⟩
  | 46 => ⟨S12x2048x3, .f32⟩
  | 47 => ⟨S12x2048x1, .f32⟩
  | 48 => ⟨S12x2048x64, .f32⟩
  | 49 => ⟨S12x2048x64, .f32⟩
  | 50 => ⟨S12x2048x1, .f32⟩
  | 51 => ⟨S12x2048x64, .f32⟩
  | 52 => ⟨S12x2048x64, .f32⟩
  | 53 => ⟨S12x2048x64, .f32⟩
  | 54 => ⟨S12x2048x1, .f32⟩
  | 55 => ⟨S12x2048x64, .f32⟩
  | 56 => ⟨S12x2048x64, .f32⟩
  | 57 => ⟨S12x2048x64, .f32⟩
  | 58 => ⟨S2048x12x64, .f32⟩
  | 59 => ⟨S2048x768, .f32⟩
  | 60 => ⟨S2048x768, .bf16⟩
  | 61 => ⟨S512x768, .bf16⟩
  | _ => ⟨S2048x768, .bf16⟩

abbrev hbmTy (i : Nat) : BufTy := match i / 128 with
  | 0 => hbmTy0_0 i
  | 1 => hbmTy0_1 i
  | _ => ⟨S2048x768, .bf16⟩

abbrev bufTy : (tb : Table) → Fin (tcTables nBuf tb) → BufTy
  | .hbm, ⟨i, _⟩ => hbmTy i
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v55 : Ref sig .tc := ⟨.hbm, 85, rfl⟩
abbrev main_values : Ref sig .tc := ⟨.hbm, 86, rfl⟩
abbrev main_indices : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_call3_v0 : Ref sig .tc := ⟨.hbm, 111, rfl⟩
abbrev main_call3_v1 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_cst_17 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_22 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_cst_24 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_25 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_26 : Ref sig .tc := ⟨.hbm, 169, rfl⟩
abbrev main_v116 : Ref sig .tc := ⟨.hbm, 170, rfl⟩
abbrev main_v117 : Ref sig .tc := ⟨.hbm, 171, rfl⟩
abbrev main_cst_27 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩

abbrev nD : Nat := 1
abbrev τ : Topo := Topo.v7x

variable {F : FTy → Type} [FloatOps F]
-- ==== AttnC.lean ====
abbrev S2048x768 : Shape := ⟨2, ![2048, 768]⟩
abbrev S12x2048x3 : Shape := ⟨3, ![12, 2048, 3]⟩
abbrev S64x64 : Shape := ⟨2, ![64, 64]⟩
abbrev S512x768 : Shape := ⟨2, ![512, 768]⟩
abbrev S512x384 : Shape := ⟨2, ![512, 384]⟩
abbrev S1536x384 : Shape := ⟨2, ![1536, 384]⟩
abbrev S6x512x3 : Shape := ⟨3, ![6, 512, 3]⟩
abbrev S48x1536 : Shape := ⟨2, ![48, 1536]⟩
abbrev S48x512 : Shape := ⟨2, ![48, 512]⟩
abbrev S1536x64 : Shape := ⟨2, ![1536, 64]⟩
abbrev S512x64 : Shape := ⟨2, ![512, 64]⟩
abbrev S512x1536 : Shape := ⟨2, ![512, 1536]⟩
abbrev S512 : Shape := ⟨1, ![512]⟩
abbrev S512x1 : Shape := ⟨2, ![512, 1]⟩
abbrev S48x64 : Shape := ⟨2, ![48, 64]⟩
abbrev S1x512 : Shape := ⟨2, ![1, 512]⟩
abbrev S1536x128 : Shape := ⟨2, ![1536, 128]⟩
abbrev S512x128 : Shape := ⟨2, ![512, 128]⟩
abbrev S768x64 : Shape := ⟨2, ![768, 64]⟩
abbrev S768x128 : Shape := ⟨2, ![768, 128]⟩
abbrev S1x512x3 : Shape := ⟨3, ![1, 512, 3]⟩
abbrev S512x3 : Shape := ⟨2, ![512, 3]⟩

abbrev nBuf : Space → Nat
  | .hbm => 7
  | .vmem => 12
  | .smem => 0
  | _ => 0

abbrev bufTy : (tb : Table) → Fin (tcTables nBuf tb) → BufTy
  | .hbm, ⟨0, _⟩ => ⟨S2048x768, .bf16⟩
  | .hbm, ⟨1, _⟩ => ⟨S2048x768, .bf16⟩
  | .hbm, ⟨2, _⟩ => ⟨S2048x768, .bf16⟩
  | .hbm, ⟨3, _⟩ => ⟨S12x2048x3, .f32⟩
  | .hbm, ⟨4, _⟩ => ⟨S64x64, .bf16⟩
  | .hbm, ⟨5, _⟩ => ⟨S64x64, .bf16⟩
  | .hbm, ⟨6, _⟩ => ⟨S512x768, .bf16⟩
  | .local _ .vmem, ⟨0, _⟩ => ⟨S512x384, .bf16⟩
  | .local _ .vmem, ⟨1, _⟩ => ⟨S512x384, .bf16⟩
  | .local _ .vmem, ⟨2, _⟩ => ⟨S1536x384, .bf16⟩
  | .local _ .vmem, ⟨3, _⟩ => ⟨S1536x384, .bf16⟩
  | .local _ .vmem, ⟨4, _⟩ => ⟨S1536x384, .bf16⟩
  | .local _ .vmem, ⟨5, _⟩ => ⟨S1536x384, .bf16⟩
  | .local _ .vmem, ⟨6, _⟩ => ⟨S6x512x3, .f32⟩
  | .local _ .vmem, ⟨7, _⟩ => ⟨S6x512x3, .f32⟩
  | .local _ .vmem, ⟨8, _⟩ => ⟨S64x64, .bf16⟩
  | .local _ .vmem, ⟨9, _⟩ => ⟨S64x64, .bf16⟩
  | .local _ .vmem, ⟨10, _⟩ => ⟨S512x384, .bf16⟩
  | .local _ .vmem, ⟨11, _⟩ => ⟨S512x384, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnCIdeal.lean ====
variable {F : FTy → Type} [FloatOps F] [Named F]
def κ : String → Option EReal := fun
  | "mask" => some ⊥
  | _ => none
-- ==== AttnCRefIdeal.lean ====
abbrev S2048x768 : Shape := ⟨2, ![2048, 768]⟩
abbrev S12x2048x3 : Shape := ⟨3, ![12, 2048, 3]⟩
abbrev S64x64 : Shape := ⟨2, ![64, 64]⟩
abbrev S2048x12x64 : Shape := ⟨3, ![2048, 12, 64]⟩
abbrev S12x2048x64 : Shape := ⟨3, ![12, 2048, 64]⟩
abbrev S2048 : Shape := ⟨1, ![2048]⟩
abbrev S12x64x32x64 : Shape := ⟨4, ![12, 64, 32, 64]⟩
abbrev S_ : Shape := ⟨0, ![]⟩
abbrev S12x64x64 : Shape := ⟨3, ![12, 64, 64]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x2048x64 : Shape := ⟨3, ![1, 2048, 64]⟩
abbrev S12x2048 : Shape := ⟨2, ![12, 2048]⟩
abbrev S12x2048x1 : Shape := ⟨3, ![12, 2048, 1]⟩
abbrev S1x2048x1 : Shape := ⟨3, ![1, 2048, 1]⟩
abbrev S12x2048x4 : Shape := ⟨3, ![12, 2048, 4]⟩
abbrev S12x2048x4x1 : Shape := ⟨4, ![12, 2048, 4, 1]⟩
abbrev S1x1x1x64 : Shape := ⟨4, ![1, 1, 1, 64]⟩
abbrev S12x2048x4x64 : Shape := ⟨4, ![12, 2048, 4, 64]⟩
abbrev S1x2048 : Shape := ⟨2, ![1, 2048]⟩
abbrev S2048x2048 : Shape := ⟨2, ![2048, 2048]⟩
abbrev S12x2048x64x32 : Shape := ⟨4, ![12, 2048, 64, 32]⟩
abbrev S12x2048x2048 : Shape := ⟨3, ![12, 2048, 2048]⟩
abbrev S1x2048x2048 : Shape := ⟨3, ![1, 2048, 2048]⟩
abbrev S512x768 : Shape := ⟨2, ![512, 768]⟩

abbrev nBuf : Space → Nat
  | .hbm => 190
  | .vmem => 0
  | .smem => 0
  | _ => 0

abbrev hbmTy0_0 (i : Nat) : BufTy := match i % 128 with
  | 0 => ⟨S2048x768, .bf16⟩
  | 1 => ⟨S2048x768, .bf16⟩
  | 2 => ⟨S2048x768, .bf16⟩
  | 3 => ⟨S12x2048x3, .f32⟩
  | 4 => ⟨S64x64, .bf16⟩
  | 5 => ⟨S64x64, .bf16⟩
  | 6 => ⟨S2048x768, .f32⟩
  | 7 => ⟨S2048x768, .f32⟩
  | 8 => ⟨S2048x768, .f32⟩
  | 9 => ⟨S64x64, .f32⟩
  | 10 => ⟨S64x64, .f32⟩
  | 11 => ⟨S2048x12x64, .f32⟩
  | 12 => ⟨S12x2048x64, .f32⟩
  | 13 => ⟨S2048x12x64, .f32⟩
  | 14 => ⟨S12x2048x64, .f32⟩
  | 15 => ⟨S2048x12x64, .f32⟩
  | 16 => ⟨S12x2048x64, .f32⟩
  | 17 => ⟨S2048, .i32⟩
  | 18 => ⟨S12x64x32x64, .f32⟩
  | 19 => ⟨S_, .f32⟩
  | 20 => ⟨S12x64x64, .f32⟩
  | 21 => ⟨S_, .f32⟩
  | 22 => ⟨S12x64x64, .f32⟩
  | 23 => ⟨S12x64x64, .f32⟩
  | 24 => ⟨S12x64x64, .f32⟩
  | 25 => ⟨S12x64x32x64, .f32⟩
  | 26 => ⟨S_, .f32⟩
  | 27 => ⟨S12x64x64, .f32⟩
  | 28 => ⟨S_, .f32⟩
  | 29 => ⟨S12x64x64, .f32⟩
  | 30 => ⟨S12x64x64, .f32⟩
  | 31 => ⟨S12x64x64, .f32⟩
  | 32 => ⟨S12x2048x64, .f32⟩
  | 33 => ⟨S_, .f32⟩
  | 34 => ⟨S12x2048x64, .f32⟩
  | 35 => ⟨S12x2048x64, .f32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S1x64, .i32⟩
  | 47 => ⟨S2048x1, .i32⟩
  | 48 => ⟨S2048x64, .i32⟩
  | 49 => ⟨S2048x64, .i32⟩
  | 50 => ⟨S2048x64, .i1⟩
  | 51 => ⟨S1x2048x64, .i1⟩
  | 52 => ⟨S_, .f32⟩
  | 53 => ⟨S_, .f32⟩
  | 54 => ⟨S12x2048x64, .i1⟩
  | 55 => ⟨S12x2048x64, .f32⟩
  | 56 => ⟨S12x2048x64, .f32⟩
  | 57 => ⟨S_, .f32⟩
  | 58 => ⟨S12x2048, .f32⟩
  | 59 => ⟨S_, .f32⟩
  | 60 => ⟨S12x2048, .f32⟩
  | 61 => ⟨S12x2048, .f32⟩
  | 62 => ⟨S12x2048x1, .f32⟩
  | 63 => ⟨S12x2048x64, .f32⟩
  | 64 => ⟨S12x2048x64, .f32⟩
  | 65 => ⟨S12x2048x64, .f32⟩
  | 66 => ⟨S_, .f32⟩
  | 67 => ⟨S12x2048, .f32⟩
  | 68 => ⟨S12x2048x1, .f32⟩
  | 69 => ⟨S12x2048x64, .f32⟩
  | 70 => ⟨S12x2048x64, .f32⟩
  | 71 => ⟨S_, .i1⟩
  | 72 => ⟨S2048, .i1⟩
  | 73 => ⟨S1x2048x1, .i1⟩
  | 74 => ⟨S_, .f32⟩
  | 75 => ⟨S_, .f32⟩
  | 76 => ⟨S12x2048x64, .i1⟩
  | 77 => ⟨S12x2048x64, .f32⟩
  | 78 => ⟨S12x2048x64, .f32⟩
  | 79 => ⟨S12x2048x64, .f32⟩
  | 80 => ⟨S1x2048x64, .i1⟩
  | 81 => ⟨S_, .f32⟩
  | 82 => ⟨S_, .f32⟩
  | 83 => ⟨S12x2048x64, .i1⟩
  | 84 => ⟨S12x2048x64, .f32⟩
  | 85 => ⟨S12x2048x64, .f32⟩
  | 86 => ⟨S12x2048x4, .f32⟩
  | 87 => ⟨S12x2048x4, .i32⟩
  | 88 => ⟨S12x2048x4x1, .i32⟩
  | 89 => ⟨S64, .i32⟩
  | 90 => ⟨S1x1x1x64, .i32⟩
  | 91 => ⟨S12x2048x4x64, .i32⟩
  | 92 => ⟨S12x2048x4x64, .i32⟩
  | 93 => ⟨S12x2048x4x64, .i1⟩
  | 94 => ⟨S_, .i1⟩
  | 95 => ⟨S12x2048x64, .i1⟩
  | 96 => ⟨S1x2048, .i32⟩
  | 97 => ⟨S2048x1, .i32⟩
  | 98 => ⟨S2048x2048, .i32⟩
  | 99 => ⟨S2048x2048, .i32⟩
  | 100 => ⟨S2048x2048, .i1⟩
  | 101 => ⟨S12x2048x64x32, .i1⟩
  | 102 => ⟨S12x2048x2048, .i1⟩
  | 103 => ⟨S1x2048x2048, .i1⟩
  | 104 => ⟨S12x2048x2048, .i1⟩
  | 105 => ⟨S12x2048x2048, .i1⟩
  | 106 => ⟨S12x2048x2048, .f32⟩
  | 107 => ⟨S_, .f32⟩
  | 108 => ⟨S12x2048x2048, .f32⟩
  | 109 => ⟨S12x2048x2048, .f32⟩
  | 110 => ⟨S_, .f32⟩
  | 111 => ⟨S_, .f32⟩
  | 112 => ⟨S12x2048x2048, .f32⟩
  | 113 => ⟨S12x2048x2048, .f32⟩
  | 114 => ⟨S_, .f32⟩
  | 115 => ⟨S12x2048, .f32⟩
  | 116 => ⟨S_, .f32⟩
  | 117 => ⟨S12x2048, .f32⟩
  | 118 => ⟨S12x2048, .f32⟩
  | 119 => ⟨S12x2048x1, .f32⟩
  | 120 => ⟨S12x2048x2048, .f32⟩
  | 121 => ⟨S12x2048x2048, .f32⟩
  | 122 => ⟨S12x2048x2048, .f32⟩
  | 123 => ⟨S_, .f32⟩
  | 124 => ⟨S12x2048, .f32⟩
  | 125 => ⟨S12x2048x1, .f32⟩
  | 126 => ⟨S12x2048x2048, .f32⟩
  | 127 => ⟨S12x2048x2048, .f32⟩
  | _ => ⟨S2048x768, .bf16⟩

abbrev hbmTy0_1 (i : Nat) : BufTy := match i % 128 with
  | 0 => ⟨S_, .i1⟩
  | 1 => ⟨S12x2048, .i1⟩
  | 2 => ⟨S12x2048x1, .i1⟩
  | 3 => ⟨S_, .f32⟩
  | 4 => ⟨S_, .f32⟩
  | 5 => ⟨S12x2048x2048, .i1⟩
  | 6 => ⟨S12x2048x2048, .f32⟩
  | 7 => ⟨S12x2048x2048, .f32⟩
  | 8 => ⟨S12x2048x64, .f32⟩
  | 9 => ⟨S1x2048, .i32⟩
  | 10 => ⟨S2048x1, .i32⟩
  | 11 => ⟨S_, .i32⟩
  | 12 => ⟨S2048x1, .i32⟩
  | 13 => ⟨S2048x1, .i32⟩
  | 14 => ⟨S2048x2048, .i32⟩
  | 15 => ⟨S2048x2048, .i32⟩
  | 16 => ⟨S2048x2048, .i1⟩
  | 17 => ⟨S2048x2048, .i1⟩
  | 18 => ⟨S1x2048x2048, .i1⟩
  | 19 => ⟨S_, .f32⟩
  | 20 => ⟨S_, .f32⟩
  | 21 => ⟨S12x2048x2048, .i1⟩
  | 22 => ⟨S12x2048x2048, .f32⟩
  | 23 => ⟨S12x2048x2048, .f32⟩
  | 24 => ⟨S_, .f32⟩
  | 25 => ⟨S12x2048, .f32⟩
  | 26 => ⟨S_, .f32⟩
  | 27 => ⟨S12x2048, .f32⟩
  | 28 => ⟨S12x2048, .f32⟩
  | 29 => ⟨S12x2048x1, .f32⟩
  | 30 => ⟨S12x2048x2048, .f32⟩
  | 31 => ⟨S12x2048x2048, .f32⟩
  | 32 => ⟨S12x2048x2048, .f32⟩
  | 33 => ⟨S_, .f32⟩
  | 34 => ⟨S12x2048, .f32⟩
  | 35 => ⟨S12x2048x1, .f32⟩
  | 36 => ⟨S12x2048x2048, .f32⟩
  | 37 => ⟨S12x2048x2048, .f32⟩
  | 38 => ⟨S12x2048x64, .f32⟩
  | 39 => ⟨S12x2048x3, .f32⟩
  | 40 => ⟨S12x2048x3, .f32⟩
  | 41 => ⟨S_, .f32⟩
  | 42 => ⟨S12x2048x3, .f32⟩
  | 43 => ⟨S12x2048x3, .f32⟩
  | 44 => ⟨S_, .f32⟩
  | 45 => ⟨S12x2048x3, .f32⟩
  | 46 => ⟨S12x2048x3, .f32⟩
  | 47 => ⟨S12x2048x1, .f32⟩
  | 48 => ⟨S12x2048x64, .f32⟩
  | 49 => ⟨S12x2048x64, .f32⟩
  | 50 => ⟨S12x2048x1, .f32⟩
  | 51 => ⟨S12x2048x64, .f32⟩
  | 52 => ⟨S12x2048x64, .f32⟩
  | 53 => ⟨S12x2048x64, .f32⟩
  | 54 => ⟨S12x2048x1, .f32⟩
  | 55 => ⟨S12x2048x64, .f32⟩
  | 56 => ⟨S12x2048x64, .f32⟩
  | 57 => ⟨S12x2048x64, .f32⟩
  | 58 => ⟨S2048x12x64, .f32⟩
  | 59 => ⟨S2048x768, .f32⟩
  | 60 => ⟨S2048x768, .bf16⟩
  | 61 => ⟨S512x768, .bf16⟩
  | _ => ⟨S2048x768, .bf16⟩

abbrev hbmTy (i : Nat) : BufTy := match i / 128 with
  | 0 => hbmTy0_0 i
  | 1 => hbmTy0_1 i
  | _ => ⟨S2048x768, .bf16⟩

abbrev bufTy : (tb : Table) → Fin (tcTables nBuf tb) → BufTy
  | .hbm, ⟨i, _⟩ => hbmTy i
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v55 : Ref sig .tc := ⟨.hbm, 85, rfl⟩
abbrev main_values : Ref sig .tc := ⟨.hbm, 86, rfl⟩
abbrev main_indices : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_call3_v0 : Ref sig .tc := ⟨.hbm, 111, rfl⟩
abbrev main_call3_v1 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_cst_17 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_22 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_cst_24 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_25 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_26 : Ref sig .tc := ⟨.hbm, 169, rfl⟩
abbrev main_v116 : Ref sig .tc := ⟨.hbm, 170, rfl⟩
abbrev main_v117 : Ref sig .tc := ⟨.hbm, 171, rfl⟩
abbrev main_cst_27 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩

abbrev nD : Nat := 1
abbrev τ : Topo := Topo.v7x

variable {F : FTy → Type} [FloatOps F]
-- ==== AttnA.lean ====
abbrev S2048x768 : Shape := ⟨2, ![2048, 768]⟩
abbrev S12x2048x3 : Shape := ⟨3, ![12, 2048, 3]⟩
abbrev S64x64 : Shape := ⟨2, ![64, 64]⟩
abbrev S512x768 : Shape := ⟨2, ![512, 768]⟩
abbrev S512x384 : Shape := ⟨2, ![512, 384]⟩
abbrev S6x512x3 : Shape := ⟨3, ![6, 512, 3]⟩
abbrev S16x512 : Shape := ⟨2, ![16, 512]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S16x64 : Shape := ⟨2, ![16, 64]⟩
abbrev S1x512 : Shape := ⟨2, ![1, 512]⟩
abbrev S512x128 : Shape := ⟨2, ![512, 128]⟩
abbrev S1x512x3 : Shape := ⟨3, ![1, 512, 3]⟩
abbrev S512x3 : Shape := ⟨2, ![512, 3]⟩

abbrev nBuf : Space → Nat
  | .hbm => 7
  | .vmem => 12
  | .smem => 0
  | _ => 0

abbrev bufTy : (tb : Table) → Fin (tcTables nBuf tb) → BufTy
  | .hbm, ⟨0, _⟩ => ⟨S2048x768, .bf16⟩
  | .hbm, ⟨1, _⟩ => ⟨S2048x768, .bf16⟩
  | .hbm, ⟨2, _⟩ => ⟨S2048x768, .bf16⟩
  | .hbm, ⟨3, _⟩ => ⟨S12x2048x3, .f32⟩
  | .hbm, ⟨4, _⟩ => ⟨S64x64, .bf16⟩
  | .hbm, ⟨5, _⟩ => ⟨S64x64, .bf16⟩
  | .hbm, ⟨6, _⟩ => ⟨S512x768, .bf16⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S6x512x3, .f32⟩
  | .local _ .vmem, ⟨7, _⟩ => ⟨S6x512x3, .f32⟩
  | .local _ .vmem, ⟨8, _⟩ => ⟨S64x64, .bf16⟩
  | .local _ .vmem, ⟨9, _⟩ => ⟨S64x64, .bf16⟩
  | .local _ .vmem, ⟨10, _⟩ => ⟨S512x384, .bf16⟩
  | .local _ .vmem, ⟨11, _⟩ => ⟨S512x384, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnAIdeal.lean ====
variable {F : FTy → Type} [FloatOps F] [Named F]
def κ : String → Option EReal := fun
  | "mask" => some ⊥
  | _ => none
-- ==== AttnARefIdeal.lean ====
abbrev S2048x768 : Shape := ⟨2, ![2048, 768]⟩
abbrev S12x2048x3 : Shape := ⟨3, ![12, 2048, 3]⟩
abbrev S64x64 : Shape := ⟨2, ![64, 64]⟩
abbrev S2048x12x64 : Shape := ⟨3, ![2048, 12, 64]⟩
abbrev S12x2048x64 : Shape := ⟨3, ![12, 2048, 64]⟩
abbrev S2048 : Shape := ⟨1, ![2048]⟩
abbrev S12x64x32x64 : Shape := ⟨4, ![12, 64, 32, 64]⟩
abbrev S_ : Shape := ⟨0, ![]⟩
abbrev S12x64x64 : Shape := ⟨3, ![12, 64, 64]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x2048x64 : Shape := ⟨3, ![1, 2048, 64]⟩
abbrev S12x2048 : Shape := ⟨2, ![12, 2048]⟩
abbrev S12x2048x1 : Shape := ⟨3, ![12, 2048, 1]⟩
abbrev S1x2048x1 : Shape := ⟨3, ![1, 2048, 1]⟩
abbrev S12x2048x4 : Shape := ⟨3, ![12, 2048, 4]⟩
abbrev S12x2048x4x1 : Shape := ⟨4, ![12, 2048, 4, 1]⟩
abbrev S1x1x1x64 : Shape := ⟨4, ![1, 1, 1, 64]⟩
abbrev S12x2048x4x64 : Shape := ⟨4, ![12, 2048, 4, 64]⟩
abbrev S1x2048 : Shape := ⟨2, ![1, 2048]⟩
abbrev S2048x2048 : Shape := ⟨2, ![2048, 2048]⟩
abbrev S12x2048x64x32 : Shape := ⟨4, ![12, 2048, 64, 32]⟩
abbrev S12x2048x2048 : Shape := ⟨3, ![12, 2048, 2048]⟩
abbrev S1x2048x2048 : Shape := ⟨3, ![1, 2048, 2048]⟩
abbrev S512x768 : Shape := ⟨2, ![512, 768]⟩

abbrev nBuf : Space → Nat
  | .hbm => 190
  | .vmem => 0
  | .smem => 0
  | _ => 0

abbrev hbmTy0_0 (i : Nat) : BufTy := match i % 128 with
  | 0 => ⟨S2048x768, .bf16⟩
  | 1 => ⟨S2048x768, .bf16⟩
  | 2 => ⟨S2048x768, .bf16⟩
  | 3 => ⟨S12x2048x3, .f32⟩
  | 4 => ⟨S64x64, .bf16⟩
  | 5 => ⟨S64x64, .bf16⟩
  | 6 => ⟨S2048x768, .f32⟩
  | 7 => ⟨S2048x768, .f32⟩
  | 8 => ⟨S2048x768, .f32⟩
  | 9 => ⟨S64x64, .f32⟩
  | 10 => ⟨S64x64, .f32⟩
  | 11 => ⟨S2048x12x64, .f32⟩
  | 12 => ⟨S12x2048x64, .f32⟩
  | 13 => ⟨S2048x12x64, .f32⟩
  | 14 => ⟨S12x2048x64, .f32⟩
  | 15 => ⟨S2048x12x64, .f32⟩
  | 16 => ⟨S12x2048x64, .f32⟩
  | 17 => ⟨S2048, .i32⟩
  | 18 => ⟨S12x64x32x64, .f32⟩
  | 19 => ⟨S_, .f32⟩
  | 20 => ⟨S12x64x64, .f32⟩
  | 21 => ⟨S_, .f32⟩
  | 22 => ⟨S12x64x64, .f32⟩
  | 23 => ⟨S12x64x64, .f32⟩
  | 24 => ⟨S12x64x64, .f32⟩
  | 25 => ⟨S12x64x32x64, .f32⟩
  | 26 => ⟨S_, .f32⟩
  | 27 => ⟨S12x64x64, .f32⟩
  | 28 => ⟨S_, .f32⟩
  | 29 => ⟨S12x64x64, .f32⟩
  | 30 => ⟨S12x64x64, .f32⟩
  | 31 => ⟨S12x64x64, .f32⟩
  | 32 => ⟨S12x2048x64, .f32⟩
  | 33 => ⟨S_, .f32⟩
  | 34 => ⟨S12x2048x64, .f32⟩
  | 35 => ⟨S12x2048x64, .f32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S1x64, .i32⟩
  | 47 => ⟨S2048x1, .i32⟩
  | 48 => ⟨S2048x64, .i32⟩
  | 49 => ⟨S2048x64, .i32⟩
  | 50 => ⟨S2048x64, .i1⟩
  | 51 => ⟨S1x2048x64, .i1⟩
  | 52 => ⟨S_, .f32⟩
  | 53 => ⟨S_, .f32⟩
  | 54 => ⟨S12x2048x64, .i1⟩
  | 55 => ⟨S12x2048x64, .f32⟩
  | 56 => ⟨S12x2048x64, .f32⟩
  | 57 => ⟨S_, .f32⟩
  | 58 => ⟨S12x2048, .f32⟩
  | 59 => ⟨S_, .f32⟩
  | 60 => ⟨S12x2048, .f32⟩
  | 61 => ⟨S12x2048, .f32⟩
  | 62 => ⟨S12x2048x1, .f32⟩
  | 63 => ⟨S12x2048x64, .f32⟩
  | 64 => ⟨S12x2048x64, .f32⟩
  | 65 => ⟨S12x2048x64, .f32⟩
  | 66 => ⟨S_, .f32⟩
  | 67 => ⟨S12x2048, .f32⟩
  | 68 => ⟨S12x2048x1, .f32⟩
  | 69 => ⟨S12x2048x64, .f32⟩
  | 70 => ⟨S12x2048x64, .f32⟩
  | 71 => ⟨S_, .i1⟩
  | 72 => ⟨S2048, .i1⟩
  | 73 => ⟨S1x2048x1, .i1⟩
  | 74 => ⟨S_, .f32⟩
  | 75 => ⟨S_, .f32⟩
  | 76 => ⟨S12x2048x64, .i1⟩
  | 77 => ⟨S12x2048x64, .f32⟩
  | 78 => ⟨S12x2048x64, .f32⟩
  | 79 => ⟨S12x2048x64, .f32⟩
  | 80 => ⟨S1x2048x64, .i1⟩
  | 81 => ⟨S_, .f32⟩
  | 82 => ⟨S_, .f32⟩
  | 83 => ⟨S12x2048x64, .i1⟩
  | 84 => ⟨S12x2048x64, .f32⟩
  | 85 => ⟨S12x2048x64, .f32⟩
  | 86 => ⟨S12x2048x4, .f32⟩
  | 87 => ⟨S12x2048x4, .i32⟩
  | 88 => ⟨S12x2048x4x1, .i32⟩
  | 89 => ⟨S64, .i32⟩
  | 90 => ⟨S1x1x1x64, .i32⟩
  | 91 => ⟨S12x2048x4x64, .i32⟩
  | 92 => ⟨S12x2048x4x64, .i32⟩
  | 93 => ⟨S12x2048x4x64, .i1⟩
  | 94 => ⟨S_, .i1⟩
  | 95 => ⟨S12x2048x64, .i1⟩
  | 96 => ⟨S1x2048, .i32⟩
  | 97 => ⟨S2048x1, .i32⟩
  | 98 => ⟨S2048x2048, .i32⟩
  | 99 => ⟨S2048x2048, .i32⟩
  | 100 => ⟨S2048x2048, .i1⟩
  | 101 => ⟨S12x2048x64x32, .i1⟩
  | 102 => ⟨S12x2048x2048, .i1⟩
  | 103 => ⟨S1x2048x2048, .i1⟩
  | 104 => ⟨S12x2048x2048, .i1⟩
  | 105 => ⟨S12x2048x2048, .i1⟩
  | 106 => ⟨S12x2048x2048, .f32⟩
  | 107 => ⟨S_, .f32⟩
  | 108 => ⟨S12x2048x2048, .f32⟩
  | 109 => ⟨S12x2048x2048, .f32⟩
  | 110 => ⟨S_, .f32⟩
  | 111 => ⟨S_, .f32⟩
  | 112 => ⟨S12x2048x2048, .f32⟩
  | 113 => ⟨S12x2048x2048, .f32⟩
  | 114 => ⟨S_, .f32⟩
  | 115 => ⟨S12x2048, .f32⟩
  | 116 => ⟨S_, .f32⟩
  | 117 => ⟨S12x2048, .f32⟩
  | 118 => ⟨S12x2048, .f32⟩
  | 119 => ⟨S12x2048x1, .f32⟩
  | 120 => ⟨S12x2048x2048, .f32⟩
  | 121 => ⟨S12x2048x2048, .f32⟩
  | 122 => ⟨S12x2048x2048, .f32⟩
  | 123 => ⟨S_, .f32⟩
  | 124 => ⟨S12x2048, .f32⟩
  | 125 => ⟨S12x2048x1, .f32⟩
  | 126 => ⟨S12x2048x2048, .f32⟩
  | 127 => ⟨S12x2048x2048, .f32⟩
  | _ => ⟨S2048x768, .bf16⟩

abbrev hbmTy0_1 (i : Nat) : BufTy := match i % 128 with
  | 0 => ⟨S_, .i1⟩
  | 1 => ⟨S12x2048, .i1⟩
  | 2 => ⟨S12x2048x1, .i1⟩
  | 3 => ⟨S_, .f32⟩
  | 4 => ⟨S_, .f32⟩
  | 5 => ⟨S12x2048x2048, .i1⟩
  | 6 => ⟨S12x2048x2048, .f32⟩
  | 7 => ⟨S12x2048x2048, .f32⟩
  | 8 => ⟨S12x2048x64, .f32⟩
  | 9 => ⟨S1x2048, .i32⟩
  | 10 => ⟨S2048x1, .i32⟩
  | 11 => ⟨S_, .i32⟩
  | 12 => ⟨S2048x1, .i32⟩
  | 13 => ⟨S2048x1, .i32⟩
  | 14 => ⟨S2048x2048, .i32⟩
  | 15 => ⟨S2048x2048, .i32⟩
  | 16 => ⟨S2048x2048, .i1⟩
  | 17 => ⟨S2048x2048, .i1⟩
  | 18 => ⟨S1x2048x2048, .i1⟩
  | 19 => ⟨S_, .f32⟩
  | 20 => ⟨S_, .f32⟩
  | 21 => ⟨S12x2048x2048, .i1⟩
  | 22 => ⟨S12x2048x2048, .f32⟩
  | 23 => ⟨S12x2048x2048, .f32⟩
  | 24 => ⟨S_, .f32⟩
  | 25 => ⟨S12x2048, .f32⟩
  | 26 => ⟨S_, .f32⟩
  | 27 => ⟨S12x2048, .f32⟩
  | 28 => ⟨S12x2048, .f32⟩
  | 29 => ⟨S12x2048x1, .f32⟩
  | 30 => ⟨S12x2048x2048, .f32⟩
  | 31 => ⟨S12x2048x2048, .f32⟩
  | 32 => ⟨S12x2048x2048, .f32⟩
  | 33 => ⟨S_, .f32⟩
  | 34 => ⟨S12x2048, .f32⟩
  | 35 => ⟨S12x2048x1, .f32⟩
  | 36 => ⟨S12x2048x2048, .f32⟩
  | 37 => ⟨S12x2048x2048, .f32⟩
  | 38 => ⟨S12x2048x64, .f32⟩
  | 39 => ⟨S12x2048x3, .f32⟩
  | 40 => ⟨S12x2048x3, .f32⟩
  | 41 => ⟨S_, .f32⟩
  | 42 => ⟨S12x2048x3, .f32⟩
  | 43 => ⟨S12x2048x3, .f32⟩
  | 44 => ⟨S_, .f32⟩
  | 45 => ⟨S12x2048x3, .f32⟩
  | 46 => ⟨S12x2048x3, .f32⟩
  | 47 => ⟨S12x2048x1, .f32⟩
  | 48 => ⟨S12x2048x64, .f32⟩
  | 49 => ⟨S12x2048x64, .f32⟩
  | 50 => ⟨S12x2048x1, .f32⟩
  | 51 => ⟨S12x2048x64, .f32⟩
  | 52 => ⟨S12x2048x64, .f32⟩
  | 53 => ⟨S12x2048x64, .f32⟩
  | 54 => ⟨S12x2048x1, .f32⟩
  | 55 => ⟨S12x2048x64, .f32⟩
  | 56 => ⟨S12x2048x64, .f32⟩
  | 57 => ⟨S12x2048x64, .f32⟩
  | 58 => ⟨S2048x12x64, .f32⟩
  | 59 => ⟨S2048x768, .f32⟩
  | 60 => ⟨S2048x768, .bf16⟩
  | 61 => ⟨S512x768, .bf16⟩
  | _ => ⟨S2048x768, .bf16⟩

abbrev hbmTy (i : Nat) : BufTy := match i / 128 with
  | 0 => hbmTy0_0 i
  | 1 => hbmTy0_1 i
  | _ => ⟨S2048x768, .bf16⟩

abbrev bufTy : (tb : Table) → Fin (tcTables nBuf tb) → BufTy
  | .hbm, ⟨i, _⟩ => hbmTy i
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v55 : Ref sig .tc := ⟨.hbm, 85, rfl⟩
abbrev main_values : Ref sig .tc := ⟨.hbm, 86, rfl⟩
abbrev main_indices : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_call3_v0 : Ref sig .tc := ⟨.hbm, 111, rfl⟩
abbrev main_call3_v1 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_cst_17 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_22 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_cst_24 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_25 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_26 : Ref sig .tc := ⟨.hbm, 169, rfl⟩
abbrev main_v116 : Ref sig .tc := ⟨.hbm, 170, rfl⟩
abbrev main_v117 : Ref sig .tc := ⟨.hbm, 171, rfl⟩
abbrev main_cst_27 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩

abbrev nD : Nat := 1
abbrev τ : Topo := Topo.v7x

variable {F : FTy → Type} [FloatOps F]
-- ==== Proof.LayerNorm.lean ====
/- Layer normalisation of one row on the extended reals, in the two spellings the programs use, and their equality. -/
module

public import Idealize.ShloMosaic.PureOps.Ideal
public import Idealize.ShloMosaic.Lib.IdealHost

@[expose] public section

noncomputable section

namespace Cert.Spec

open Idealize.ShloMosaic

/-- The word of `768.0` denotes the real 768. -/
theorem ofBits_768 : Ideal.ofBits .f32 0x44400000#32 = ((768 : ℝ) : EReal) := by
  simp [Ideal.ofBits, Ideal.ieee, -EReal.coe_mul]; norm_num

/-- The word of the layer norm's epsilon denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The mean of a row of 768 numbers. -/
def mean (x : Fin 768 → EReal) : EReal := Ideal.div (∑ k, x k) (Ideal.ofBits .f32 0x44400000#32)

/-- The mean square deviation of a row from its mean. -/
def var (x : Fin 768 → EReal) : EReal := mean fun k => (x k - mean x) * (x k - mean x)

/-- Layer norm of a row at `k`: the deviation times the reciprocal root, then the gain and the shift. -/
def ln (x g b : Fin 768 → EReal) (k : Fin 768) : EReal :=
  (x k - mean x) * Ideal.rsqrt (var x + Ideal.ofBits .f32 0x3727C5AC#32) * g k + b k

/-- A square is not negative on the extended reals. -/
theorem mul_self_nonneg' (a : EReal) : 0 ≤ a * a := by
  rcases le_total 0 a with h | h
  · exact mul_nonneg h h
  · have h' : 0 ≤ -a := EReal.neg_nonneg.mpr h
    have := mul_nonneg h' h'
    rwa [neg_mul_neg] at this

/-- The mean square deviation is not negative. -/
theorem var_nonneg (x : Fin 768 → EReal) : 0 ≤ var x := by
  unfold var mean
  rw [ofBits_768, Ideal.div_coe (by norm_num)]
  exact mul_nonneg (Finset.sum_nonneg fun k _ => mul_self_nonneg' _) (by exact_mod_cast (by norm_num : (0 : ℝ) ≤ 1 / 768))

/-- Dividing by the root of `v + e` is multiplying by the reciprocal root, for `v` not negative and `e` a positive real. -/
theorem div_sqrt_eq (d v : EReal) (hv : 0 ≤ v) (e : ℝ) (he : 0 < e) :
    Ideal.div d (Ideal.sqrt (v + e)) = d * Ideal.rsqrt (v + e) := by
  induction v using EReal.rec with
  | bot => simp at hv
  | top =>
    rw [EReal.top_add_coe]
    show Ideal.div d ⊤ = d * 0
    unfold Ideal.div
    rw [if_neg EReal.top_ne_zero, EReal.inv_top]
  | coe r =>
    have hr : 0 ≤ r := by exact_mod_cast hv
    have hp : 0 < r + e := by linarith
    rw [← EReal.coe_add, Ideal.sqrt_coe, Ideal.rsqrt_coe, if_neg hp.not_gt, if_neg hp.not_gt, if_neg hp.ne',
      Ideal.div_coe (Real.sqrt_pos.mpr hp).ne', one_div]

/-- Layer norm spelt with a division by the standard deviation is the same function. -/
theorem ln_eq_div (x g b : Fin 768 → EReal) (k : Fin 768) :
    Ideal.div (x k - mean x) (Ideal.sqrt (var x + Ideal.ofBits .f32 0x3727C5AC#32)) * g k + b k = ln x g b k := by
  obtain ⟨e, he, h⟩ := ofBits_eps
  unfold ln
  rw [h, div_sqrt_eq _ _ (var_nonneg x) e he]

/-- The variance's divisor `768 - 0` is 768. -/
theorem divisor : Ideal.ofBits .f32 0x44400000#32 - FloatOps.sitofp (F := Ideal) .f32 0#32
    = Ideal.ofBits .f32 0x44400000#32 := by
  have h : FloatOps.sitofp (F := Ideal) .f32 0#32 = (0 : EReal) := by
    show (((0#32 : BitVec 32).toInt : ℝ) : EReal) = 0
    simp
  rw [h, sub_zero]

/-- The variance's divisor is positive. -/
theorem pos_768 : (0 : EReal) < Ideal.ofBits .f32 0x44400000#32 := by
  rw [ofBits_768]; exact_mod_cast (by norm_num : (0 : ℝ) < 768)

end Cert.Spec

end
-- ==== Proof.TailBlock.lean ====
/- What one grid point of the second kernel leaves in its output block: element by element, the layer's tail. -/
module

public import proofs.«01_k».proof.Proof.LayerNorm
public import proofs.«01_k».proof.Proof.Gen.TailIdeal.Value
public import Idealize.ShloMosaic.Lib.Pointwise
public import Idealize.ShloMosaic.Lib.Pointwise.Tactic

@[expose] public section

noncomputable section

namespace Cert.Spec

open Idealize.ShloMosaic

/-- The tanh form of gelu, with the cube bracketed from the right. -/
def gelu (u : EReal) : EReal :=
  u * (Ideal.ofBits .f32 0x3F000000#32 * (1 + Ideal.tanh (Ideal.ofBits .f32 0x3F4C422A#32 *
    (u + Ideal.ofBits .f32 0x3D372713#32 * (u * (u * u))))))

/-- The row after the attention output's projection is added. -/
def resid (x o : Fin 768 → EReal) (wo : Fin 768 → Fin 768 → EReal) (j : Fin 768) : EReal := x j + ∑ k, o k * wo k j

/-- The hidden row: layer norm of a row, the first product of the perceptron and its bias. -/
def hidden (x g b : Fin 768 → EReal) (w1 : Fin 768 → Fin 3072 → EReal) (b1 : Fin 3072 → EReal) (f : Fin 3072) : EReal :=
  (∑ k, ln x g b k * w1 k f) + b1 f

/-- The layer's tail on one row: the residual row plus the perceptron of its layer norm. -/
def tail (x o : Fin 768 → EReal) (wo : Fin 768 → Fin 768 → EReal) (g b : Fin 768 → EReal) (w1 : Fin 768 → Fin 3072 → EReal)
    (b1 : Fin 3072 → EReal) (w2 : Fin 3072 → Fin 768 → EReal) (b2 : Fin 768 → EReal) (j : Fin 768) : EReal :=
  resid x o wo j + ((∑ f, gelu (hidden (resid x o wo) g b w1 b1 f) * w2 f j) + b2 j)

end Cert.Spec

namespace Cert.TailIdeal.Block

open Idealize.ShloMosaic Cert.TailIdeal Cert.TailIdeal.Gen

/-- The residual block at row `r`, column `j`. -/
theorem pay5_apply (x : Vec Ideal S512x768 .f32) (o : Vec Ideal S512x768 .bf16) (wo : Vec Ideal S768x768 .bf16)
    (r : Fin 512) (j : Fin 768) :
    k0_pay5 x o wo (ix2 r j) = Spec.resid (fun k => x (ix2 r k)) (fun k => o (ix2 r k)) (fun k j => wo (ix2 k j)) j := by
  unfold k0_pay5 Spec.resid
  pointwise

/-- The first product of the perceptron at row `r`, column `f`. -/
theorem pay6_apply (x : Vec Ideal S512x768 .f32) (o : Vec Ideal S512x768 .bf16) (wo : Vec Ideal S768x768 .bf16)
    (g b : Vec Ideal S1x768 .f32) (w1 : Vec Ideal S768x3072 .bf16) (r : Fin 512) (f : Fin 3072) :
    k0_pay6 x o wo g b w1 (ix2 r f)
      = ∑ k, Spec.ln (fun k => k0_pay5 x o wo (ix2 r k)) (fun k => g (ix2 0 k)) (fun k => b (ix2 0 k)) k * w1 (ix2 k f) := by
  unfold k0_pay6
  generalize k0_pay5 x o wo = y
  unfold Spec.ln Spec.var Spec.mean
  pointwise

/-- The output block at row `r`, column `j`: the tail of that row. -/
theorem block_apply (x : Vec Ideal S512x768 .f32) (o : Vec Ideal S512x768 .bf16) (wo : Vec Ideal S768x768 .bf16)
    (g b : Vec Ideal S1x768 .f32) (w1 : Vec Ideal S768x3072 .bf16) (b1 : Vec Ideal S1x3072 .f32)
    (w2 : Vec Ideal S3072x768 .bf16) (b2 : Vec Ideal S1x768 .f32) (r : Fin 512) (j : Fin 768) :
    k0_pay1 (k0_pay5 x o wo) (k0_pay6 x o wo g b w1) (k0_pay7 b1) w2 b2 (ix2 r j)
      = Spec.tail (fun k => x (ix2 r k)) (fun k => o (ix2 r k)) (fun k j => wo (ix2 k j)) (fun k => g (ix2 0 k))
          (fun k => b (ix2 0 k)) (fun k f => w1 (ix2 k f)) (fun f => b1 (ix2 0 f)) (fun f j => w2 (ix2 f j))
          (fun j => b2 (ix2 0 j)) j := by
  unfold k0_pay1 k0_pay7 Spec.tail Spec.gelu Spec.hidden
  pointwise [pay6_apply, pay5_apply, add_assoc]

end Cert.TailIdeal.Block

end
-- ==== Proof.TailPoint.lean ====
/- What the body of the second kernel leaves at a grid point, in its two cases: the first point, which copies the
   weights into its scratch, and the later points, which find them there. -/
module

public import proofs.«01_k».proof.Proof.TailBlock

@[expose] public section

noncomputable section

namespace Cert.TailIdeal.Point

open Idealize.ShloMosaic Idealize.ShloMosaic.TcCoe Idealize.SL.Sem Cert.TailIdeal Cert.TailIdeal.Gen

theorem hz : (![0, 0] : Fin 2 → Nat) = fun _ => 0 := funext fun a => by fin_cases a <;> rfl

/-- The output block as one term of the point's blocks and of the weights. -/
abbrev block (o : Vec Ideal S512x768 .bf16) (x : Vec Ideal S512x768 .f32) (wo : Vec Ideal S768x768 .bf16)
    (g b : Vec Ideal S1x768 .f32) (w1 : Vec Ideal S768x3072 .bf16) (b1 : Vec Ideal S1x3072 .f32)
    (w2 : Vec Ideal S3072x768 .bf16) (b2 : Vec Ideal S1x768 .f32) : Vec Ideal S512x768 .f32 :=
  k0_pay1 (k0_pay5 x o wo) (k0_pay6 x o wo g b w1) (k0_pay7 b1) w2 b2

/-- Copying the projection weights into scratch changes no entry. -/
theorem pay2_eq (w : Vec Ideal S768x768 .f32) : k0_pay2 w = w := by
  funext j; unfold k0_pay2; pointwise
/-- Copying the first perceptron weights into scratch changes no entry. -/
theorem pay3_eq (w : Vec Ideal S768x3072 .f32) : k0_pay3 w = w := by
  funext j; unfold k0_pay3; pointwise
/-- Copying the second perceptron weights into scratch changes no entry. -/
theorem pay4_eq (w : Vec Ideal S3072x768 .f32) : k0_pay4 w = w := by
  funext j; unfold k0_pay4; pointwise

variable (c : Dev nD) (i : grid0.Coords)
  (a1 : Memref sig .tc .vmem S512x768 .bf16) (h1 : a1.IsWhole)
  (a2 : Memref sig .tc .vmem S512x768 .f32) (h2 : a2.IsWhole)
  (a3 : Memref sig .tc .vmem S768x768 .f32) (h3 : a3.IsWhole)
  (a4 : Memref sig .tc .vmem S1x768 .f32) (h4 : a4.IsWhole)
  (a5 : Memref sig .tc .vmem S1x768 .f32) (h5 : a5.IsWhole)
  (a6 : Memref sig .tc .vmem S768x3072 .f32) (h6 : a6.IsWhole)
  (a7 : Memref sig .tc .vmem S1x3072 .f32) (h7 : a7.IsWhole)
  (a8 : Memref sig .tc .vmem S3072x768 .f32) (h8 : a8.IsWhole)
  (a9 : Memref sig .tc .vmem S1x768 .f32) (h9 : a9.IsWhole)
  (a10 : Memref sig .tc .vmem S512x768 .f32) (h10 : a10.IsWhole)
  (a11 : Memref sig .tc .vmem S768x768 .bf16) (h11 : a11.IsWhole)
  (a12 : Memref sig .tc .vmem S768x3072 .bf16) (h12 : a12.IsWhole)
  (a13 : Memref sig .tc .vmem S3072x768 .bf16) (h13 : a13.IsWhole)
  (x0 : Vec Ideal S512x768 .bf16) (x1 : Vec Ideal S512x768 .f32) (x2 : Vec Ideal S768x768 .f32)
  (x3 x4 : Vec Ideal S1x768 .f32) (x5 : Vec Ideal S768x3072 .f32) (x6 : Vec Ideal S1x3072 .f32)
  (x7 : Vec Ideal S3072x768 .f32) (x8 : Vec Ideal S1x768 .f32)

/-- A later point leaves the block of what its scratch held. -/
theorem out_B (hc : ¬cond0_0 i) (s0 : Vec Ideal S768x768 .bf16) (s1 : Vec Ideal S768x3072 .bf16)
    (s2 : Vec Ideal S3072x768 .bf16) :
    out0_B_9 c i a1 h1 a2 h2 a3 h3 a4 h4 a5 h5 a6 h6 a7 h7 a8 h8 a9 h9 a10 h10 a11 h11 a12 h12 a13 h13 hc
      x0 x1 x2 x3 x4 x5 x6 x7 x8 s0 s1 s2 = block x0 x1 s0 x3 x4 s1 x6 s2 x8 := by
  unfold out0_B_9
  rw [View.read_writes_eq_canon _ _ _ (fun y => cover0_B_9 (y := y) ..)]
  unfold kernelRun0_B
  dsimp only
  sl_unfold_words
  rw [View.canon_unit_zero hz]
  simp only [View.readAt_eq_ld, h1.read_unread, h2.read_unread, h4.read_unread, h5.read_unread, h7.read_unread,
    h9.read_unread, h11.read_unread, h12.read_unread, h13.read_unread, View.ld_unit_zero (S := S512x768) hz,
    View.ld_unit_zero (S := S768x768) hz, View.ld_unit_zero (S := S1x768) hz, View.ld_unit_zero (S := S768x3072) hz,
    View.ld_unit_zero (S := S1x3072) hz, View.ld_unit_zero (S := S3072x768) hz]

/-- The first point leaves the block of the weights it has just copied. -/
theorem out_A (hc : cond0_0 i) :
    out0_A_9 c i a1 h1 a2 h2 a3 h3 a4 h4 a5 h5 a6 h6 a7 h7 a8 h8 a9 h9 a10 h10 a11 h11 a12 h12 a13 h13 hc
      x0 x1 x2 x3 x4 x5 x6 x7 x8 = block x0 x1 x2 x3 x4 x5 x6 x7 x8 := by
  unfold out0_A_9
  rw [View.read_writes_eq_canon _ _ _ (fun y => cover0_A_9 (y := y) ..)]
  unfold kernelRun0_A
  dsimp only
  sl_unfold_words
  rw [View.canon_unit_zero hz]
  simp only [View.readCov_unit_zero (S := S768x768) _ hz, View.readCov_unit_zero (S := S768x3072) _ hz,
    View.readCov_unit_zero (S := S3072x768) _ hz, View.readAt_eq_ld, h1.read_unread, h2.read_unread, h3.read_unread,
    h4.read_unread, h5.read_unread, h6.read_unread, h7.read_unread, h8.read_unread, h9.read_unread,
    View.ld_unit_zero (S := S512x768) hz,
    View.ld_unit_zero (S := S768x768) hz, View.ld_unit_zero (S := S1x768) hz, View.ld_unit_zero (S := S768x3072) hz,
    View.ld_unit_zero (S := S1x3072) hz, View.ld_unit_zero (S := S3072x768) hz, pay2_eq, pay3_eq, pay4_eq]

/-- The first point leaves the projection weights in the first scratch. -/
theorem sout_A_0 (hc : cond0_0 i) :
    sout0_A_0 c i a1 h1 a2 h2 a3 h3 a4 h4 a5 h5 a6 h6 a7 h7 a8 h8 a9 h9 a10 h10 a11 h11 a12 h12 a13 h13 hc
      x0 x1 x2 x3 x4 x5 x6 x7 x8 = x2 := by
  unfold sout0_A_0
  rw [View.read_writes_eq_canon _ _ _ (fun y => scover0_A_0 (y := y) ..)]
  unfold kernelRun0_A
  dsimp only
  sl_unfold_words
  rw [View.canon_unit_zero hz]
  simp only [View.readAt_eq_ld, h3.read_unread, View.ld_unit_zero (S := S768x768) hz, pay2_eq]

/-- The first point leaves the first perceptron weights in the second scratch. -/
theorem sout_A_1 (hc : cond0_0 i) :
    sout0_A_1 c i a1 h1 a2 h2 a3 h3 a4 h4 a5 h5 a6 h6 a7 h7 a8 h8 a9 h9 a10 h10 a11 h11 a12 h12 a13 h13 hc
      x0 x1 x2 x3 x4 x5 x6 x7 x8 = x5 := by
  unfold sout0_A_1
  rw [View.read_writes_eq_canon _ _ _ (fun y => scover0_A_1 (y := y) ..)]
  unfold kernelRun0_A
  dsimp only
  sl_unfold_words
  rw [View.canon_unit_zero hz]
  simp only [View.readAt_eq_ld, h6.read_unread, View.ld_unit_zero (S := S768x3072) hz, pay3_eq]

/-- The first point leaves the second perceptron weights in the third scratch. -/
theorem sout_A_2 (hc : cond0_0 i) :
    sout0_A_2 c i a1 h1 a2 h2 a3 h3 a4 h4 a5 h5 a6 h6 a7 h7 a8 h8 a9 h9 a10 h10 a11 h11 a12 h12 a13 h13 hc
      x0 x1 x2 x3 x4 x5 x6 x7 x8 = x7 := by
  unfold sout0_A_2
  rw [View.read_writes_eq_canon _ _ _ (fun y => scover0_A_2 (y := y) ..)]
  unfold kernelRun0_A
  dsimp only
  sl_unfold_words
  rw [View.canon_unit_zero hz]
  simp only [View.readAt_eq_ld, h8.read_unread, View.ld_unit_zero (S := S3072x768) hz, pay4_eq]

end Cert.TailIdeal.Point

end
-- ==== Proof.TailValue.lean ====
/- The array the second kernel leaves: at every row and column, the layer's tail of that row. -/
module

public import proofs.«01_k».proof.Proof.TailPoint
public import Idealize.ShloMosaic.Lib.Pipeline.ValueKit

@[expose] public section

noncomputable section

namespace Cert.TailIdeal.Array

open Idealize.ShloMosaic Idealize.ShloMosaic.TcCoe Idealize.SL.Sem Cert.TailIdeal Cert.TailIdeal.Gen Cert.TailIdeal.Point

variable (m : (ℓ : Loc nD τ sig) → Buf (Elt Ideal) ℓ) (c : Dev nD)

/-- Where the input windows stand at a point: the rows' blocks at the point's number, the weights at their only block. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- Row `r` of the block of attention output at point `t` is row `512 t + r` of the array. -/
theorem iblk0 (t : Fin cfg0.N) (r : Fin 512) (k : Fin 768) (R : Fin 2048) (hR : R.val = t.val * 512 + r.val) :
    iblk m c 0 t (ix2 r k) = m ((c : Thread nD τ).loc main_arg0) (ix2 R k) := by
  blk_ext [iblk, V, idx t]
/-- Row `r` of the block of the input at point `t` is row `512 t + r` of the array. -/
theorem iblk1 (t : Fin cfg0.N) (r : Fin 512) (k : Fin 768) (R : Fin 2048) (hR : R.val = t.val * 512 + r.val) :
    iblk m c 1 t (ix2 r k) = m ((c : Thread nD τ).loc main_arg1) (ix2 R k) := by
  blk_ext [iblk, V, idx t]
/-- The block of the projection weights is the whole array, and likewise for the windows below. -/
theorem iblk2 (t : Fin cfg0.N) : iblk m c 2 t = m ((c : Thread nD τ).loc main_arg2) := by
  funext y; blk_ext [iblk, V, idx t]
theorem iblk3 (t : Fin cfg0.N) : iblk m c 3 t = m ((c : Thread nD τ).loc main_arg3) := by
  funext y; blk_ext [iblk, V, idx t]
theorem iblk4 (t : Fin cfg0.N) : iblk m c 4 t = m ((c : Thread nD τ).loc main_arg4) := by
  funext y; blk_ext [iblk, V, idx t]
theorem iblk5 (t : Fin cfg0.N) : iblk m c 5 t = m ((c : Thread nD τ).loc main_arg5) := by
  funext y; blk_ext [iblk, V, idx t]
theorem iblk6 (t : Fin cfg0.N) : iblk m c 6 t = m ((c : Thread nD τ).loc main_arg6) := by
  funext y; blk_ext [iblk, V, idx t]
theorem iblk7 (t : Fin cfg0.N) : iblk m c 7 t = m ((c : Thread nD τ).loc main_arg7) := by
  funext y; blk_ext [iblk, V, idx t]
theorem iblk8 (t : Fin cfg0.N) : iblk m c 8 t = m ((c : Thread nD τ).loc main_arg8) := by
  funext y; blk_ext [iblk, V, idx t]

/-- The output block of point `t`, over the argument arrays' weights. -/
def outBlock (t : Fin cfg0.N) : Vec Ideal S512x768 .f32 :=
  block (iblk m c 0 t) (iblk m c 1 t) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- After every point: that point's output block, and the three weights in the scratch buffers. -/
theorem outsAt_eq : ∀ (n : ℕ) (h : n < cfg0.N), outsAt0 m c n h
    = (outBlock m c ⟨n, h⟩, m ((c : Thread nD τ).loc main_arg2), m ((c : Thread nD τ).loc main_arg5),
        m ((c : Thread nD τ).loc main_arg7))
  | 0, h => by
    rw [outsAt0_A m c ⟨0, h⟩ rfl, out_A, sout_A_0, sout_A_1, sout_A_2, iblk2, iblk3, iblk4, iblk5, iblk6, iblk7, iblk8]
    rfl
  | n + 1, h => by
    have hN : cfg0.N = 4 := N_0
    have hB : ¬(⟨n + 1, h⟩ : Fin cfg0.N).val % 4 = 0 := by dsimp only; omega
    rw [outsAt0_B m c ⟨n + 1, h⟩ hB, out_B, iblk3, iblk4, iblk6, iblk8]
    unfold sout0_B_0 sout0_B_1 sout0_B_2
    simp only [Nat.add_sub_cancel]
    rw [outsAt_eq n]
    rfl

/-- The result array at row `R`, column `j`. -/
theorem G9_apply (R : Fin 2048) (j : Fin 768) :
    Value.G9 m c (ix2 R j) = Spec.tail (fun k => m ((c : Thread nD τ).loc main_arg1) (ix2 R k))
      (fun k => m ((c : Thread nD τ).loc main_arg0) (ix2 R k))
      (fun k j => m ((c : Thread nD τ).loc main_arg2) (ix2 k j))
      (fun k => m ((c : Thread nD τ).loc main_arg3) (ix2 0 k)) (fun k => m ((c : Thread nD τ).loc main_arg4) (ix2 0 k))
      (fun k f => m ((c : Thread nD τ).loc main_arg5) (ix2 k f)) (fun f => m ((c : Thread nD τ).loc main_arg6) (ix2 0 f))
      (fun f j => m ((c : Thread nD τ).loc main_arg7) (ix2 f j)) (fun j => m ((c : Thread nD τ).loc main_arg8) (ix2 0 j)) j := by
  have hN : cfg0.N = 4 := N_0
  have hR := R.isLt
  have hj := j.isLt
  have hp : Value.pt9Of (ix2 R j) = R.val / 512 := by
    show 1 * (R.val / 512 - 0) + 1 * (j.val / 768 - 0) = _
    omega
  have hl : Value.loc9Of (ix2 R j) = ix2 ⟨R.val % 512, Nat.mod_lt _ (by decide)⟩ j := by
    funext a; apply Fin.ext
    match a with
    | ⟨0, _⟩ => rfl
    | ⟨1, _⟩ => show j.val % 768 = j.val; omega
  have h : Value.pt9Of (ix2 R j) < cfg0.N := by rw [hp]; omega
  unfold Value.G9
  rw [dif_pos h, ← Value.outsAt0_sweep m c _ h, outsAt_eq, hl]
  refine (Block.block_apply ..).trans ?_
  have e0 := fun k => iblk0 m c ⟨_, h⟩ ⟨R.val % 512, Nat.mod_lt _ (by decide)⟩ k R (by dsimp only; rw [hp]; omega)
  have e1 := fun k => iblk1 m c ⟨_, h⟩ ⟨R.val % 512, Nat.mod_lt _ (by decide)⟩ k R (by dsimp only; rw [hp]; omega)
  simp only [e0, e1]

end Cert.TailIdeal.Array

end
-- ==== Proof.TailRef.lean ====
/- What the tail's reference computes, element by element: the layer's tail of each row. -/
module

public import proofs.«01_k».proof.Proof.TailBlock
public import proofs.«01_k».proof.Proof.Gen.TailRefIdeal.Read

@[expose] public section

noncomputable section

namespace Cert.TailRefIdeal.Stages

open Idealize.ShloMosaic Cert.TailRefIdeal Cert.TailRefIdeal.Gen Cert.TailRefIdeal.Read

variable (x0 : Vec Ideal S2048x768 .bf16) (x1 : Vec Ideal S2048x768 .f32) (x2 : Vec Ideal S768x768 .f32)
  (x3 x4 : Vec Ideal S1x768 .f32) (x5 : Vec Ideal S768x3072 .f32) (x6 : Vec Ideal S1x3072 .f32)
  (x7 : Vec Ideal S3072x768 .f32) (x8 : Vec Ideal S1x768 .f32)

/-- The residual stage. -/
theorem v2_apply (R : Fin 2048) (j : Fin 768) : val_main_v2 x0 x1 x2 (ix2 R j)
    = Spec.resid (fun k => x1 (ix2 R k)) (fun k => x0 (ix2 R k)) (fun k j => x2 (ix2 k j)) j := by
  unfold val_main_v2 val_main_v1 val_main_v0 Spec.resid
  pointwise

/-- The mean of the residual row. -/
theorem v6_apply (R : Fin 2048) : val_main_v6 x0 x1 x2 (ix2 R 0) = Spec.mean fun k => val_main_v2 x0 x1 x2 (ix2 R k) := by
  unfold val_main_v6 val_main_v5 val_main_v4 val_main_v3 val_main_cst val_main_cst_0 Spec.mean
  generalize val_main_v2 x0 x1 x2 = y
  pointwise

/-- The variance of the residual row. -/
theorem v7_apply (R : Fin 2048) : val_main_v7 x0 x1 x2 (ix2 R 0) = Spec.var fun k => val_main_v2 x0 x1 x2 (ix2 R k) := by
  unfold val_main_v7 val_main_call0_v13 val_main_call0_v12 val_main_call0_v11 val_main_call0_v10 val_main_call0_v9
    val_main_call0_v8 val_main_call0_v7 val_main_call0_v6 val_main_call0_v5 val_main_call0_v4 val_main_call0_v3
    val_main_call0_v2 val_main_call0_v1 val_main_call0_v0 val_main_call0_cst val_main_call0_cst_0 val_main_call0_cst_1
    val_main_call0_cst_2 val_main_call0_cst_3 val_main_c Spec.var Spec.mean
  generalize val_main_v2 x0 x1 x2 = y
  pointwise
  rw [Spec.divisor, if_pos Spec.pos_768]

/-- The layer norm of the residual row. -/
theorem v18_apply (R : Fin 2048) (k : Fin 768) : val_main_v18 x0 x1 x2 x3 x4 (ix2 R k)
    = Spec.ln (fun k => val_main_v2 x0 x1 x2 (ix2 R k)) (fun k => x3 (ix2 0 k)) (fun k => x4 (ix2 0 k)) k := by
  rw [← Spec.ln_eq_div, ← v6_apply, ← v7_apply]
  unfold val_main_v18 val_main_v17 val_main_v16 val_main_v15 val_main_v14 val_main_v13 val_main_v12 val_main_v11
    val_main_v10 val_main_v9 val_main_v8 val_main_cst_1
  generalize val_main_v2 x0 x1 x2 = y
  generalize val_main_v6 x0 x1 x2 = mu
  generalize val_main_v7 x0 x1 x2 = va
  pointwise

/-- The hidden row before its activation. -/
theorem v21_apply (R : Fin 2048) (f : Fin 3072) : val_main_v21 x0 x1 x2 x3 x4 x5 x6 (ix2 R f)
    = Spec.hidden (fun k => val_main_v2 x0 x1 x2 (ix2 R k)) (fun k => x3 (ix2 0 k)) (fun k => x4 (ix2 0 k))
        (fun k f => x5 (ix2 k f)) (fun f => x6 (ix2 0 f)) f := by
  unfold val_main_v21 val_main_v20 val_main_v19 Spec.hidden
  pointwise [v18_apply]

/-- The activation: the two bracketings of the cube agree. -/
theorem v34_apply (R : Fin 2048) (f : Fin 3072) : val_main_v34 x0 x1 x2 x3 x4 x5 x6 (ix2 R f)
    = Spec.gelu (val_main_v21 x0 x1 x2 x3 x4 x5 x6 (ix2 R f)) := by
  unfold val_main_v34 val_main_v33 val_main_v32 val_main_v31 val_main_v30 val_main_v29 val_main_v28 val_main_v27
    val_main_v26 val_main_v25 val_main_v24 val_main_v23 val_main_v22 val_main_cst_2 val_main_cst_3 val_main_cst_4
    val_main_cst_5 Spec.gelu
  generalize val_main_v21 x0 x1 x2 x3 x4 x5 x6 = y
  pointwise [mul_assoc]

/-- The reference's result at row `R`, column `j`. -/
theorem v38_apply (R : Fin 2048) (j : Fin 768) : val_main_v38 x0 x1 x2 x3 x4 x5 x6 x7 x8 (ix2 R j)
    = Spec.tail (fun k => x1 (ix2 R k)) (fun k => x0 (ix2 R k)) (fun k j => x2 (ix2 k j)) (fun k => x3 (ix2 0 k))
        (fun k => x4 (ix2 0 k)) (fun k f => x5 (ix2 k f)) (fun f => x6 (ix2 0 f)) (fun f j => x7 (ix2 f j))
        (fun j => x8 (ix2 0 j)) j := by
  unfold val_main_v38 val_main_v37 val_main_v36 val_main_v35 Spec.tail
  pointwise [v34_apply, v21_apply, v2_apply]

end Cert.TailRefIdeal.Stages

end
-- ==== Proof.TailClaim.lean ====
/- The claims about the second kernel: its frames, its reference's frame, and the equality of their results. -/
module

public import proofs.«01_k».proof.Defs
public import proofs.«01_k».proof.Proof.TailValue
public import proofs.«01_k».proof.Proof.TailRef
public import proofs.«01_k».proof.Proof.Gen.Tail.Frame
public import proofs.«01_k».proof.Proof.Gen.TailRefIdeal.Run
public import Idealize.ShloMosaic.Lib.Quiescent

@[expose] public section

noncomputable section

namespace Cert.Proof.Tail

open Idealize.ShloMosaic Idealize.SL.Sem

/-- The kernel on machine words runs, keeps its arguments and leaves every semaphore at zero. -/
theorem words : Cert.quiescent_Tail (hTail := Cert.Tail.Gen.facts) := fun m ρ _ => Cert.Tail.Gen.frame m ρ

/-- The kernel on extended reals runs, keeps its arguments and leaves every semaphore at zero. -/
theorem ideal : Cert.quiescent_TailIdeal (hTailIdeal := Cert.TailIdeal.Gen.facts) := fun m ρ _ => Cert.TailIdeal.Gen.frame m ρ

/-- The reference runs and keeps its arguments; it has no semaphores. -/
theorem reference : Cert.quiescent_TailRefIdeal (hTailRefIdeal := Cert.TailRefIdeal.Gen.facts) := fun m ρ _ =>
  (θ_run Cert.TailRefIdeal.defs _ _).mono
    (fun r h => ⟨fun c => (h c).2, Idealize.ShloMosaic.sem_eq_zero_of_no_sems (by decide) r.2⟩)
    (Cert.TailRefIdeal.Value.run (F := Ideal) m ρ)

/-- From equal arguments, the reference's result is the kernel's. -/
theorem algebraic : Cert.algebraic_TailIdeal_TailRefIdeal (hTailIdeal := Cert.TailIdeal.Gen.facts)
    (hTailRefIdeal := Cert.TailRefIdeal.Gen.facts) := by
  intro m ρ m' ρ' _ hagree
  refine ⟨_, Cert.TailIdeal.Value.run (F := Ideal) m ρ, ?_⟩
  refine (θ_run Cert.TailRefIdeal.defs _ _).mono (fun _ h c => ⟨(h c).1.trans ?_, (h c).2⟩)
    (Cert.TailRefIdeal.Value.run (F := Ideal) m' ρ')
  obtain ⟨e0, e1, e2, e3, e4, e5, e6, e7, e8⟩ := hagree c
  rw [Cert.TailRefIdeal.Read.val_main_v38_eq, e0, e1, e2, e3, e4, e5, e6, e7, e8]
  funext i
  obtain ⟨R, j, rfl⟩ : ∃ (R : Fin 2048) (j : Fin 768), i = ix2 R j := ⟨i 0, i 1, eq_ix2 i⟩
  exact (Cert.TailRefIdeal.Stages.v38_apply ..).trans (Cert.TailIdeal.Array.G9_apply m c R j).symm

end Cert.Proof.Tail

end
-- ==== Proof.ProjBlock.lean ====
/- What one grid point of the first kernel computes: element by element, products of the layer norm of a row. -/
module

public import proofs.«01_k».proof.Proof.LayerNorm
public import proofs.«01_k».proof.Proof.Gen.ProjIdeal.Value
public import Idealize.ShloMosaic.Lib.Pointwise
public import Idealize.ShloMosaic.Lib.Pointwise.Tactic

@[expose] public section

noncomputable section

namespace Cert.Spec

open Idealize.ShloMosaic

/-- One entry of a row's projection: the layer norm of the row against a column of weights. -/
def proj {N : Nat} (x g b : Fin 768 → EReal) (w : Fin 768 → Fin N → EReal) (j : Fin N) : EReal := ∑ k, ln x g b k * w k j

end Cert.Spec

namespace Cert.ProjIdeal.Block

open Idealize.ShloMosaic Cert.ProjIdeal Cert.ProjIdeal.Gen

variable (x : Vec Ideal S512x768 .f32) (g b : Vec Ideal S1x768 .f32)

/-- The normalised block at row `r`, column `k`. -/
theorem pay6_apply (r : Fin 512) (k : Fin 768) :
    k0_pay6 x g b (ix2 r k) = Spec.ln (fun k => x (ix2 r k)) (fun k => g (ix2 0 k)) (fun k => b (ix2 0 k)) k := by
  unfold k0_pay6 Spec.ln Spec.var Spec.mean
  pointwise

/-- The block of the third projection. -/
theorem pay1_apply (w : Vec Ideal S768x768 .bf16) (r : Fin 512) (j : Fin 768) : k0_pay1 (k0_pay6 x g b) w (ix2 r j)
    = Spec.proj (fun k => x (ix2 r k)) (fun k => g (ix2 0 k)) (fun k => b (ix2 0 k)) (fun k j => w (ix2 k j)) j := by
  unfold k0_pay1 Spec.proj
  pointwise [pay6_apply]

/-- The block of the first projection is the same function of its weights. -/
theorem pay7_eq (w : Vec Ideal S768x768 .bf16) : k0_pay7 x g b w = k0_pay1 (k0_pay6 x g b) w := rfl

/-- The block of the second projection is the same function of its weights. -/
theorem pay8_eq (w : Vec Ideal S768x768 .bf16) : k0_pay8 x g b w = k0_pay1 (k0_pay6 x g b) w := rfl

/-- The block of the gates. -/
theorem pay2_apply (w : Vec Ideal S768x36 .bf16) (r : Fin 512) (j : Fin 36) : k0_pay2 (k0_pay6 x g b) w (ix2 r j)
    = Spec.proj (fun k => x (ix2 r k)) (fun k => g (ix2 0 k)) (fun k => b (ix2 0 k)) (fun k j => w (ix2 k j)) j := by
  unfold k0_pay2 Spec.proj
  pointwise [pay6_apply]

end Cert.ProjIdeal.Block

end
-- ==== Proof.ProjPoint.lean ====
/- What the body of the first kernel leaves at a grid point, in its two cases: the first point, which copies the
   weights into its scratch, and the later points, which find them there. -/
module

public import proofs.«01_k».proof.Proof.ProjBlock

@[expose] public section

noncomputable section

namespace Cert.ProjIdeal.Point

open Idealize.ShloMosaic Idealize.ShloMosaic.TcCoe Idealize.SL.Sem Cert.ProjIdeal Cert.ProjIdeal.Gen

theorem hz : (![0, 0] : Fin 2 → Nat) = fun _ => 0 := funext fun a => by fin_cases a <;> rfl

/-- The block of one of the three projections, from the point's rows and the projection's weights. -/
abbrev block (x : Vec Ideal S512x768 .f32) (g b : Vec Ideal S1x768 .f32) (w : Vec Ideal S768x768 .bf16) :
    Vec Ideal S512x768 .bf16 := k0_pay1 (k0_pay6 x g b) w
/-- The block of the gates. -/
abbrev gates (x : Vec Ideal S512x768 .f32) (g b : Vec Ideal S1x768 .f32) (w : Vec Ideal S768x36 .bf16) :
    Vec Ideal S512x36 .f32 := k0_pay2 (k0_pay6 x g b) w

/-- Copying a projection's weights into scratch changes no entry. -/
theorem pay3_eq (w : Vec Ideal S768x768 .f32) : k0_pay3 w = w := by
  funext j; unfold k0_pay3; pointwise
theorem pay4_eq (w : Vec Ideal S768x768 .f32) : k0_pay4 w = w := pay3_eq w
theorem pay5_eq (w : Vec Ideal S768x768 .f32) : k0_pay5 w = w := pay3_eq w

variable (c : Dev nD) (i : grid0.Coords)
  (a1 : Memref sig .tc .vmem S512x768 .f32) (h1 : a1.IsWhole)
  (a2 : Memref sig .tc .vmem S1x768 .f32) (h2 : a2.IsWhole)
  (a3 : Memref sig .tc .vmem S1x768 .f32) (h3 : a3.IsWhole)
  (a4 : Memref sig .tc .vmem S768x768 .f32) (h4 : a4.IsWhole)
  (a5 : Memref sig .tc .vmem S768x768 .f32) (h5 : a5.IsWhole)
  (a6 : Memref sig .tc .vmem S768x768 .f32) (h6 : a6.IsWhole)
  (a7 : Memref sig .tc .vmem S768x36 .bf16) (h7 : a7.IsWhole)
  (a8 : Memref sig .tc .vmem S512x768 .bf16) (h8 : a8.IsWhole)
  (a9 : Memref sig .tc .vmem S512x768 .bf16) (h9 : a9.IsWhole)
  (a10 : Memref sig .tc .vmem S512x768 .bf16) (h10 : a10.IsWhole)
  (a11 : Memref sig .tc .vmem S512x36 .f32) (h11 : a11.IsWhole)
  (a12 : Memref sig .tc .vmem S768x768 .bf16) (h12 : a12.IsWhole)
  (a13 : Memref sig .tc .vmem S768x768 .bf16) (h13 : a13.IsWhole)
  (a14 : Memref sig .tc .vmem S768x768 .bf16) (h14 : a14.IsWhole)
  (x0 : Vec Ideal S512x768 .f32) (x1 x2 : Vec Ideal S1x768 .f32) (x3 x4 x5 : Vec Ideal S768x768 .f32)
  (x6 : Vec Ideal S768x36 .bf16) (s0 s1 s2 : Vec Ideal S768x768 .bf16)

/-- A later point leaves the queries of its rows under the weights its scratch held. -/
theorem out_B_7 (hc : ¬cond0_0 i) :
    out0_B_7 c i a1 h1 a2 h2 a3 h3 a4 h4 a5 h5 a6 h6 a7 h7 a8 h8 a9 h9 a10 h10 a11 h11 a12 h12 a13 h13 a14 h14 hc
      x0 x1 x2 x3 x4 x5 x6 s0 s1 s2 = block x0 x1 x2 s0 := by
  unfold out0_B_7
  rw [View.read_writes_eq_canon _ _ _ (fun y => cover0_B_7 (y := y) ..)]
  unfold kernelRun0_B
  dsimp only
  sl_unfold_words
  rw [View.canon_unit_zero hz]
  simp only [View.readAt_eq_ld, h1.read_unread, h2.read_unread, h3.read_unread, h12.read_unread,
    View.ld_unit_zero (S := S512x768) hz, View.ld_unit_zero (S := S1x768) hz, View.ld_unit_zero (S := S768x768) hz, Block.pay7_eq]

/-- A later point leaves the keys of its rows under the weights its scratch held. -/
theorem out_B_8 (hc : ¬cond0_0 i) :
    out0_B_8 c i a1 h1 a2 h2 a3 h3 a4 h4 a5 h5 a6 h6 a7 h7 a8 h8 a9 h9 a10 h10 a11 h11 a12 h12 a13 h13 a14 h14 hc
      x0 x1 x2 x3 x4 x5 x6 s0 s1 s2 = block x0 x1 x2 s1 := by
  unfold out0_B_8
  rw [View.read_writes_eq_canon _ _ _ (fun y => cover0_B_8 (y := y) ..)]
  unfold kernelRun0_B
  dsimp only
  sl_unfold_words
  rw [View.canon_unit_zero hz]
  simp only [View.readAt_eq_ld, h1.read_unread, h2.read_unread, h3.read_unread, h13.read_unread,
    View.ld_unit_zero (S := S512x768) hz, View.ld_unit_zero (S := S1x768) hz, View.ld_unit_zero (S := S768x768) hz, Block.pay8_eq]

/-- A later point leaves the values of its rows under the weights its scratch held. -/
theorem out_B_9 (hc : ¬cond0_0 i) :
    out0_B_9 c i a1 h1 a2 h2 a3 h3 a4 h4 a5 h5 a6 h6 a7 h7 a8 h8 a9 h9 a10 h10 a11 h11 a12 h12 a13 h13 a14 h14 hc
      x0 x1 x2 x3 x4 x5 x6 s0 s1 s2 = block x0 x1 x2 s2 := by
  unfold out0_B_9
  rw [View.read_writes_eq_canon _ _ _ (fun y => cover0_B_9 (y := y) ..)]
  unfold kernelRun0_B
  dsimp only
  sl_unfold_words
  rw [View.canon_unit_zero hz]
  simp only [View.readAt_eq_ld, h1.read_unread, h2.read_unread, h3.read_unread, h14.read_unread,
    View.ld_unit_zero (S := S512x768) hz, View.ld_unit_zero (S := S1x768) hz, View.ld_unit_zero (S := S768x768) hz]

/-- A later point leaves the gates of its rows. -/
theorem out_B_10 (hc : ¬cond0_0 i) :
    out0_B_10 c i a1 h1 a2 h2 a3 h3 a4 h4 a5 h5 a6 h6 a7 h7 a8 h8 a9 h9 a10 h10 a11 h11 a12 h12 a13 h13 a14 h14 hc
      x0 x1 x2 x3 x4 x5 x6 s0 s1 s2 = gates x0 x1 x2 x6 := by
  unfold out0_B_10
  rw [View.read_writes_eq_canon _ _ _ (fun y => cover0_B_10 (y := y) ..)]
  unfold kernelRun0_B
  dsimp only
  sl_unfold_words
  rw [View.canon_unit_zero hz]
  simp only [View.readAt_eq_ld, h1.read_unread, h2.read_unread, h3.read_unread, h7.read_unread,
    View.ld_unit_zero (S := S512x768) hz, View.ld_unit_zero (S := S1x768) hz, View.ld_unit_zero (S := S768x36) hz]

/-- The first point leaves the queries of its rows under the weights it has just copied. -/
theorem out_A_7 (hc : cond0_0 i) :
    out0_A_7 c i a1 h1 a2 h2 a3 h3 a4 h4 a5 h5 a6 h6 a7 h7 a8 h8 a9 h9 a10 h10 a11 h11 a12 h12 a13 h13 a14 h14 hc
      x0 x1 x2 x3 x4 x5 x6 = block x0 x1 x2 x3 := by
  unfold out0_A_7
  rw [View.read_writes_eq_canon _ _ _ (fun y => cover0_A_7 (y := y) ..)]
  unfold kernelRun0_A
  dsimp only
  sl_unfold_words
  rw [View.canon_unit_zero hz]
  simp only [View.readCov_unit_zero (S := S768x768) _ hz, View.readAt_eq_ld, h1.read_unread, h2.read_unread, h3.read_unread,
    h4.read_unread, View.ld_unit_zero (S := S512x768) hz, View.ld_unit_zero (S := S1x768) hz,
    View.ld_unit_zero (S := S768x768) hz, Block.pay7_eq, pay3_eq]

/-- The first point leaves the keys of its rows under the weights it has just copied. -/
theorem out_A_8 (hc : cond0_0 i) :
    out0_A_8 c i a1 h1 a2 h2 a3 h3 a4 h4 a5 h5 a6 h6 a7 h7 a8 h8 a9 h9 a10 h10 a11 h11 a12 h12 a13 h13 a14 h14 hc
      x0 x1 x2 x3 x4 x5 x6 = block x0 x1 x2 x4 := by
  unfold out0_A_8
  rw [View.read_writes_eq_canon _ _ _ (fun y => cover0_A_8 (y := y) ..)]
  unfold kernelRun0_A
  dsimp only
  sl_unfold_words
  rw [View.canon_unit_zero hz]
  simp only [View.readCov_unit_zero (S := S768x768) _ hz, View.readAt_eq_ld, h1.read_unread, h2.read_unread, h3.read_unread,
    h5.read_unread, View.ld_unit_zero (S := S512x768) hz, View.ld_unit_zero (S := S1x768) hz,
    View.ld_unit_zero (S := S768x768) hz, Block.pay8_eq, pay4_eq]

/-- The first point leaves the values of its rows under the weights it has just copied. -/
theorem out_A_9 (hc : cond0_0 i) :
    out0_A_9 c i a1 h1 a2 h2 a3 h3 a4 h4 a5 h5 a6 h6 a7 h7 a8 h8 a9 h9 a10 h10 a11 h11 a12 h12 a13 h13 a14 h14 hc
      x0 x1 x2 x3 x4 x5 x6 = block x0 x1 x2 x5 := by
  unfold out0_A_9
  rw [View.read_writes_eq_canon _ _ _ (fun y => cover0_A_9 (y := y) ..)]
  unfold kernelRun0_A
  dsimp only
  sl_unfold_words
  rw [View.canon_unit_zero hz]
  simp only [View.readCov_unit_zero (S := S768x768) _ hz, View.readAt_eq_ld, h1.read_unread, h2.read_unread, h3.read_unread,
    h6.read_unread, View.ld_unit_zero (S := S512x768) hz, View.ld_unit_zero (S := S1x768) hz,
    View.ld_unit_zero (S := S768x768) hz, pay5_eq]

/-- The first point leaves the gates of its rows. -/
theorem out_A_10 (hc : cond0_0 i) :
    out0_A_10 c i a1 h1 a2 h2 a3 h3 a4 h4 a5 h5 a6 h6 a7 h7 a8 h8 a9 h9 a10 h10 a11 h11 a12 h12 a13 h13 a14 h14 hc
      x0 x1 x2 x3 x4 x5 x6 = gates x0 x1 x2 x6 := by
  unfold out0_A_10
  rw [View.read_writes_eq_canon _ _ _ (fun y => cover0_A_10 (y := y) ..)]
  unfold kernelRun0_A
  dsimp only
  sl_unfold_words
  rw [View.canon_unit_zero hz]
  simp only [View.readAt_eq_ld, h1.read_unread, h2.read_unread, h3.read_unread,
    h7.read_unread, View.ld_unit_zero (S := S512x768) hz, View.ld_unit_zero (S := S1x768) hz,
    View.ld_unit_zero (S := S768x36) hz]

/-- The first point leaves the weights of the queries in its scratch. -/
theorem sout_A_0 (hc : cond0_0 i) :
    sout0_A_0 c i a1 h1 a2 h2 a3 h3 a4 h4 a5 h5 a6 h6 a7 h7 a8 h8 a9 h9 a10 h10 a11 h11 a12 h12 a13 h13 a14 h14 hc
      x0 x1 x2 x3 x4 x5 x6 = x3 := by
  unfold sout0_A_0
  rw [View.read_writes_eq_canon _ _ _ (fun y => scover0_A_0 (y := y) ..)]
  unfold kernelRun0_A
  dsimp only
  sl_unfold_words
  rw [View.canon_unit_zero hz]
  simp only [View.readAt_eq_ld, h4.read_unread, View.ld_unit_zero (S := S768x768) hz, pay3_eq]

/-- The first point leaves the weights of the keys in its scratch. -/
theorem sout_A_1 (hc : cond0_0 i) :
    sout0_A_1 c i a1 h1 a2 h2 a3 h3 a4 h4 a5 h5 a6 h6 a7 h7 a8 h8 a9 h9 a10 h10 a11 h11 a12 h12 a13 h13 a14 h14 hc
      x0 x1 x2 x3 x4 x5 x6 = x4 := by
  unfold sout0_A_1
  rw [View.read_writes_eq_canon _ _ _ (fun y => scover0_A_1 (y := y) ..)]
  unfold kernelRun0_A
  dsimp only
  sl_unfold_words
  rw [View.canon_unit_zero hz]
  simp only [View.readAt_eq_ld, h5.read_unread, View.ld_unit_zero (S := S768x768) hz, pay4_eq]

/-- The first point leaves the weights of the values in its scratch. -/
theorem sout_A_2 (hc : cond0_0 i) :
    sout0_A_2 c i a1 h1 a2 h2 a3 h3 a4 h4 a5 h5 a6 h6 a7 h7 a8 h8 a9 h9 a10 h10 a11 h11 a12 h12 a13 h13 a14 h14 hc
      x0 x1 x2 x3 x4 x5 x6 = x5 := by
  unfold sout0_A_2
  rw [View.read_writes_eq_canon _ _ _ (fun y => scover0_A_2 (y := y) ..)]
  unfold kernelRun0_A
  dsimp only
  sl_unfold_words
  rw [View.canon_unit_zero hz]
  simp only [View.readAt_eq_ld, h6.read_unread, View.ld_unit_zero (S := S768x768) hz, pay5_eq]

end Cert.ProjIdeal.Point

end
-- ==== Proof.ProjValue.lean ====
/- The four arrays the first kernel leaves: at every row and column, a product of the layer norm of that row. -/
module

public import proofs.«01_k».proof.Proof.ProjPoint
public import Idealize.ShloMosaic.Lib.Pipeline.ValueKit

@[expose] public section

noncomputable section

namespace Cert.ProjIdeal.Array

open Idealize.ShloMosaic Idealize.ShloMosaic.TcCoe Idealize.SL.Sem Cert.ProjIdeal Cert.ProjIdeal.Gen Cert.ProjIdeal.Point

variable (m : (ℓ : Loc nD τ sig) → Buf (Elt Ideal) ℓ) (c : Dev nD)

/-- Where the input windows stand at a point: the rows' block at the point's number, the weights at their only block. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Row `r` of the block at point `t` is row `512 t + r` of the array. -/
theorem iblk0 (t : Fin cfg0.N) (r : Fin 512) (k : Fin 768) (R : Fin 2048) (hR : R.val = t.val * 512 + r.val) :
    iblk m c 0 t (ix2 r k) = m ((c : Thread nD τ).loc main_arg0) (ix2 R k) := by
  blk_ext [iblk, V, idx t]
/-- The block of the layer norm's scale is the whole array, and likewise for the windows below. -/
theorem iblk1 (t : Fin cfg0.N) : iblk m c 1 t = m ((c : Thread nD τ).loc main_arg1) := by
  funext y; blk_ext [iblk, V, idx t]
theorem iblk2 (t : Fin cfg0.N) : iblk m c 2 t = m ((c : Thread nD τ).loc main_arg2) := by
  funext y; blk_ext [iblk, V, idx t]
theorem iblk3 (t : Fin cfg0.N) : iblk m c 3 t = m ((c : Thread nD τ).loc main_arg3) := by
  funext y; blk_ext [iblk, V, idx t]
theorem iblk4 (t : Fin cfg0.N) : iblk m c 4 t = m ((c : Thread nD τ).loc main_arg4) := by
  funext y; blk_ext [iblk, V, idx t]
theorem iblk5 (t : Fin cfg0.N) : iblk m c 5 t = m ((c : Thread nD τ).loc main_arg5) := by
  funext y; blk_ext [iblk, V, idx t]
theorem iblk6 (t : Fin cfg0.N) : iblk m c 6 t = m ((c : Thread nD τ).loc main_arg6) := by
  funext y; blk_ext [iblk, V, idx t]

/-- The block of one projection at point `t`, over the argument arrays. -/
def outBlock (w : Vec Ideal S768x768 .bf16) (t : Fin cfg0.N) : Vec Ideal S512x768 .bf16 :=
  block (iblk m c 0 t) (m ((c : Thread nD τ).loc main_arg1)) (m ((c : Thread nD τ).loc main_arg2)) w

/-- The block of the gates at point `t`, over the argument arrays. -/
def gateBlock (t : Fin cfg0.N) : Vec Ideal S512x36 .f32 :=
  gates (iblk m c 0 t) (m ((c : Thread nD τ).loc main_arg1)) (m ((c : Thread nD τ).loc main_arg2))
    (m ((c : Thread nD τ).loc main_arg6))

/-- After every point: that point's four output blocks, and the three weights in the scratch buffers. -/
theorem outsAt_eq : ∀ (n : ℕ) (h : n < cfg0.N), outsAt0 m c n h
    = (outBlock m c (m ((c : Thread nD τ).loc main_arg3)) ⟨n, h⟩, outBlock m c (m ((c : Thread nD τ).loc main_arg4)) ⟨n, h⟩,
        outBlock m c (m ((c : Thread nD τ).loc main_arg5)) ⟨n, h⟩, gateBlock m c ⟨n, h⟩,
        m ((c : Thread nD τ).loc main_arg3), m ((c : Thread nD τ).loc main_arg4), m ((c : Thread nD τ).loc main_arg5))
  | 0, h => by
    rw [outsAt0_A m c ⟨0, h⟩ rfl, out_A_7, out_A_8, out_A_9, out_A_10, sout_A_0, sout_A_1, sout_A_2, iblk1, iblk2, iblk3,
      iblk4, iblk5, iblk6]
    rfl
  | n + 1, h => by
    have hN : cfg0.N = 4 := N_0
    have hB : ¬(⟨n + 1, h⟩ : Fin cfg0.N).val % 4 = 0 := by dsimp only; omega
    rw [outsAt0_B m c ⟨n + 1, h⟩ hB, out_B_7, out_B_8, out_B_9, out_B_10, iblk1, iblk2, iblk6]
    unfold sout0_B_0 sout0_B_1 sout0_B_2
    simp only [Nat.add_sub_cancel]
    rw [outsAt_eq n]
    rfl

/-- A projection's block at the row within it that holds row `R` of the array. -/
theorem outBlock_apply (w : Vec Ideal S768x768 .bf16) (t : Fin cfg0.N) (R : Fin 2048) (j : Fin 768) (ht : t.val = R.val / 512) :
    outBlock m c w t (ix2 ⟨R.val % 512, Nat.mod_lt _ (by decide)⟩ j)
      = Spec.proj (fun k => m ((c : Thread nD τ).loc main_arg0) (ix2 R k))
        (fun k => m ((c : Thread nD τ).loc main_arg1) (ix2 0 k)) (fun k => m ((c : Thread nD τ).loc main_arg2) (ix2 0 k))
        (fun k j => w (ix2 k j)) j := by
  refine (Block.pay1_apply ..).trans ?_
  have e := fun k => iblk0 m c t ⟨R.val % 512, Nat.mod_lt _ (by decide)⟩ k R (by dsimp only; rw [ht]; omega)
  simp only [e]

/-- The gates' block at the row within it that holds row `R` of the array. -/
theorem gateBlock_apply (t : Fin cfg0.N) (R : Fin 2048) (j : Fin 36) (ht : t.val = R.val / 512) :
    gateBlock m c t (ix2 ⟨R.val % 512, Nat.mod_lt _ (by decide)⟩ j)
      = Spec.proj (fun k => m ((c : Thread nD τ).loc main_arg0) (ix2 R k))
        (fun k => m ((c : Thread nD τ).loc main_arg1) (ix2 0 k)) (fun k => m ((c : Thread nD τ).loc main_arg2) (ix2 0 k))
        (fun k j => m ((c : Thread nD τ).loc main_arg6) (ix2 k j)) j := by
  refine (Block.pay2_apply ..).trans ?_
  have e := fun k => iblk0 m c t ⟨R.val % 512, Nat.mod_lt _ (by decide)⟩ k R (by dsimp only; rw [ht]; omega)
  simp only [e]

/-- The point that writes row `R` of the queries, keys and values. -/
theorem pt_eq (R : Fin 2048) (j : Fin 768) : Value.pt7Of (ix2 R j) = R.val / 512 := by
  have hj := j.isLt
  show 1 * (R.val / 512 - 0) + 1 * (j.val / 768 - 0) = _
  omega

/-- The place of row `R` of the queries, keys and values in its block. -/
theorem loc_eq (R : Fin 2048) (j : Fin 768) : Value.loc7Of (ix2 R j) = ix2 ⟨R.val % 512, Nat.mod_lt _ (by decide)⟩ j := by
  have hj := j.isLt
  funext a; apply Fin.ext
  match a with
  | ⟨0, _⟩ => rfl
  | ⟨1, _⟩ => show j.val % 768 = j.val; omega

/-- A row's point is on the grid. -/
theorem row_lt (R : Fin 2048) : R.val / 512 < cfg0.N := by
  have hN : cfg0.N = 4 := N_0
  have hR := R.isLt
  omega

/-- The array of queries. -/
theorem G7_apply (R : Fin 2048) (j : Fin 768) : Value.G7 m c (ix2 R j)
    = Spec.proj (fun k => m ((c : Thread nD τ).loc main_arg0) (ix2 R k))
      (fun k => m ((c : Thread nD τ).loc main_arg1) (ix2 0 k)) (fun k => m ((c : Thread nD τ).loc main_arg2) (ix2 0 k))
      (fun k j => m ((c : Thread nD τ).loc main_arg3) (ix2 k j)) j := by
  have h : Value.pt7Of (ix2 R j) < cfg0.N := by rw [pt_eq]; exact row_lt R
  unfold Value.G7
  rw [dif_pos h, ← Value.outsAt0_sweep m c _ h, outsAt_eq, loc_eq]
  exact outBlock_apply m c _ _ R j (pt_eq R j)

/-- The array of keys. -/
theorem G8_apply (R : Fin 2048) (j : Fin 768) : Value.G8 m c (ix2 R j)
    = Spec.proj (fun k => m ((c : Thread nD τ).loc main_arg0) (ix2 R k))
      (fun k => m ((c : Thread nD τ).loc main_arg1) (ix2 0 k)) (fun k => m ((c : Thread nD τ).loc main_arg2) (ix2 0 k))
      (fun k j => m ((c : Thread nD τ).loc main_arg4) (ix2 k j)) j := by
  have hp : Value.pt8Of (ix2 R j) = R.val / 512 := pt_eq R j
  have hl : Value.loc8Of (ix2 R j) = ix2 ⟨R.val % 512, Nat.mod_lt _ (by decide)⟩ j := loc_eq R j
  have h : Value.pt8Of (ix2 R j) < cfg0.N := by rw [hp]; exact row_lt R
  unfold Value.G8
  rw [dif_pos h, ← Value.outsAt0_sweep m c _ h, outsAt_eq, hl]
  exact outBlock_apply m c _ _ R j hp

/-- The array of values. -/
theorem G9_apply (R : Fin 2048) (j : Fin 768) : Value.G9 m c (ix2 R j)
    = Spec.proj (fun k => m ((c : Thread nD τ).loc main_arg0) (ix2 R k))
      (fun k => m ((c : Thread nD τ).loc main_arg1) (ix2 0 k)) (fun k => m ((c : Thread nD τ).loc main_arg2) (ix2 0 k))
      (fun k j => m ((c : Thread nD τ).loc main_arg5) (ix2 k j)) j := by
  have hp : Value.pt9Of (ix2 R j) = R.val / 512 := pt_eq R j
  have hl : Value.loc9Of (ix2 R j) = ix2 ⟨R.val % 512, Nat.mod_lt _ (by decide)⟩ j := loc_eq R j
  have h : Value.pt9Of (ix2 R j) < cfg0.N := by rw [hp]; exact row_lt R
  unfold Value.G9
  rw [dif_pos h, ← Value.outsAt0_sweep m c _ h, outsAt_eq, hl]
  exact outBlock_apply m c _ _ R j hp

/-- The array of gates. -/
theorem G10_apply (R : Fin 2048) (j : Fin 36) : Value.G10 m c (ix2 R j)
    = Spec.proj (fun k => m ((c : Thread nD τ).loc main_arg0) (ix2 R k))
      (fun k => m ((c : Thread nD τ).loc main_arg1) (ix2 0 k)) (fun k => m ((c : Thread nD τ).loc main_arg2) (ix2 0 k))
      (fun k j => m ((c : Thread nD τ).loc main_arg6) (ix2 k j)) j := by
  have hj := j.isLt
  have hp : Value.pt10Of (ix2 R j) = R.val / 512 := by
    show 1 * (R.val / 512 - 0) + 1 * (j.val / 36 - 0) = _
    omega
  have hl : Value.loc10Of (ix2 R j) = ix2 ⟨R.val % 512, Nat.mod_lt _ (by decide)⟩ j := by
    funext a; apply Fin.ext
    match a with
    | ⟨0, _⟩ => rfl
    | ⟨1, _⟩ => show j.val % 36 = j.val; omega
  have h : Value.pt10Of (ix2 R j) < cfg0.N := by rw [hp]; exact row_lt R
  unfold Value.G10
  rw [dif_pos h, ← Value.outsAt0_sweep m c _ h, outsAt_eq, hl]
  exact gateBlock_apply m c _ R j hp

end Cert.ProjIdeal.Array

end
-- ==== Proof.ProjRef.lean ====
/- What the projections' reference computes, element by element: products of the layer norm of each row. -/
module

public import proofs.«01_k».proof.Proof.ProjBlock
public import proofs.«01_k».proof.Proof.Gen.ProjRefIdeal.Read

@[expose] public section

noncomputable section

namespace Cert.ProjRefIdeal.Stages

open Idealize.ShloMosaic Cert.ProjRefIdeal Cert.ProjRefIdeal.Gen Cert.ProjRefIdeal.Read

variable (x0 : Vec Ideal S2048x768 .f32) (x1 x2 : Vec Ideal S1x768 .f32) (x3 x4 x5 : Vec Ideal S768x768 .f32)
  (x6 : Vec Ideal S768x36 .bf16)

/-- The mean of a row. -/
theorem v3_apply (R : Fin 2048) : val_main_v3 x0 (ix2 R 0) = Spec.mean fun k => x0 (ix2 R k) := by
  unfold val_main_v3 val_main_v2 val_main_v1 val_main_v0 val_main_cst val_main_cst_0 Spec.mean
  pointwise

/-- The variance of a row. -/
theorem v4_apply (R : Fin 2048) : val_main_v4 x0 (ix2 R 0) = Spec.var fun k => x0 (ix2 R k) := by
  unfold val_main_v4 val_main_call0_v13 val_main_call0_v12 val_main_call0_v11 val_main_call0_v10 val_main_call0_v9
    val_main_call0_v8 val_main_call0_v7 val_main_call0_v6 val_main_call0_v5 val_main_call0_v4 val_main_call0_v3
    val_main_call0_v2 val_main_call0_v1 val_main_call0_v0 val_main_call0_cst val_main_call0_cst_0 val_main_call0_cst_1
    val_main_call0_cst_2 val_main_call0_cst_3 val_main_c Spec.var Spec.mean
  pointwise
  rw [Spec.divisor, if_pos Spec.pos_768]

/-- The layer norm of a row. -/
theorem v15_apply (R : Fin 2048) (k : Fin 768) : val_main_v15 x0 x1 x2 (ix2 R k)
    = Spec.ln (fun k => x0 (ix2 R k)) (fun k => x1 (ix2 0 k)) (fun k => x2 (ix2 0 k)) k := by
  rw [← Spec.ln_eq_div, ← v3_apply, ← v4_apply]
  unfold val_main_v15 val_main_v14 val_main_v13 val_main_v12 val_main_v11 val_main_v10 val_main_v9 val_main_v8
    val_main_v7 val_main_v6 val_main_v5 val_main_cst_1
  generalize val_main_v3 x0 = mu
  generalize val_main_v4 x0 = va
  pointwise

/-- The queries. -/
theorem v17_apply (R : Fin 2048) (j : Fin 768) : val_main_v17 x0 x1 x2 x3 (ix2 R j) = Spec.proj (fun k => x0 (ix2 R k))
    (fun k => x1 (ix2 0 k)) (fun k => x2 (ix2 0 k)) (fun k j => x3 (ix2 k j)) j := by
  unfold val_main_v17 val_main_v16 Spec.proj
  pointwise [v15_apply]

/-- The keys. -/
theorem v19_apply (R : Fin 2048) (j : Fin 768) : val_main_v19 x0 x1 x2 x4 (ix2 R j) = Spec.proj (fun k => x0 (ix2 R k))
    (fun k => x1 (ix2 0 k)) (fun k => x2 (ix2 0 k)) (fun k j => x4 (ix2 k j)) j := v17_apply x0 x1 x2 x4 R j

/-- The values. -/
theorem v21_apply (R : Fin 2048) (j : Fin 768) : val_main_v21 x0 x1 x2 x5 (ix2 R j) = Spec.proj (fun k => x0 (ix2 R k))
    (fun k => x1 (ix2 0 k)) (fun k => x2 (ix2 0 k)) (fun k j => x5 (ix2 k j)) j := v17_apply x0 x1 x2 x5 R j

/-- The gates. -/
theorem v23_apply (R : Fin 2048) (j : Fin 36) : val_main_v23 x0 x1 x2 x6 (ix2 R j) = Spec.proj (fun k => x0 (ix2 R k))
    (fun k => x1 (ix2 0 k)) (fun k => x2 (ix2 0 k)) (fun k j => x6 (ix2 k j)) j := by
  unfold val_main_v23 val_main_v22 Spec.proj
  pointwise [v15_apply]

end Cert.ProjRefIdeal.Stages

end
-- ==== Proof.ProjClaim.lean ====
/- The claims about the first kernel: its frames, its reference's frame, and the equality of their four results. -/
module

public import proofs.«01_k».proof.Defs
public import proofs.«01_k».proof.Proof.ProjValue
public import proofs.«01_k».proof.Proof.ProjRef
public import proofs.«01_k».proof.Proof.Gen.Proj.Frame
public import proofs.«01_k».proof.Proof.Gen.ProjRefIdeal.Run
public import Idealize.ShloMosaic.Lib.Quiescent

@[expose] public section

noncomputable section

namespace Cert.Proof.Proj

open Idealize.ShloMosaic Idealize.SL.Sem

/-- The kernel on machine words runs, keeps its arguments and leaves every semaphore at zero. -/
theorem words : Cert.quiescent_Proj (hProj := Cert.Proj.Gen.facts) := fun m ρ _ => Cert.Proj.Gen.frame m ρ

/-- The kernel on extended reals runs, keeps its arguments and leaves every semaphore at zero. -/
theorem ideal : Cert.quiescent_ProjIdeal (hProjIdeal := Cert.ProjIdeal.Gen.facts) := fun m ρ _ => Cert.ProjIdeal.Gen.frame m ρ

/-- The reference runs and keeps its arguments; it has no semaphores. -/
theorem reference : Cert.quiescent_ProjRefIdeal (hProjRefIdeal := Cert.ProjRefIdeal.Gen.facts) := fun m ρ _ =>
  (θ_run Cert.ProjRefIdeal.defs _ _).mono
    (fun r h => ⟨fun c => (h c).2.2.2.2, Idealize.ShloMosaic.sem_eq_zero_of_no_sems (by decide) r.2⟩)
    (Cert.ProjRefIdeal.Value.run (F := Ideal) m ρ)

/-- From equal arguments, the reference's four results are the kernel's. -/
theorem algebraic : Cert.algebraic_ProjIdeal_ProjRefIdeal (hProjIdeal := Cert.ProjIdeal.Gen.facts)
    (hProjRefIdeal := Cert.ProjRefIdeal.Gen.facts) := by
  intro m ρ m' ρ' _ hagree
  refine ⟨_, _, _, _, Cert.ProjIdeal.Value.run (F := Ideal) m ρ, ?_⟩
  refine (θ_run Cert.ProjRefIdeal.defs _ _).mono (fun _ h c => ⟨(h c).1.trans ?_, (h c).2.1.trans ?_, (h c).2.2.1.trans ?_,
    (h c).2.2.2.1.trans ?_, (h c).2.2.2.2⟩) (Cert.ProjRefIdeal.Value.run (F := Ideal) m' ρ')
  all_goals
    obtain ⟨e0, e1, e2, e3, e4, e5, e6⟩ := hagree c
    rw [e0, e1, e2]
  · rw [e3, Cert.ProjRefIdeal.Read.val_main_v17_eq]
    funext i
    obtain ⟨R, j, rfl⟩ : ∃ (R : Fin 2048) (j : Fin 768), i = ix2 R j := ⟨i 0, i 1, eq_ix2 i⟩
    exact (Cert.ProjRefIdeal.Stages.v17_apply ..).trans (Cert.ProjIdeal.Array.G7_apply m c R j).symm
  · rw [e4, Cert.ProjRefIdeal.Read.val_main_v19_eq]
    funext i
    obtain ⟨R, j, rfl⟩ : ∃ (R : Fin 2048) (j : Fin 768), i = ix2 R j := ⟨i 0, i 1, eq_ix2 i⟩
    exact (Cert.ProjRefIdeal.Stages.v19_apply ..).trans (Cert.ProjIdeal.Array.G8_apply m c R j).symm
  · rw [e5, Cert.ProjRefIdeal.Read.val_main_v21_eq]
    funext i
    obtain ⟨R, j, rfl⟩ : ∃ (R : Fin 2048) (j : Fin 768), i = ix2 R j := ⟨i 0, i 1, eq_ix2 i⟩
    exact (Cert.ProjRefIdeal.Stages.v21_apply ..).trans (Cert.ProjIdeal.Array.G9_apply m c R j).symm
  · rw [e6, Cert.ProjRefIdeal.Read.val_main_v23_eq]
    funext i
    obtain ⟨R, j, rfl⟩ : ∃ (R : Fin 2048) (j : Fin 36), i = ix2 R j := ⟨i 0, i 1, eq_ix2 i⟩
    exact (Cert.ProjRefIdeal.Stages.v23_apply ..).trans (Cert.ProjIdeal.Array.G10_apply m c R j).symm

end Cert.Proof.Proj

end
-- ==== Proof.AttnBHead.lean ====
/- One head of the attention kernel's body, on the head's own columns of the blocks, and the body's output block as its
   six heads side by side. -/
module

public import proofs.«01_k».proof.Proof.Gen.AttnBIdeal.Value

@[expose] public section

noncomputable section

namespace Cert.AttnBIdeal.Head

open Idealize.ShloMosaic Cert.AttnBIdeal Cert.AttnBIdeal.Gen

/-- The queries times 1/8. -/
def scaled (q : FVec Ideal S512x64 .bf16) : FVec Ideal S512x64 .bf16 :=
  mulf q (broadcast S512x64 (Scalar.ofBits .bf16 0x3E00#16))

/-- The scores of all keys. -/
def scores (q : FVec Ideal S512x64 .bf16) (k : FVec Ideal S1024x64 .bf16) : FVec Ideal S512x1024 .f32 :=
  matmul dot_S512x64_S1024x64_S512x1024_1_1_0_0_n_n none q k (constant S512x1024 .f32 0x00000000#32)

/-- Each row's greatest score. -/
def top (s : FVec Ideal S512x1024 .f32) : FVec Ideal S512x1 .f32 :=
  shapeCast S512x1 (multiReduction .maximumf [1] S512 s 0xFF800000#32 reduces_S512x1024_S512 (.inl rfl) rfl)
    shapeCasts_S512_S512x1

/-- The exponentials of the scores less the row's greatest. -/
def expo (s : FVec Ideal S512x1024 .f32) : FVec Ideal S512x1024 .f32 :=
  exp (subf s (broadcastTo S512x1024 (top s) broadcasts_S512x1_S512x1024))

/-- The mean of each block of keys, or of values, times a matrix: the compressed keys, or values. -/
def comp (x : FVec Ideal S1024x64 .bf16) (W : FVec Ideal S64x64 .bf16) : FVec Ideal S32x64 .f32 :=
  matmul dot_S32x64_S64x64_S32x64_1_0_0_1_n_n none
    (truncf .bf16 (mulf (matmul dot_S32x1024_S1024x64_S32x64_1_0_0_1_n_n none k0_pay2 x (constant S32x64 .f32 0x00000000#32))
      (broadcast S32x64 (Scalar.ofBits .f32 0x3D000000#32))) bitsLt_bf16_f32)
    W (constant S32x64 .f32 0x00000000#32)

/-- Which blocks end at or before the row. -/
def ended : IVec S32x512 1 := k0_pay6 k0_pay3 k0_pay4 k0_pay5

/-- The probabilities of the blocks, transposed. -/
def probs (q : FVec Ideal S512x64 .bf16) (kc : FVec Ideal S32x64 .f32) : FVec Ideal S32x512 .f32 :=
  k0_pay17 k0_pay3 ended q kc

/-- The importance of the blocks: the probability, and -1 for a block that has not ended. -/
def importance (p : FVec Ideal S32x512 .f32) : FVec Ideal S32x512 .f32 :=
  select ended p (broadcast S32x512 (Scalar.ofBits .f32 0xBF800000#32))

/-- One mark in each column: the first block of greatest importance. -/
def mark (x : FVec Ideal S32x512 .f32) : IVec S32x512 1 :=
  cmpi .eq (iota .tc S32x512 32 [0] iota_S32x512_d0_w32)
    (broadcastTo S32x512 (shapeCast S1x512 (multiReductionI .minsi [0] S512
      (select (cmpf .oeq x (broadcastTo S32x512 (shapeCast S1x512
          (multiReduction .maximumf [0] S512 x 0xFF800000#32 reduces_S32x512_S512 (.inl rfl) rfl) shapeCasts_S512_S1x512)
          broadcasts_S1x512_S32x512))
        (iota .tc S32x512 32 [0] iota_S32x512_d0_w32) (broadcast S32x512 32#32))
      2147483647#32 reduces_S32x512_S512 rfl) shapeCasts_S512_S1x512) broadcasts_S1x512_S32x512)

/-- The importance with the marked blocks at -2. -/
def strike (x : FVec Ideal S32x512 .f32) : FVec Ideal S32x512 .f32 :=
  select (mark x) (broadcast S32x512 (Scalar.ofBits .f32 0xC0000000#32)) x

/-- The marks of four rounds. -/
def chosen (x : FVec Ideal S32x512 .f32) : IVec S32x512 1 :=
  ori (ori (ori (ori (broadcast S32x512 0#1) (mark x)) (mark (strike x))) (mark (strike (strike x))))
    (mark (strike (strike (strike x))))

/-- The marks spread over the keys of each block. -/
def spread (x : IVec S32x512 1) : FVec Ideal S512x1024 .f32 :=
  matmul dot_S32x512_S32x1024_S512x1024_0_0_1_1_n_n none (truncf .bf16 (sitofp .f32 (extui 32 x natLt_1_32)) bitsLt_bf16_f32)
    k0_pay2 (constant S512x1024 .f32 0x00000000#32)

/-- The compressed branch. -/
def coarse (p : FVec Ideal S32x512 .f32) (vc : FVec Ideal S32x64 .f32) : FVec Ideal S512x64 .f32 :=
  matmul dot_S32x512_S32x64_S512x64_0_0_1_1_n_n none (truncf .bf16 p bitsLt_bf16_f32) (truncf .bf16 vc bitsLt_bf16_f32)
    (constant S512x64 .f32 0x00000000#32)

/-- The weighted values divided by the weights' sum, which the product's column 64 holds. -/
def ratio (x : FVec Ideal S512x128 .f32) : FVec Ideal S512x64 .f32 :=
  divf (extractStridedSlice S512x64 ![0, 0] x slices_S512x128_o0_0_S512x64)
    (broadcastTo S512x64 (extractStridedSlice S512x1 ![0, 64] x slices_S512x128_o0_64_S512x1) broadcasts_S512x1_S512x64)

/-- The weighted values of the selected blocks, and the weights' sum. -/
def picked (e b : FVec Ideal S512x1024 .f32) (v : FVec Ideal S1024x64 .bf16) : FVec Ideal S512x128 .f32 :=
  matmul dot_S512x1024_S1024x128_S512x128_1_0_0_1_n_n none (truncf .bf16 (mulf e b) bitsLt_bf16_f32)
    (concatenate S1024x128 1 [⟨S1024x64, v⟩, ⟨S1024x64, k0_pay8 (F := Ideal)⟩]
      concatenates_S1024x64_S1024x64_S1024x128_d1) (constant S512x128 .f32 0x00000000#32)

/-- The weights of the sliding window. -/
def near (q : FVec Ideal S512x64 .bf16) (k : FVec Ideal S1024x64 .bf16) (c : FVec Ideal S512x1 .f32) :
    FVec Ideal S512x768 .f32 :=
  select k0_pay7 (exp (subf (matmul dot_S512x64_S768x64_S512x768_1_1_0_0_n_n none q
      (extractStridedSlice S768x64 ![256, 0] k slices_S1024x64_o256_0_S768x64) (constant S512x768 .f32 0x00000000#32))
    (broadcastTo S512x768 c broadcasts_S512x1_S512x768))) (broadcast S512x768 (Scalar.ofBits .f32 0x00000000#32))

/-- The weighted values of the sliding window, and the weights' sum. -/
def window (w : FVec Ideal S512x768 .f32) (v : FVec Ideal S1024x64 .bf16) : FVec Ideal S512x128 .f32 :=
  matmul dot_S512x768_S768x128_S512x128_1_0_0_1_n_n none (truncf .bf16 w bitsLt_bf16_f32)
    (concatenate S768x128 1 [⟨S768x64, extractStridedSlice S768x64 ![256, 0] v slices_S1024x64_o256_0_S768x64⟩,
      ⟨S768x64, extractStridedSlice S768x64 ![0, 0] (k0_pay8 (F := Ideal)) slices_S1024x64_o0_0_S768x64⟩]
      concatenates_S768x64_S768x64_S768x128_d1) (constant S512x128 .f32 0x00000000#32)

/-- The three branches under the head's gates. -/
def gated (g : FVec Ideal S512x3 .f32) (a b c : FVec Ideal S512x64 .f32) : FVec Ideal S512x64 .bf16 :=
  truncf .bf16 (addf (addf
    (mulf (broadcastTo S512x64 (extractStridedSlice S512x1 ![0, 0] g slices_S512x3_o0_0_S512x1) broadcasts_S512x1_S512x64) a)
    (mulf (broadcastTo S512x64 (extractStridedSlice S512x1 ![0, 1] g slices_S512x3_o0_1_S512x1) broadcasts_S512x1_S512x64) b))
    (mulf (broadcastTo S512x64 (extractStridedSlice S512x1 ![0, 2] g slices_S512x3_o0_2_S512x1) broadcasts_S512x1_S512x64) c))
    bitsLt_bf16_f32

/-- One head: its scaled queries, keys, values and gates, and the two matrices. -/
def headOf (q : FVec Ideal S512x64 .bf16) (k v : FVec Ideal S1024x64 .bf16) (g : FVec Ideal S512x3 .f32)
    (Wk Wv : FVec Ideal S64x64 .bf16) : FVec Ideal S512x64 .bf16 :=
  gated g (coarse (probs q (comp k Wk)) (comp v Wv))
    (ratio (picked (expo (scores q k)) (spread (chosen (importance (probs q (comp k Wk))))) v))
    (ratio (window (near q k (top (scores q k))) v))

/-- One head from its columns of the blocks, before the scaling. -/
def head (q : FVec Ideal S512x64 .bf16) (k v : FVec Ideal S1024x64 .bf16) (g : FVec Ideal S512x3 .f32)
    (Wk Wv : FVec Ideal S64x64 .bf16) : FVec Ideal S512x64 .bf16 := headOf (scaled q) k v g Wk Wv

/-- The six heads of a point side by side. -/
def heads (q : Vec Ideal S512x384 .bf16) (k v : Vec Ideal S1024x384 .bf16) (g : Vec Ideal S6x512x3 .f32)
    (Wk Wv : Vec Ideal S64x64 .bf16) : Vec Ideal S512x384 .bf16 :=
  concatenate S512x384 1
    [⟨S512x64, head (extractStridedSlice S512x64 ![0, 0] q slices_S512x384_o0_0_S512x64)
        (extractStridedSlice S1024x64 ![0, 0] k slices_S1024x384_o0_0_S1024x64)
        (extractStridedSlice S1024x64 ![0, 0] v slices_S1024x384_o0_0_S1024x64)
        (shapeCast S512x3 (extractStridedSlice S1x512x3 ![0, 0, 0] (logistic g) slices_S6x512x3_o0_0_0_S1x512x3)
          shapeCasts_S1x512x3_S512x3) Wk Wv⟩,
     ⟨S512x64, head (extractStridedSlice S512x64 ![0, 64] q slices_S512x384_o0_64_S512x64)
        (extractStridedSlice S1024x64 ![0, 64] k slices_S1024x384_o0_64_S1024x64)
        (extractStridedSlice S1024x64 ![0, 64] v slices_S1024x384_o0_64_S1024x64)
        (shapeCast S512x3 (extractStridedSlice S1x512x3 ![1, 0, 0] (logistic g) slices_S6x512x3_o1_0_0_S1x512x3)
          shapeCasts_S1x512x3_S512x3) Wk Wv⟩,
     ⟨S512x64, head (extractStridedSlice S512x64 ![0, 128] q slices_S512x384_o0_128_S512x64)
        (extractStridedSlice S1024x64 ![0, 128] k slices_S1024x384_o0_128_S1024x64)
        (extractStridedSlice S1024x64 ![0, 128] v slices_S1024x384_o0_128_S1024x64)
        (shapeCast S512x3 (extractStridedSlice S1x512x3 ![2, 0, 0] (logistic g) slices_S6x512x3_o2_0_0_S1x512x3)
          shapeCasts_S1x512x3_S512x3) Wk Wv⟩,
     ⟨S512x64, head (extractStridedSlice S512x64 ![0, 192] q slices_S512x384_o0_192_S512x64)
        (extractStridedSlice S1024x64 ![0, 192] k slices_S1024x384_o0_192_S1024x64)
        (extractStridedSlice S1024x64 ![0, 192] v slices_S1024x384_o0_192_S1024x64)
        (shapeCast S512x3 (extractStridedSlice S1x512x3 ![3, 0, 0] (logistic g) slices_S6x512x3_o3_0_0_S1x512x3)
          shapeCasts_S1x512x3_S512x3) Wk Wv⟩,
     ⟨S512x64, head (extractStridedSlice S512x64 ![0, 256] q slices_S512x384_o0_256_S512x64)
        (extractStridedSlice S1024x64 ![0, 256] k slices_S1024x384_o0_256_S1024x64)
        (extractStridedSlice S1024x64 ![0, 256] v slices_S1024x384_o0_256_S1024x64)
        (shapeCast S512x3 (extractStridedSlice S1x512x3 ![4, 0, 0] (logistic g) slices_S6x512x3_o4_0_0_S1x512x3)
          shapeCasts_S1x512x3_S512x3) Wk Wv⟩,
     ⟨S512x64, head (extractStridedSlice S512x64 ![0, 320] q slices_S512x384_o0_320_S512x64)
        (extractStridedSlice S1024x64 ![0, 320] k slices_S1024x384_o0_320_S1024x64)
        (extractStridedSlice S1024x64 ![0, 320] v slices_S1024x384_o0_320_S1024x64)
        (shapeCast S512x3 (extractStridedSlice S1x512x3 ![5, 0, 0] (logistic g) slices_S6x512x3_o5_0_0_S1x512x3)
          shapeCasts_S1x512x3_S512x3) Wk Wv⟩]
    concatenates_S512x64_S512x64_S512x64_S512x64_S512x64_S512x64_S512x384_d1

theorem origin2 : (![0, 0] : Fin 2 → Nat) = fun _ => 0 := funext fun a => by fin_cases a <;> rfl
theorem origin3 : (![0, 0, 0] : Fin 3 → Nat) = fun _ => 0 := funext fun a => by fin_cases a <;> rfl

/-- The body's output block is the six heads of its input blocks. -/
theorem out_eq (q : Vec Ideal S512x384 .bf16) (k v : Vec Ideal S1024x384 .bf16) (g : Vec Ideal S6x512x3 .f32)
    (Wk Wv : Vec Ideal S64x64 .bf16) : out0_6 q k v g Wk Wv = heads q k v g Wk Wv := by
  unfold_out out0_6
  rw [View.canon_unit_zero origin2]
  have e0 : View.ld q r0_0 = q := View.ld_unit_zero origin2 _ _
  have e1 : View.ld k r0_1 = k := View.ld_unit_zero origin2 _ _
  have e2 : View.ld v r0_1 = v := View.ld_unit_zero origin2 _ _
  have e3 : View.ld g r0_2 = g := View.ld_unit_zero origin3 _ _
  have e4 : View.ld Wk r0_3 = Wk := View.ld_unit_zero origin2 _ _
  have e5 : View.ld Wv r0_3 = Wv := View.ld_unit_zero origin2 _ _
  rw [e0, e1, e2, e3, e4, e5]
  rfl

end Cert.AttnBIdeal.Head

end
-- ==== Proof.AttnSpec.lean ====
/- The mathematics of one row of the attention, on plain functions.

A masked softmax gives each admitted key the weight `exp s / ∑ exp s`, and every other key `0`. This module
states that weight, shows the two ways of computing it equal (shift every score by the greatest and divide each term,
or shift by any number at all and divide the weighted sum once), and states which key blocks a row selects. -/
module

public import Idealize.ShloMosaic.PureOps.Ideal
public import Idealize.ShloMosaic.Lib.SortPrefix
public import Idealize.ShloMosaic.Lib.WordCmp

@[expose] public section

noncomputable section

namespace Cert.Spec

open Idealize.ShloMosaic Finset

variable {ι κ : Type} [Fintype ι] [Fintype κ]

/-- A finite sum of real numbers is the same sum in the extended reals. -/
theorem coe_sum (s : Finset κ) (f : κ → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- A nonnegative real factor passes through a finite sum of extended reals. -/
theorem sum_mul (s : Finset κ) (f : κ → EReal) (r : ℝ) (hr : 0 ≤ r) :
    (∑ i ∈ s, f i) * (r : EReal) = ∑ i ∈ s, f i * (r : EReal) := by
  classical
  have hr' : (0 : EReal) ≤ (r : EReal) := by exact_mod_cast hr
  induction s using Finset.induction_on with
  | empty => simp
  | insert a s ha ih =>
    rw [sum_insert ha, sum_insert ha, ← ih, EReal.right_distrib_of_nonneg_of_ne_top hr' (EReal.coe_ne_top r)]

/-- The quotient of two real numbers. -/
theorem div_real {a b : ℝ} (hb : b ≠ 0) : Ideal.div (a : EReal) (b : EReal) = ((a / b : ℝ) : EReal) := by
  rw [Ideal.div_coe hb, ← EReal.coe_mul, mul_one_div]

/-- The greatest of finitely many scores, none `⊤` and one of them real, is real. -/
theorem top_real (x : κ → EReal) (htop : ∀ t, x t ≠ ⊤) (t : κ) (ht : x t ≠ ⊥) :
    ∃ c : ℝ, Finset.fold max ⊥ x univ = (c : EReal) := by
  have h1 : Finset.fold max ⊥ x univ ≠ ⊤ := by
    intro h
    have : (⊤ : EReal) ≤ Finset.fold max ⊥ x univ := h.ge
    rcases (Finset.le_fold_max (s := univ) (f := x) (b := ⊥) ⊤).mp this with h' | ⟨u, _, hu⟩
    · exact absurd h' (by simp)
    · exact htop u (top_le_iff.mp hu)
  have h2 : Finset.fold max ⊥ x univ ≠ ⊥ := by
    intro h
    have : x t ≤ Finset.fold max ⊥ x univ :=
      (Finset.le_fold_max (s := univ) (f := x) (b := ⊥) (x t)).mpr (Or.inr ⟨t, mem_univ t, le_rfl⟩)
    rw [h] at this
    exact ht (le_bot_iff.mp this)
  exact ⟨_, (EReal.coe_toReal h1 h2).symm⟩

open Classical in
/-- The softmax weight of `t` among the admitted ones `A` under the scores `s`; `0` for one not admitted. -/
def weight (A : ι → Prop) (s : ι → ℝ) (t : ι) : EReal :=
  if A t then ((Real.exp (s t) / ∑ u, (if A u then Real.exp (s u) else 0) : ℝ) : EReal) else 0

/-- The weighted sum of the values. -/
def attend (A : ι → Prop) (s : ι → ℝ) (v : ι → EReal) : EReal := ∑ t, weight A s t * v t

open Classical in
/-- The weights' denominator is positive once one is admitted. -/
theorem mass_pos (A : ι → Prop) (s : ι → ℝ) (hA : ∃ t, A t) : 0 < ∑ u, (if A u then Real.exp (s u) else 0) := by
  obtain ⟨t, ht⟩ := hA
  refine sum_pos' (fun u _ => ?_) ⟨t, mem_univ t, by rw [if_pos ht]; exact Real.exp_pos _⟩
  split
  · exact (Real.exp_pos _).le
  · exact le_rfl

theorem weight_not {A : ι → Prop} {s : ι → ℝ} {t : ι} (h : ¬ A t) : weight A s t = 0 := by
  unfold weight; rw [if_neg h]

/-- An admitted key's weight is positive. -/
theorem weight_pos {A : ι → Prop} {s : ι → ℝ} {t : ι} (h : A t) : 0 < weight A s t := by
  unfold weight; rw [if_pos h]
  exact_mod_cast div_pos (Real.exp_pos _) (mass_pos A s ⟨t, h⟩)

/-- Every weight is at least `0`. -/
theorem weight_nonneg (A : ι → Prop) (s : ι → ℝ) (t : ι) : 0 ≤ weight A s t := by
  by_cases h : A t
  · exact (weight_pos h).le
  · rw [weight_not h]

open Classical in
/-- Shifting every score by `c` scales the denominator by `exp (-c)`. -/
theorem mass_shift (A : ι → Prop) (s : ι → ℝ) (c : ℝ) :
    ∑ u, (if A u then Real.exp (s u - c) else 0) = (∑ u, (if A u then Real.exp (s u) else 0)) / Real.exp c := by
  rw [Finset.sum_div]
  refine sum_congr rfl fun u _ => ?_
  split
  · exact Real.exp_sub _ _
  · simp

/-- An admitted shifted score's exponential is the real one, any other's is `0`. -/
theorem exp_shift {A : κ → Prop} {s : κ → ℝ} {x : κ → EReal} (h1 : ∀ t, A t → x t = (s t : EReal))
    (h0 : ∀ t, ¬ A t → x t = ⊥) (c : ℝ) (t : κ) [Decidable (A t)] :
    Ideal.exp (x t - (c : EReal)) = ((if A t then Real.exp (s t - c) else 0 : ℝ) : EReal) := by
  split
  · rename_i h; rw [h1 t h, ← EReal.coe_sub, Ideal.exp_coe]
  · rename_i h; rw [h0 t h, EReal.bot_sub, Ideal.exp_bot, EReal.coe_zero]

/-- A softmax over a set of positions `κ`, read from the keys `ι` by an injection that reaches every admitted key:
    masked scores `⊥`, the greatest subtracted, each exponential divided by their sum. It is the weight. -/
theorem soft (f : κ → ι) (hf : Function.Injective f) (A : ι → Prop) (hcov : ∀ t, A t → ∃ i, f i = t) (s : ι → ℝ)
    (x : κ → EReal) (h1 : ∀ t, A (f t) → x t = (s (f t) : EReal)) (h0 : ∀ t, ¬ A (f t) → x t = ⊥)
    (hA : ∃ t, A t) (t : κ) :
    Ideal.div (Ideal.exp (x t - Finset.fold max ⊥ x univ)) (∑ u, Ideal.exp (x u - Finset.fold max ⊥ x univ))
      = weight A s (f t) := by
  classical
  obtain ⟨t0, ht0⟩ := hA
  obtain ⟨i0, rfl⟩ := hcov t0 ht0
  obtain ⟨c, hc⟩ := top_real x (fun t => by
    by_cases h : A (f t)
    · rw [h1 t h]; exact EReal.coe_ne_top _
    · rw [h0 t h]; simp) i0 (by rw [h1 i0 ht0]; exact EReal.coe_ne_bot _)
  rw [hc]
  simp only [exp_shift (A := fun t => A (f t)) (s := fun t => s (f t)) h1 h0 c]
  rw [coe_sum]
  have hsum : ∑ u, (if A (f u) then Real.exp (s (f u) - c) else 0) = ∑ u, (if A u then Real.exp (s u - c) else 0) :=
    Fintype.sum_of_injective f hf _ _ (fun u hu => by
      rw [if_neg]; intro h; exact hu ((hcov u h).imp fun _ e => e)) (fun _ => rfl)
  have hp := mass_pos A s ⟨_, ht0⟩
  rw [hsum, mass_shift, div_real (div_pos hp (Real.exp_pos c)).ne']
  unfold weight
  split
  · rw [Real.exp_sub, div_div_div_cancel_right₀ (Real.exp_pos c).ne']
  · simp

/-- The weighted values summed first and divided once by the sum of the weights' numerators, each numerator shifted by
    the same number `c`: the softmax average. -/
theorem ratio (f : κ → ι) (hf : Function.Injective f) (A : ι → Prop) (hcov : ∀ t, A t → ∃ i, f i = t) (s : ι → ℝ)
    (c : ℝ) (e : κ → EReal) (h1 : ∀ i, A (f i) → e i = ((Real.exp (s (f i) - c) : ℝ) : EReal))
    (h0 : ∀ i, ¬ A (f i) → e i = 0) (hA : ∃ t, A t) (v : ι → EReal) :
    Ideal.div (∑ i, e i * v (f i)) (∑ i, e i) = attend A s v := by
  classical
  have he : ∀ i, e i = ((if A (f i) then Real.exp (s (f i) - c) else 0 : ℝ) : EReal) := fun i => by
    split
    · rename_i h; exact h1 i h
    · rename_i h; rw [h0 i h, EReal.coe_zero]
  have hn : ∑ i, e i * v (f i) = ∑ t, ((if A t then Real.exp (s t - c) else 0 : ℝ) : EReal) * v t :=
    Fintype.sum_of_injective f hf _ _ (fun u hu => by
      rw [if_neg, EReal.coe_zero, zero_mul]
      intro h; exact hu ((hcov u h).imp fun _ e => e)) (fun i => by rw [he i])
  have hd : ∑ i, e i = ((∑ t, (if A t then Real.exp (s t - c) else 0) : ℝ) : EReal) := by
    rw [← coe_sum]
    exact Fintype.sum_of_injective f hf _ _ (fun u hu => by
      rw [if_neg, EReal.coe_zero]
      intro h; exact hu ((hcov u h).imp fun _ e => e)) (fun i => by rw [he i])
  have hp := mass_pos A s hA
  have hp' : 0 < ∑ t, (if A t then Real.exp (s t - c) else 0) := by
    rw [mass_shift]; exact div_pos hp (Real.exp_pos c)
  rw [hn, hd, Ideal.div_coe hp'.ne', sum_mul _ _ _ (one_div_pos.mpr hp').le]
  refine sum_congr rfl fun t _ => ?_
  rw [mul_right_comm, ← EReal.coe_mul, mass_shift]
  congr 1
  unfold weight
  split
  · rw [mul_one_div, Real.exp_sub, div_div_div_cancel_right₀ (Real.exp_pos c).ne']
  · simp

/-! ## What one row attends to -/

/-- The key block `n` (32 keys) ends at or before row `R`. -/
def ended (R : ℕ) (n : Fin 64) : Prop := 32 * n.val + 31 ≤ R

/-- The importance of block `n` for row `R`: its compressed softmax weight, or `-1` if it has not ended. -/
def imp (R : ℕ) (τ : Fin 64 → ℝ) (n : Fin 64) : EReal :=
  open Classical in if ended R n then weight (ended R) τ n else -1

/-- `n` is among the first four of the stable sort by decreasing importance. -/
def chosen (x : Fin 64 → EReal) (n : Fin 64) : Prop :=
  ∃ i : Fin 4, sortedFrom (fun a b => decide (x b < x a)) (i.castLE (by decide)) = n

/-- The block that holds key `t`. -/
def blockOf (t : Fin 2048) : Fin 64 := ⟨t.val / 32, by have := t.isLt; omega⟩

/-- The keys of the selected blocks that row `R` may see. -/
def selected (R : ℕ) (τ : Fin 64 → ℝ) (t : Fin 2048) : Prop := t.val ≤ R ∧ chosen (imp R τ) (blockOf t)

/-- The last 128 keys up to row `R`. -/
def nearby (R : ℕ) (t : Fin 2048) : Prop := t.val ≤ R ∧ R < t.val + 128

/-- One entry of a row of one head: the three gated averages, of the compressed values over the ended blocks, of the
    values over the selected blocks, and of the values over the last 128 keys. -/
def row (R : ℕ) (τ : Fin 64 → ℝ) (σ : Fin 2048 → ℝ) (vc : Fin 64 → EReal) (v : Fin 2048 → EReal)
    (g0 g1 g2 : EReal) : EReal :=
  g0 * attend (ended R) τ vc + g1 * attend (selected R τ) σ v + g2 * attend (nearby R) σ v

/-- The scaled product of a query and a key. -/
def score (q k : Fin 64 → ℝ) : ℝ := (∑ x, q x * k x) / 8

/-- The compressed key (or value) of block `n`: the mean of its 32 keys, multiplied by the compression matrix. -/
def compress (k : Fin 2048 → Fin 64 → EReal) (W : Fin 64 → Fin 64 → EReal) (n d : Fin 64) : EReal :=
  ∑ x, Ideal.div (∑ r : Fin 32, k ⟨n.val * 32 + r.val, by have := n.isLt; have := r.isLt; omega⟩ x) ((32 : ℝ) : EReal)
    * W x d

/-- The same over real numbers. -/
def compressR (k : Fin 2048 → Fin 64 → ℝ) (W : Fin 64 → Fin 64 → ℝ) (n d : Fin 64) : ℝ :=
  ∑ x, (∑ r : Fin 32, k ⟨n.val * 32 + r.val, by have := n.isLt; have := r.isLt; omega⟩ x) / 32 * W x d

/-- Of real keys the compressed key is real. -/
theorem compress_real (k : Fin 2048 → Fin 64 → ℝ) (W : Fin 64 → Fin 64 → ℝ) (n d : Fin 64) :
    compress (fun t x => (k t x : EReal)) (fun x d => (W x d : EReal)) n d = (compressR k W n d : EReal) := by
  unfold compress compressR
  rw [← coe_sum]
  refine sum_congr rfl fun x _ => ?_
  rw [coe_sum, div_real (by norm_num), EReal.coe_mul]

/-! ## The selection -/

/-- `a` comes before `b` in decreasing importance, equal ones by position. -/
def before {N : ℕ} (x : Fin N → EReal) (a b : Fin N) : Bool :=
  decide (x b < x a) || (decide (x a = x b) && decide (a < b))

theorem before_strict {N : ℕ} (x : Fin N → EReal) : StrictTotalBefore (before x) :=
  StrictTotalBefore.of_key_then_position (fun a b : EReal => decide (b < a)) x (fun a => by simp)
    (fun a b c h h' => by simp only [decide_eq_true_eq] at h h' ⊢; exact h'.trans h)
    (fun a b => by
      simp only [decide_eq_true_eq]
      rcases lt_trichotomy a b with h | h | h
      · exact Or.inr (Or.inr h)
      · exact Or.inr (Or.inl h)
      · exact Or.inl h)

/-- A stable sort of an increasing list by the importance alone is the sort by importance and position. -/
theorem stableSort_before {N : ℕ} (x : Fin N → EReal) (l : List (Fin N)) (hl : l.Pairwise (· < ·)) :
    stableSort (fun a b => decide (x b < x a)) l = stableSort (before x) l := by
  induction l with
  | nil => rfl
  | cons a l ih =>
    obtain ⟨ha, hl⟩ := List.pairwise_cons.mp hl
    unfold stableSort
    rw [ih hl]
    refine insertBefore_congr _ _ a _ fun b hb => ?_
    have hab : a < b := ha b ((perm_stableSort _ l).mem_iff.mp hb)
    simp [before, hab.not_gt]

theorem sortedFrom_before {N : ℕ} (x : Fin N → EReal) (k : Fin N) :
    sortedFrom (fun a b => decide (x b < x a)) k = sortedFrom (before x) k := by
  unfold sortedFrom
  rw [List.get_of_eq (show sortPositions N _ = sortPositions N _ from
    stableSort_before x _ (List.pairwise_lt_finRange N))]
  rfl

/-- Four different positions, each before every position but itself and the ones picked earlier, are the first four of
    the sort. -/
theorem picks_sorted (x : Fin 64 → EReal) (σ : Fin 4 → Fin 64) (hne : ∀ i j, j < i → σ j ≠ σ i)
    (hb : ∀ i n, (∀ j, j < i → σ j ≠ n) → n ≠ σ i → before x (σ i) n = true) (i : Fin 4) :
    sortedFrom (fun a b => decide (x b < x a)) (i.castLE (by decide)) = σ i := by
  have hB := before_strict x
  have asym : ∀ a b, before x a b = true → before x b a = false := fun a b h => by
    by_contra h'
    have := hB.trans _ _ _ h (by simpa using h')
    rw [hB.irrefl] at this
    exact absurd this (by simp)
  rw [sortedFrom_before]
  refine hB.sortedFrom_eq_of_prefix (by decide) σ (fun i j e => ?_) (fun i j hij => ?_) (fun i p hp => ?_) i
  · rcases lt_trichotomy i j with h | h | h
    · exact absurd e (hne j i h)
    · exact h
    · exact absurd e.symm (hne i j h)
  · refine asym _ _ (hb i (σ j) (fun k hk => hne j k (hk.trans hij)) (hne j i hij).symm)
  · exact asym _ _ (hb i p (fun j _ => hp j) (hp i).symm)

/-- So a position is chosen exactly if it is one of the four. -/
theorem chosen_iff (x : Fin 64 → EReal) (σ : Fin 4 → Fin 64) (hne : ∀ i j, j < i → σ j ≠ σ i)
    (hb : ∀ i n, (∀ j, j < i → σ j ≠ n) → n ≠ σ i → before x (σ i) n = true) (n : Fin 64) :
    chosen x n ↔ ∃ i, σ i = n := by
  unfold chosen
  simp only [picks_sorted x σ hne hb]

end Cert.Spec

end
-- ==== Proof.AttnPick.lean ====
/- Four rounds of "take the first position of the greatest importance, then strike it out" select the same four blocks as a
stable sort by decreasing importance. The rounds look only at the first `N` blocks: the others have importance `-1`,
as low as any, and stand behind them. -/
module

public import proofs.«01_k».proof.Proof.AttnSpec
public import Idealize.ShloMosaic.Lib.Pointwise
public import Idealize.ShloMosaic.Lib.SortNet.Extract

@[expose] public section

noncomputable section

namespace Cert.Spec

open Idealize.ShloMosaic Finset

variable {N : ℕ}

/-- `p` is the first position at which `x` is greatest. -/
def IsFirst (x : Fin N → EReal) (p : Fin N) : Prop := (∀ m, x m ≤ x p) ∧ ∀ m, m < p → x m < x p

/-- The word of the first position of the greatest value: the least of the positions at which the value is the greatest. -/
def firstWord (x : Fin N → EReal) : BitVec 32 :=
  Finset.fold IntOp.minsi 2147483647#32
    (fun m => if x m = Finset.fold max ⊥ x univ then BitVec.ofNat 32 m.val else BitVec.ofNat 32 N) univ

theorem fold_minsi_toInt (f : Fin N → BitVec 32) (b : BitVec 32) :
    (Finset.fold IntOp.minsi b f univ).toInt = Finset.fold min b.toInt (fun m => (f m).toInt) univ :=
  (Finset.fold_hom (op := IntOp.minsi) (op' := min) (m := BitVec.toInt) (fun x y => SortNet.toInt_minsi x y)).symm

/-- There is a first position of the greatest value, and the word is its own. -/
theorem exists_first (h0 : 0 < N) (hN : N ≤ 64) (x : Fin N → EReal) :
    ∃ p, IsFirst x p ∧ firstWord x = BitVec.ofNat 32 p.val := by
  classical
  haveI : Nonempty (Fin N) := ⟨⟨0, h0⟩⟩
  obtain ⟨m0, -, hm0⟩ := Finset.exists_max_image univ x univ_nonempty
  have hM : Finset.fold max ⊥ x univ = x m0 := le_antisymm
    ((Finset.fold_max_le (s := univ) (f := x) (b := ⊥) (x m0)).mpr ⟨bot_le, fun u hu => hm0 u hu⟩)
    ((Finset.le_fold_max (s := univ) (f := x) (b := ⊥) (x m0)).mpr (Or.inr ⟨m0, mem_univ _, le_rfl⟩))
  obtain ⟨p, hp, hmin⟩ := Finset.exists_min_image (univ.filter fun m => x m = x m0) id ⟨m0, by simp⟩
  simp only [mem_filter, mem_univ, true_and, id] at hp hmin
  refine ⟨p, ⟨fun m => hp ▸ hm0 m (mem_univ m), fun m hm => lt_of_le_of_ne (hp ▸ hm0 m (mem_univ m)) fun e => ?_⟩, ?_⟩
  · exact absurd (hmin m (e.trans hp)) (not_le.mpr hm)
  · have small : ∀ a : ℕ, a ≤ 64 → (BitVec.ofNat 32 a).toInt = (a : ℤ) := fun a ha =>
      WordCmp.toInt_ofNat_of_lt (by omega)
    refine BitVec.eq_of_toInt_eq ?_
    unfold firstWord
    rw [fold_minsi_toInt, hM, small p.val (by have := p.isLt; omega)]
    refine le_antisymm ?_ ?_
    · refine (Finset.fold_min_le (s := univ) _).mpr (Or.inr ⟨p, mem_univ p, ?_⟩)
      rw [if_pos hp, small p.val (by have := p.isLt; omega)]
    · refine (Finset.le_fold_min (s := univ) _).mpr ⟨?_, fun m _ => ?_⟩
      · have : (2147483647#32 : BitVec 32).toInt = 2147483647 := by decide
        rw [this]; have := p.isLt; omega
      · split
        · rename_i h
          rw [small m.val (by have := m.isLt; omega)]
          exact_mod_cast hmin m h
        · rw [small N hN]; have := p.isLt; omega

/-- The positions picked before round `i`, of four picks. -/
def Picked (p : Fin 4 → Fin N) (i : Fin 4) (n : Fin N) : Prop := ∃ j, j < i ∧ p j = n

/-- Before each of the four rounds one of the first four positions is left. -/
theorem exists_left (hN : 4 ≤ N) (p : Fin 4 → Fin N) (i : Fin 4) : ∃ n : Fin N, n.val < 4 ∧ ¬ Picked p i n := by
  classical
  by_contra h
  push Not at h
  have hsub : (univ : Finset (Fin 4)).image (Fin.castLE hN) ⊆ (univ.filter (· < i)).image p := by
    intro n hn
    obtain ⟨a, -, rfl⟩ := mem_image.mp hn
    obtain ⟨j, hj, e⟩ := h (Fin.castLE hN a) a.isLt
    exact mem_image.mpr ⟨j, by simpa using hj, e⟩
  have h1 := card_le_card hsub
  rw [card_image_of_injective _ (Fin.castLE_injective hN), card_univ, Fintype.card_fin] at h1
  have h2 : ((univ : Finset (Fin 4)).filter (· < i)).card ≤ 3 :=
    (by decide : ∀ i : Fin 4, ((univ : Finset (Fin 4)).filter (· < i)).card ≤ 3) i
  exact absurd (h1.trans card_image_le) (by omega)

/-- The state of the rounds: in round `i` the positions picked earlier stand at `-2`, the others at their importance,
    and `p i` is the first greatest. -/
structure Rounds (y : Fin 64 → EReal) (hN : N ≤ 64) (X : Fin 4 → Fin N → EReal) (p : Fin 4 → Fin N) : Prop where
  kept : ∀ i n, ¬ Picked p i n → X i n = y (n.castLE hN)
  struck : ∀ i n, Picked p i n → X i n = -2
  first : ∀ i, IsFirst (X i) (p i)

namespace Rounds

variable {y : Fin 64 → EReal} {hN : N ≤ 64} {X : Fin 4 → Fin N → EReal} {p : Fin 4 → Fin N}

theorem neg_two_lt : (-2 : EReal) < -1 := by
  have h1 : (-2 : EReal) = ((-2 : ℝ) : EReal) := by rw [EReal.coe_neg]; rfl
  have h2 : (-1 : EReal) = ((-1 : ℝ) : EReal) := by norm_num
  rw [h1, h2]; exact_mod_cast (by norm_num : (-2 : ℝ) < -1)

/-- A round never picks a struck position. -/
theorem new (R : Rounds y hN X p) (h4 : 4 ≤ N) (hge : ∀ n, -1 ≤ y n) (i : Fin 4) : ¬ Picked p i (p i) := by
  intro h
  obtain ⟨n, -, hn⟩ := exists_left h4 p i
  have := (R.first i).1 n
  rw [R.struck i _ h, R.kept i n hn] at this
  exact absurd ((hge _).trans this) (not_le.mpr neg_two_lt)

/-- A picked block is one of the ended ones where the first four have positive importance. -/
theorem pos (R : Rounds y hN X p) (h4 : 4 ≤ N) (hge : ∀ n, -1 ≤ y n) (hpos : ∀ n : Fin N, n.val < 4 → 0 < y (n.castLE hN))
    (i : Fin 4) : 0 < y ((p i).castLE hN) := by
  obtain ⟨n, h, hn⟩ := exists_left h4 p i
  have := (R.first i).1 n
  rw [R.kept i n hn, R.kept i _ (R.new h4 hge i)] at this
  exact (hpos n h).trans_le this

/-- The picks are the chosen blocks. -/
theorem chosen_iff (R : Rounds y hN X p) (h4 : 4 ≤ N) (hge : ∀ n, -1 ≤ y n) (hout : ∀ n : Fin 64, N ≤ n.val → y n = -1)
    (n : Fin 64) : chosen y n ↔ ∃ i, (p i).castLE hN = n := by
  refine Spec.chosen_iff y (fun i => (p i).castLE hN) (fun i j hj e => ?_) (fun i m hm hne => ?_) n
  · exact R.new h4 hge i ⟨j, hj, Fin.castLE_injective hN e⟩
  · have hp := R.kept i _ (R.new h4 hge i)
    unfold before
    simp only [Bool.or_eq_true, Bool.and_eq_true, decide_eq_true_eq]
    by_cases hmN : m.val < N
    · have hk := R.kept i ⟨m.val, hmN⟩ (fun ⟨j, hj, e⟩ => hm j hj (by rw [e]; rfl))
      have e : (⟨m.val, hmN⟩ : Fin N).castLE hN = m := rfl
      rw [e] at hk
      rcases lt_trichotomy (⟨m.val, hmN⟩ : Fin N) (p i) with h | h | h
      · left; rw [← hk, ← hp]; exact (R.first i).2 _ h
      · exact absurd (by rw [← h]; rfl) hne
      · rcases ((R.first i).1 ⟨m.val, hmN⟩).lt_or_eq with h' | h'
        · left; rwa [hk, hp] at h'
        · right; rw [hk, hp] at h'; exact ⟨h'.symm, h⟩
    · rw [hout m (not_lt.mp hmN)]
      rcases (hge ((p i).castLE hN)).lt_or_eq with h | h
      · exact Or.inl h
      · right; refine ⟨h.symm, ?_⟩
        rw [Fin.lt_def, Fin.val_castLE]; have := (p i).isLt; omega

end Rounds

/-- One round on the values: strike the first greatest. -/
def strikeAt (x : Fin N → EReal) (p : Fin N) : Fin N → EReal := fun n => if n = p then -2 else x n

/-- Four rounds. -/
theorem exists_rounds (h0 : 0 < N) (hN : N ≤ 64) (y : Fin 64 → EReal) :
    ∃ (X : Fin 4 → Fin N → EReal) (p : Fin 4 → Fin N), Rounds y hN X p ∧ (∀ i, firstWord (X i) = BitVec.ofNat 32 (p i).val)
      ∧ X 0 = (fun n => y (n.castLE hN)) ∧ X 1 = strikeAt (X 0) (p 0) ∧ X 2 = strikeAt (X 1) (p 1)
      ∧ X 3 = strikeAt (X 2) (p 2) := by
  obtain ⟨p0, f0, w0⟩ := exists_first h0 hN fun n => y (n.castLE hN)
  obtain ⟨p1, f1, w1⟩ := exists_first h0 hN (strikeAt (fun n => y (n.castLE hN)) p0)
  obtain ⟨p2, f2, w2⟩ := exists_first h0 hN (strikeAt (strikeAt (fun n => y (n.castLE hN)) p0) p1)
  obtain ⟨p3, f3, w3⟩ := exists_first h0 hN (strikeAt (strikeAt (strikeAt (fun n => y (n.castLE hN)) p0) p1) p2)
  refine ⟨![fun n => y (n.castLE hN), strikeAt (fun n => y (n.castLE hN)) p0,
    strikeAt (strikeAt (fun n => y (n.castLE hN)) p0) p1,
    strikeAt (strikeAt (strikeAt (fun n => y (n.castLE hN)) p0) p1) p2], ![p0, p1, p2, p3],
    ⟨fun i n h => ?_, fun i n h => ?_, fun i => ?_⟩, fun i => ?_, rfl, rfl, rfl, rfl⟩
  · have hne : ∀ j, j < i → n ≠ (![p0, p1, p2, p3] : Fin 4 → Fin N) j := fun j hj e => h ⟨j, hj, e.symm⟩
    fin_cases i
    · rfl
    · simp [strikeAt, show n ≠ p0 from hne 0 (by decide)]
    · simp [strikeAt, show n ≠ p0 from hne 0 (by decide), show n ≠ p1 from hne 1 (by decide)]
    · simp [strikeAt, show n ≠ p0 from hne 0 (by decide), show n ≠ p1 from hne 1 (by decide),
        show n ≠ p2 from hne 2 (by decide)]
  · obtain ⟨j, hj, rfl⟩ := h
    fin_cases i <;> fin_cases j <;> first | (exact absurd hj (by decide)) | simp [strikeAt]
  · fin_cases i
    exacts [f0, f1, f2, f3]
  · fin_cases i
    exacts [w0, w1, w2, w3]

/-- The importance is at least `-1`, -/
theorem imp_ge (R : ℕ) (τ : Fin 64 → ℝ) (n : Fin 64) : -1 ≤ imp R τ n := by
  unfold imp
  split
  · refine le_trans ?_ (weight_nonneg _ _ _)
    have h2 : (-1 : EReal) = ((-1 : ℝ) : EReal) := by norm_num
    rw [h2]; exact_mod_cast (by norm_num : (-1 : ℝ) ≤ 0)
  · exact le_rfl

/-- and positive exactly for the ended blocks. -/
theorem imp_pos_iff (R : ℕ) (τ : Fin 64 → ℝ) (n : Fin 64) : 0 < imp R τ n ↔ ended R n := by
  unfold imp
  split
  · rename_i h; exact ⟨fun _ => h, fun _ => weight_pos h⟩
  · rename_i h
    refine ⟨fun h' => absurd h' (not_lt.mpr ?_), fun h' => absurd h' h⟩
    have h2 : (-1 : EReal) = ((-1 : ℝ) : EReal) := by norm_num
    rw [h2]; exact_mod_cast (by norm_num : (-1 : ℝ) ≤ 0)

theorem imp_not {R : ℕ} {τ : Fin 64 → ℝ} {n : Fin 64} (h : ¬ ended R n) : imp R τ n = -1 := by
  unfold imp; rw [if_neg h]

end Cert.Spec

end
-- ==== Proof.AttnRow.lean ====
/- One row of one head as a tile of the kernel computes it, on plain functions: the tile looks at the first `K` keys and
   the first `N` blocks only, works with words for its marks, and divides each branch once. Each part is shown equal to
   the corresponding part of `Spec.row`. -/
module

public import proofs.«01_k».proof.Proof.AttnPick

@[expose] public section

noncomputable section

namespace Cert.Spec

open Idealize.ShloMosaic Finset

variable {N K : ℕ}

/-- The membership of key `t` in block `n` as a number. -/
def member (n t : ℕ) : EReal := if t / 32 = n then 1 else 0

/-- A sum over the keys of the numbers of one block is the sum over the block. -/
theorem sum_member (hK : K = 32 * N) (n : Fin N) (f : Fin K → EReal) :
    ∑ t : Fin K, member n.val t.val * f t
      = ∑ r : Fin 32, f ⟨n.val * 32 + r.val, by have := n.isLt; have := r.isLt; omega⟩ := by
  refine (Fintype.sum_of_injective
    (fun r : Fin 32 => (⟨n.val * 32 + r.val, by have := n.isLt; have := r.isLt; omega⟩ : Fin K)) (fun a b h => ?_) _ _
    (fun t ht => ?_) (fun r => ?_)).symm
  · simp only [Fin.mk.injEq] at h; exact Fin.ext (by omega)
  · unfold member
    rw [if_neg, zero_mul]
    intro h
    exact ht ⟨⟨t.val % 32, by omega⟩, Fin.ext (by simp only; omega)⟩
  · unfold member
    rw [if_pos (by simp only; have := r.isLt; omega), one_mul]

/-- A sum over the blocks of a block's number at the key's own block. -/
theorem sum_member_block (hK : K = 32 * N) (t : Fin K) (f : Fin N → EReal) :
    ∑ n : Fin N, f n * member n.val t.val = f ⟨t.val / 32, by have := t.isLt; omega⟩ := by
  rw [Finset.sum_eq_single (⟨t.val / 32, by have := t.isLt; omega⟩ : Fin N)]
  · unfold member; rw [if_pos rfl, mul_one]
  · intro n _ hn
    unfold member
    rw [if_neg, mul_zero]
    intro h; exact hn (Fin.ext h.symm)
  · intro h; exact absurd (mem_univ _) h

/-- The tile's compressed key, or value. -/
theorem tile_compress (hK : K = 32 * N) (hN : N ≤ 64) (k : Fin 2048 → Fin 64 → EReal) (W : Fin 64 → Fin 64 → EReal)
    (n : Fin N) (d : Fin 64) :
    ∑ x, ((∑ t : Fin K, member n.val t.val * k ⟨t.val, by have := t.isLt; omega⟩ x) * ((1 / 32 : ℝ) : EReal)) * W x d
      = compress k W (n.castLE hN) d := by
  unfold compress
  refine sum_congr rfl fun x _ => ?_
  rw [sum_member hK n fun t => k ⟨t.val, by have := t.isLt; omega⟩ x, Ideal.div_coe (by norm_num)]
  rfl

/-- Reals: the query scaled first, or the product scaled after. -/
theorem score_first (q k : Fin 64 → ℝ) :
    ∑ x, (k x : EReal) * ((q x : EReal) * ((1 / 8 : ℝ) : EReal)) = (score q k : EReal) := by
  simp only [← EReal.coe_mul]
  rw [coe_sum]; unfold score
  rw [Finset.sum_div]
  congr 1
  refine sum_congr rfl fun x _ => ?_
  ring

theorem score_first' (q k : Fin 64 → ℝ) :
    ∑ x, ((q x : EReal) * ((1 / 8 : ℝ) : EReal)) * (k x : EReal) = (score q k : EReal) := by
  rw [← score_first]
  exact sum_congr rfl fun x _ => mul_comm _ _

theorem score_after (q k : Fin 64 → ℝ) :
    (∑ x, (q x : EReal) * (k x : EReal)) * ((1 / 8 : ℝ) : EReal) = (score q k : EReal) := by
  simp only [← EReal.coe_mul]
  rw [coe_sum, ← EReal.coe_mul]; unfold score
  rw [mul_one_div]

/-! ## The compressed branch -/

/-- A block ended at a row of the tile is one of the tile's blocks. -/
def Covers (R N : ℕ) : Prop := R < 32 * N + 31

theorem ended_lt {R : ℕ} (h : Covers R N) {n : Fin 64} (hn : ended R n) : n.val < N := by
  unfold Covers at h; unfold ended at hn; omega

/-- The tile's softmax over its blocks, at a row where the first block has ended. -/
theorem tile_weight (hN : N ≤ 64) {R : ℕ} (hR : Covers R N) (h31 : 31 ≤ R) (τ : Fin 64 → ℝ) (x : Fin N → EReal)
    (h1 : ∀ n, ended R (n.castLE hN) → x n = (τ (n.castLE hN) : EReal)) (h0 : ∀ n, ¬ ended R (n.castLE hN) → x n = ⊥)
    (n : Fin N) :
    Ideal.div (Ideal.exp (x n - Finset.fold max ⊥ x univ)) (∑ u, Ideal.exp (x u - Finset.fold max ⊥ x univ))
      = weight (ended R) τ (n.castLE hN) :=
  soft (Fin.castLE hN) (Fin.castLE_injective hN) (ended R) (fun t ht => ⟨⟨t.val, ended_lt hR ht⟩, rfl⟩) τ x h1 h0
    ⟨0, by unfold ended; simpa using h31⟩ n

/-- The weighted sum over the tile's blocks is the one over all blocks. -/
theorem tile_coarse (hN : N ≤ 64) {R : ℕ} (hR : Covers R N) (τ : Fin 64 → ℝ) (vc : Fin 64 → EReal) :
    ∑ n : Fin N, weight (ended R) τ (n.castLE hN) * vc (n.castLE hN) = attend (ended R) τ vc :=
  Fintype.sum_of_injective (Fin.castLE hN) (Fin.castLE_injective hN) _ _ (fun t ht => by
    rw [weight_not, zero_mul]
    intro h; exact ht ⟨⟨t.val, ended_lt hR h⟩, rfl⟩) (fun _ => rfl)

/-! ## The selection in words -/

/-- The mark of the first greatest. -/
def markW (x : Fin N → EReal) (n : Fin N) : BitVec 1 := IntOp.cmpi .eq (BitVec.ofNat 32 n.val) (firstWord x)

/-- The values with the marked one at `-2`. -/
def strikeW (x : Fin N → EReal) (n : Fin N) : EReal := Scalar.select (markW x n) (-2) (x n)

/-- The marks of four rounds. -/
def chosenW (x : Fin N → EReal) (n : Fin N) : BitVec 1 :=
  IntOp.ori (IntOp.ori (IntOp.ori (IntOp.ori 0#1 (markW x n)) (markW (strikeW x) n)) (markW (strikeW (strikeW x)) n))
    (markW (strikeW (strikeW (strikeW x))) n)

theorem markW_eq (hN : N ≤ 64) {x : Fin N → EReal} {p : Fin N} (h : firstWord x = BitVec.ofNat 32 p.val) (n : Fin N) :
    markW x n = BitVec.ofBool (decide (n = p)) := by
  unfold markW
  rw [h, WordCmp.cmpi_eq_ofNat (by have := n.isLt; omega) (by have := p.isLt; omega)]
  congr 1
  simp [Fin.ext_iff]

theorem strikeW_eq (hN : N ≤ 64) {x : Fin N → EReal} {p : Fin N} (h : firstWord x = BitVec.ofNat 32 p.val) :
    strikeW x = strikeAt x p := by
  funext n
  unfold strikeW strikeAt
  rw [markW_eq hN h]
  by_cases e : n = p <;> simp [e, Scalar.select]

/-- The marks are the chosen blocks, and where the first four blocks have ended only ended blocks are marked. -/
theorem chosenW_iff (h4 : 4 ≤ N) (hN : N ≤ 64) {R : ℕ} (hR : Covers R N) (τ : Fin 64 → ℝ) (n : Fin N) :
    (chosenW (fun m : Fin N => imp R τ (m.castLE hN)) n = 1#1 ↔ chosen (imp R τ) (n.castLE hN))
      ∧ (∀ m, chosen (imp R τ) m → m.val < N)
      ∧ (127 ≤ R → ∀ m, chosen (imp R τ) m → ended R m) := by
  obtain ⟨X, p, Rd, hw, e0, e1, e2, e3⟩ := exists_rounds (by omega) hN (imp R τ)
  have hout : ∀ n : Fin 64, N ≤ n.val → imp R τ n = -1 := fun n hn =>
    imp_not fun h => absurd (ended_lt hR h) (not_lt.mpr hn)
  have key := Rd.chosen_iff h4 (imp_ge R τ) hout
  refine ⟨?_, fun m hm => ?_, fun h127 m hm => ?_⟩
  · rw [key]
    have w0 := hw 0
    have w1 := hw 1
    have w2 := hw 2
    have w3 := hw 3
    unfold chosenW
    rw [← e0, strikeW_eq hN w0, ← e1, strikeW_eq hN w1, ← e2, strikeW_eq hN w2, ← e3, markW_eq hN w0, markW_eq hN w1,
      markW_eq hN w2, markW_eq hN w3, show (0#1 : BitVec 1) = BitVec.ofBool false from rfl]
    simp only [WordCmp.ori_ofBool, WordCmp.ofBool_eq_one_iff, Bool.or_eq_true, decide_eq_true_eq, Bool.false_eq_true,
      false_or, (Fin.castLE_injective hN).eq_iff]
    constructor
    · rintro (((h | h) | h) | h)
      · exact ⟨0, h.symm⟩
      · exact ⟨1, h.symm⟩
      · exact ⟨2, h.symm⟩
      · exact ⟨3, h.symm⟩
    · rintro ⟨i, h⟩
      fin_cases i
      · exact Or.inl (Or.inl (Or.inl h.symm))
      · exact Or.inl (Or.inl (Or.inr h.symm))
      · exact Or.inl (Or.inr h.symm)
      · exact Or.inr h.symm
  · obtain ⟨i, rfl⟩ := (key m).mp hm
    exact (p i).isLt
  · obtain ⟨i, rfl⟩ := (key m).mp hm
    refine (imp_pos_iff R τ _).mp (Rd.pos h4 (imp_ge R τ) (fun n hn => (imp_pos_iff R τ _).mpr ?_) i)
    unfold ended
    rw [Fin.val_castLE]; omega

/-- Some key the row may see is selected: the first key of the first picked block. -/
theorem selected_nonempty {R : ℕ} (hR : R < 2048) (τ : Fin 64 → ℝ) : ∃ t, selected R τ t := by
  have hR2 : Covers R 64 := by unfold Covers; omega
  obtain ⟨X, p, Rd, -, -⟩ := exists_rounds (N := 64) (by decide) le_rfl (imp R τ)
  have key := Rd.chosen_iff (by decide) (imp_ge R τ) (fun n hn => absurd n.isLt (not_lt.mpr hn))
  have hc : chosen (imp R τ) (p 0) := (key _).mpr ⟨0, rfl⟩
  have hk : X 0 (p 0) = imp R τ (p 0) := Rd.kept 0 _ fun ⟨j, hj, _⟩ => absurd hj (by simp)
  have hle : 32 * (p 0).val ≤ R := by
    by_cases hz : (p 0) = 0
    · rw [hz]; simp
    by_cases he : ended R (p 0)
    · unfold ended at he; omega
    · have hlt := (Rd.first 0).2 0 (Nat.pos_of_ne_zero fun h => hz (Fin.ext h))
      have hk0 : X 0 0 = imp R τ 0 := Rd.kept 0 _ fun ⟨j, hj, _⟩ => absurd hj (by simp)
      rw [hk, hk0, imp_not he] at hlt
      exact absurd (imp_ge R τ 0) (not_le.mpr hlt)
  refine ⟨⟨32 * (p 0).val, by omega⟩, hle, ?_⟩
  have : blockOf ⟨32 * (p 0).val, by omega⟩ = p 0 := Fin.ext (by simp [blockOf])
  rw [this]; exact hc

/-- The row itself is nearby. -/
theorem nearby_nonempty {R : ℕ} (hR : R < 2048) : ∃ t, nearby R t := ⟨⟨R, hR⟩, le_rfl, by simp⟩

/-! ## The two branches over keys -/

/-- The tile's average over the selected blocks: every key's exponential times its block's mark, no causal mask. -/
theorem tile_selected (h4 : 4 ≤ N) (hN : N ≤ 64) (hK : K = 32 * N) {R : ℕ} (hR : R < K) (h127 : 127 ≤ R) (τ : Fin 64 → ℝ)
    (σ : Fin 2048 → ℝ) (c : ℝ) (v : Fin 2048 → EReal) (e b : Fin K → EReal)
    (he : ∀ t : Fin K, e t = ((Real.exp (σ ⟨t.val, by have := t.isLt; omega⟩ - c) : ℝ) : EReal))
    (hb : ∀ t : Fin K, b t = (if chosenW (fun m : Fin N => imp R τ (m.castLE hN))
      ⟨t.val / 32, by have := t.isLt; omega⟩ = 1#1 then 1 else 0)) :
    Ideal.div (∑ t, e t * b t * v ⟨t.val, by have := t.isLt; omega⟩) (∑ t, e t * b t)
      = attend (selected R τ) σ v := by
  have hcov : Covers R N := by unfold Covers; omega
  have iff : ∀ t : Fin K, (chosenW (fun m : Fin N => imp R τ (m.castLE hN)) ⟨t.val / 32, by have := t.isLt; omega⟩ = 1#1)
      ↔ selected R τ ⟨t.val, by have := t.isLt; omega⟩ := fun t => by
    have hC := chosenW_iff h4 hN hcov τ ⟨t.val / 32, by have := t.isLt; omega⟩
    rw [hC.1]
    refine ⟨fun h => ⟨?_, h⟩, fun h => h.2⟩
    have := hC.2.2 h127 _ h
    unfold ended at this
    simp only [Fin.val_castLE] at this
    simp only; omega
  refine ratio (fun t : Fin K => (⟨t.val, by have := t.isLt; omega⟩ : Fin 2048)) (fun a b h => Fin.ext (by simpa using h))
    (selected R τ) (fun t ht => ⟨⟨t.val, by have := ht.1; omega⟩, rfl⟩) σ c _ (fun t ht => ?_) (fun t ht => ?_)
    (selected_nonempty (by omega) τ) v
  · rw [he, hb, if_pos ((iff t).mpr ht), mul_one]
  · rw [he, hb, if_neg (fun h => ht ((iff t).mp h)), mul_zero]

/-- The same where the weights are exponentials times marks, or 0 at a key after the row; before row 127 they must be 0
    there. -/
theorem tile_selected_masked (h4 : 4 ≤ N) (hN : N ≤ 64) (hK : K = 32 * N) {R : ℕ} (hR : R < K) (τ : Fin 64 → ℝ)
    (σ : Fin 2048 → ℝ) (c : ℝ) (v : Fin 2048 → EReal) (w : Fin K → EReal)
    (h : ∀ t : Fin K, (t.val ≤ R ∨ 127 ≤ R) ∧ w t = ((Real.exp (σ ⟨t.val, by have := t.isLt; omega⟩ - c) : ℝ) : EReal)
      * (if chosenW (fun m : Fin N => imp R τ (m.castLE hN)) ⟨t.val / 32, by have := t.isLt; omega⟩ = 1#1 then 1 else 0)
      ∨ R < t.val ∧ w t = 0) :
    Ideal.div (∑ t, w t * v ⟨t.val, by have := t.isLt; omega⟩) (∑ t, w t) = attend (selected R τ) σ v := by
  have hcov : Covers R N := by unfold Covers; omega
  have hC := fun t : Fin K => chosenW_iff h4 hN hcov τ ⟨t.val / 32, by have := t.isLt; omega⟩
  refine ratio (fun t : Fin K => (⟨t.val, by have := t.isLt; omega⟩ : Fin 2048)) (fun a b h => Fin.ext (by simpa using h))
    (selected R τ) (fun t ht => ⟨⟨t.val, by have := ht.1; omega⟩, rfl⟩) σ c _ (fun t ht => ?_) (fun t ht => ?_)
    (selected_nonempty (by omega) τ) v
  · rcases h t with ⟨_, e⟩ | ⟨hm, _⟩
    · rw [e, if_pos ((hC t).1.mpr ht.2), mul_one]
    · exact absurd ht.1 hm.not_ge
  · rcases h t with ⟨hm, e⟩ | ⟨_, e⟩
    · rw [e, if_neg, mul_zero]
      intro h
      have hc := (hC t).1.mp h
      refine ht ⟨?_, hc⟩
      rcases hm with hm | hm
      · exact hm
      · have := (hC t).2.2 hm _ hc
        unfold ended at this
        simp only [Fin.val_castLE] at this
        simp only; omega
    · exact e

/-- The tile's average over the window: the keys of a slab that starts at key `o` and covers the window. -/
theorem tile_nearby {M o : ℕ} (hM : o + M ≤ 2048) {R : ℕ} (hlo : o ≤ R - 127) (hhi : R < o + M) (σ : Fin 2048 → ℝ) (c : ℝ)
    (v : Fin 2048 → EReal) (e : Fin M → EReal)
    (h1 : ∀ t : Fin M, nearby R ⟨o + t.val, by have := t.isLt; omega⟩ →
      e t = ((Real.exp (σ ⟨o + t.val, by have := t.isLt; omega⟩ - c) : ℝ) : EReal))
    (h0 : ∀ t : Fin M, ¬ nearby R ⟨o + t.val, by have := t.isLt; omega⟩ → e t = 0) :
    Ideal.div (∑ t, e t * v ⟨o + t.val, by have := t.isLt; omega⟩) (∑ t, e t) = attend (nearby R) σ v :=
  ratio (fun t : Fin M => (⟨o + t.val, by have := t.isLt; omega⟩ : Fin 2048))
    (fun a b h => Fin.ext (by simpa using h)) (nearby R)
    (fun t ht => by
      obtain ⟨h, h'⟩ := ht
      exact ⟨⟨t.val - o, by omega⟩, Fin.ext (by simp only; omega)⟩) σ c e h1 h0 (nearby_nonempty (by omega)) v

end Cert.Spec

end
-- ==== Proof.AttnConst.lean ====
/- The numbers that the attention's constant words stand for, and its arithmetic on the words of positions. -/
module

public import Idealize.ShloMosaic.PureOps.Ideal
public import Idealize.ShloMosaic.Lib.WordCmp

@[expose] public section

namespace Cert.Spec

open Idealize.ShloMosaic

theorem eighth_bf16 : Ideal.ofBits .bf16 0x3E00#16 = ((1 / 8 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

theorem thirtySecond_f32 : Ideal.ofBits .f32 0x3D000000#32 = ((1 / 32 : ℝ) : EReal) := by
  simp [Ideal.ofBits, Ideal.ieee, -EReal.coe_mul]; norm_num

theorem thirtyTwo_f32 : Ideal.ofBits .f32 0x42000000#32 = ((32 : ℝ) : EReal) := by
  simp [Ideal.ofBits, Ideal.ieee, -EReal.coe_mul]; norm_num

theorem negOne_f32 : Ideal.ofBits .f32 0xBF800000#32 = -1 := by
  simp [Ideal.ofBits, Ideal.ieee, -EReal.coe_mul]; norm_num

theorem negTwo_f32 : Ideal.ofBits .f32 0xC0000000#32 = -2 := by
  rw [show (-2 : EReal) = ((-2 : ℝ) : EReal) by rw [EReal.coe_neg]; rfl]
  simp [Ideal.ofBits, Ideal.ieee, -EReal.coe_mul]; norm_num

theorem bot_f32 : Ideal.ofBits .f32 0xFF800000#32 = ⊥ := by
  simp [Ideal.ofBits, Ideal.ieee]

theorem zero_f32 : Ideal.ofBits .f32 0x00000000#32 = 0 := by
  simp [Ideal.ofBits, Ideal.ieee]

theorem one_f32 : Ideal.ofBits .f32 0x3F800000#32 = 1 := by
  simp [Ideal.ofBits, Ideal.ieee, -EReal.coe_mul]; norm_num

/-- A mark widened to a word and read as a number. -/
theorem mark_number (b : BitVec 1) : FloatOps.sitofp (F := Ideal) .f32 (b.setWidth 32) = if b = 1#1 then 1 else 0 := by
  rcases (by decide : ∀ b : BitVec 1, b = 0#1 ∨ b = 1#1) b with rfl | rfl
  · show ((((0#1 : BitVec 1).setWidth 32).toInt : ℝ) : EReal) = _
    simp
  · show ((((1#1 : BitVec 1).setWidth 32).toInt : ℝ) : EReal) = _
    simp

theorem addi_ofNat (a b : ℕ) : IntOp.addi (BitVec.ofNat 32 a) (BitVec.ofNat 32 b) = BitVec.ofNat 32 (a + b) :=
  (BitVec.ofNat_add a b).symm

theorem muli_ofNat (a b : ℕ) : IntOp.muli (BitVec.ofNat 32 a) (BitVec.ofNat 32 b) = BitVec.ofNat 32 (a * b) :=
  (BitVec.ofNat_mul a b).symm

theorem subi_ofNat {a b : ℕ} (h : b ≤ a) : IntOp.subi (BitVec.ofNat 32 a) (BitVec.ofNat 32 b) = BitVec.ofNat 32 (a - b) := by
  show BitVec.ofNat 32 a - BitVec.ofNat 32 b = _
  rw [eq_comm, BitVec.eq_sub_iff_add_eq, ← BitVec.ofNat_add, Nat.sub_add_cancel h]

/-- The floor division of a position's word by 32. -/
theorem block_word (t : Fin 2048) :
    Scalar.select
      (IntOp.andi
        (IntOp.cmpi .ne
          (IntOp.subi (BitVec.setWidth 32 (IntOp.cmpi .sgt (BitVec.ofNat 32 t.val) 0#32))
            (BitVec.setWidth 32 (IntOp.cmpi .slt (BitVec.ofNat 32 t.val) 0#32)))
          (Scalar.subi (Scalar.extui (Scalar.cmpi .sgt 32#32 0#32)) (Scalar.extui (Scalar.cmpi .slt 32#32 0#32))))
        (IntOp.cmpi .ne (IntOp.remsi .vector (BitVec.ofNat 32 t.val) 32#32) 0#32))
      (IntOp.subi (IntOp.divsi .vector (BitVec.ofNat 32 t.val) 32#32) 1#32)
      (IntOp.divsi .vector (BitVec.ofNat 32 t.val) 32#32) = BitVec.ofNat 32 (t.val / 32) := by
  revert t
  decide +kernel

/-- Whether a key's block number is `n`, as a number. -/
theorem select_block {a n : ℕ} (ha : a < 2 ^ 31) (hn : n < 2 ^ 31) :
    Scalar.select (IntOp.cmpi .eq (BitVec.ofNat 32 a) (BitVec.ofNat 32 n)) (1 : EReal) 0 = if a = n then 1 else 0 := by
  rw [WordCmp.cmpi_eq_ofNat (by omega) (by omega)]
  unfold Scalar.select
  by_cases h : a = n <;> simp [h]

/-- Both of two conditions. -/
theorem andi_iff (a b : BitVec 1) : IntOp.andi a b = 1#1 ↔ a = 1#1 ∧ b = 1#1 :=
  (by decide : ∀ a b : BitVec 1, IntOp.andi a b = 1#1 ↔ a = 1#1 ∧ b = 1#1) a b

end Cert.Spec
-- ==== Proof.AttnBRead.lean ====
/- One head of the tile of rows 512 to 1023, entry by entry: for queries, keys and key matrix with real entries it is the
   row of the attention that `Spec.row` states. -/
module

public import proofs.«01_k».proof.Proof.AttnBHead
public import proofs.«01_k».proof.Proof.AttnRow
public import proofs.«01_k».proof.Proof.AttnConst
public import Idealize.ShloMosaic.Lib.Pointwise
public import Idealize.ShloMosaic.Lib.Pointwise.Tactic

@[expose] public section

noncomputable section

namespace Cert.AttnBIdeal.Head

open Idealize.ShloMosaic Cert.AttnBIdeal Cert.AttnBIdeal.Gen Cert.Spec

/-- The row of the whole that the tile's row `r` is. -/
def rowOf (r : Fin 512) : ℕ := r.val + 512

/-- The key of the whole that the tile's key `t` is. -/
def keyOf (t : Fin 1024) : Fin 2048 := ⟨t.val, by have := t.isLt; omega⟩

theorem le64 : 32 ≤ 64 := by decide

theorem covers (r : Fin 512) : Covers (rowOf r) 32 := by unfold Covers rowOf; have := r.isLt; omega

/-! ## The tables -/

/-- The membership table of keys in blocks. -/
theorem member_apply (n : Fin 32) (t : Fin 1024) : k0_pay2 (F := Ideal) (ix2 n t) = member n.val t.val := by
  have hw := block_word (keyOf t)
  unfold keyOf at hw
  unfold k0_pay2
  pointwise
  rw [hw, select_block (by have := t.isLt; omega) (by have := n.isLt; omega)]
  rfl

/-- The column that sums the weights. -/
theorem ones_apply (t : Fin 1024) : k0_pay8 (F := Ideal) (ix2 t 0) = 1 := by
  unfold k0_pay8
  pointwise
  exact (mark_number 1#1).trans (if_pos rfl)

/-- Which blocks have ended. -/
theorem ended_apply (n : Fin 32) (r : Fin 512) :
    Head.ended (ix2 n r) = 1#1 ↔ Spec.ended (rowOf r) (n.castLE le64) := by
  have hn := n.isLt
  have hr := r.isLt
  unfold Head.ended k0_pay6 k0_pay3 k0_pay4 k0_pay5
  pointwise
  rw [addi_ofNat, muli_ofNat, subi_ofNat (by omega), addi_ofNat, WordCmp.cmpi_sle_ofNat_eq_one_iff (by omega) (by omega)]
  unfold Spec.ended rowOf
  rw [Fin.val_castLE]
  omega

/-- Which keys of the slab from key 256 on are nearby. -/
theorem nearMask_apply (r : Fin 512) (t : Fin 768) :
    k0_pay7 (ix2 r t) = 1#1 ↔ nearby (rowOf r) ⟨256 + t.val, by have := t.isLt; omega⟩ := by
  have ht := t.isLt
  have hr := r.isLt
  unfold k0_pay7
  pointwise
  rw [addi_ofNat, addi_ofNat, subi_ofNat (by omega), subi_ofNat (by omega), andi_iff,
    WordCmp.cmpi_sle_ofNat_eq_one_iff (by omega) (by omega), WordCmp.cmpi_sgt_ofNat_eq_one_iff (by omega) (by omega)]
  unfold nearby rowOf
  simp only
  omega

/-! ## The stages -/

theorem scaled_apply (q : FVec Ideal S512x64 .bf16) (r : Fin 512) (d : Fin 64) :
    scaled q (ix2 r d) = q (ix2 r d) * ((1 / 8 : ℝ) : EReal) := by
  unfold scaled
  pointwise
  rw [eighth_bf16]

theorem scores_apply (q : FVec Ideal S512x64 .bf16) (k : FVec Ideal S1024x64 .bf16) (r : Fin 512) (t : Fin 1024) :
    scores q k (ix2 r t) = ∑ x, q (ix2 r x) * k (ix2 t x) := by
  unfold scores
  pointwise

theorem top_apply (s : FVec Ideal S512x1024 .f32) (r : Fin 512) :
    top s (ix2 r 0) = Finset.fold max ⊥ (fun x => s (ix2 r x)) Finset.univ := by
  unfold top
  pointwise
  rw [bot_f32]

theorem expo_apply (s : FVec Ideal S512x1024 .f32) (r : Fin 512) (t : Fin 1024) :
    expo s (ix2 r t) = Ideal.exp (s (ix2 r t) - top s (ix2 r 0)) := by
  unfold expo
  pointwise

theorem comp_apply (x : FVec Ideal S1024x64 .bf16) (W : FVec Ideal S64x64 .bf16) (n : Fin 32) (d : Fin 64) :
    comp x W (ix2 n d)
      = ∑ y, (∑ t, member n.val t.val * x (ix2 t y)) * ((1 / 32 : ℝ) : EReal) * W (ix2 y d) := by
  have h : ∀ n t, k0_pay2 (F := Ideal) (ix2 n t) = member n.val t.val := member_apply
  unfold comp
  generalize k0_pay2 (F := Ideal) = E at *
  pointwise
  simp only [h, thirtySecond_f32]

theorem probs_apply (q : FVec Ideal S512x64 .bf16) (kc : FVec Ideal S32x64 .f32) (n : Fin 32) (r : Fin 512) :
    probs q kc (ix2 n r) =
      Ideal.div
        (Ideal.exp (Scalar.select (Head.ended (ix2 n r)) (∑ x, kc (ix2 n x) * q (ix2 r x)) ⊥ - Finset.fold max ⊥
          (fun m => Scalar.select (Head.ended (ix2 m r)) (∑ x, kc (ix2 m x) * q (ix2 r x)) ⊥) Finset.univ))
        (∑ u, Ideal.exp (Scalar.select (Head.ended (ix2 u r)) (∑ x, kc (ix2 u x) * q (ix2 r x)) ⊥ - Finset.fold max ⊥
          (fun m => Scalar.select (Head.ended (ix2 m r)) (∑ x, kc (ix2 m x) * q (ix2 r x)) ⊥) Finset.univ)) := by
  have hr := r.isLt
  have hm : Named.named (F := Ideal) κ "mask" (φ := .f32) 4048155338#32 = ⊥ := rfl
  unfold probs k0_pay17
  generalize Head.ended = e
  unfold k0_pay3
  pointwise
  rw [hm, bot_f32, addi_ofNat, (WordCmp.cmpi_sge_ofNat_eq_one_iff (by omega) (by omega)).mpr (by omega)]
  rfl

theorem importance_apply (p : FVec Ideal S32x512 .f32) (n : Fin 32) (r : Fin 512) :
    importance p (ix2 n r) = Scalar.select (Head.ended (ix2 n r)) (p (ix2 n r)) (-1) := by
  unfold importance
  generalize Head.ended = e
  pointwise
  rw [negOne_f32]

theorem mark_apply (x : FVec Ideal S32x512 .f32) (n : Fin 32) (r : Fin 512) :
    mark x (ix2 n r) = markW (fun m => x (ix2 m r)) n := by
  unfold mark
  pointwise
  rw [bot_f32]
  rfl

theorem strike_apply (x : FVec Ideal S32x512 .f32) (r : Fin 512) :
    (fun n : Fin 32 => strike x (ix2 n r)) = strikeW (fun m => x (ix2 m r)) := by
  funext n
  have h := mark_apply x n r
  unfold strike
  generalize mark x = m at *
  pointwise
  rw [h, negTwo_f32]
  rfl

theorem chosen_apply (x : FVec Ideal S32x512 .f32) (n : Fin 32) (r : Fin 512) :
    Head.chosen x (ix2 n r) = chosenW (fun m => x (ix2 m r)) n := by
  have h0 := mark_apply x n r
  have h1 := mark_apply (strike x) n r
  have h2 := mark_apply (strike (strike x)) n r
  have h3 := mark_apply (strike (strike (strike x))) n r
  rw [strike_apply] at h1 h2 h3
  rw [strike_apply] at h2 h3
  rw [strike_apply] at h3
  unfold Head.chosen
  generalize mark x = m0 at *
  generalize mark (strike x) = m1 at *
  generalize mark (strike (strike x)) = m2 at *
  generalize mark (strike (strike (strike x))) = m3 at *
  pointwise
  rw [h0, h1, h2, h3]
  rfl

theorem spread_apply (s : IVec S32x512 1) (r : Fin 512) (t : Fin 1024) :
    spread s (ix2 r t) = if s (ix2 (⟨t.val / 32, by have := t.isLt; omega⟩ : Fin 32) r) = 1#1 then 1 else 0 := by
  have h : ∀ n t, k0_pay2 (F := Ideal) (ix2 n t) = member n.val t.val := member_apply
  unfold spread
  generalize k0_pay2 (F := Ideal) = E at *
  pointwise
  simp only [h, mark_number]
  exact sum_member_block (N := 32) (K := 1024) rfl t fun n => if s (ix2 n r) = 1#1 then 1 else 0

theorem coarse_apply (p : FVec Ideal S32x512 .f32) (vc : FVec Ideal S32x64 .f32) (r : Fin 512) (d : Fin 64) :
    coarse p vc (ix2 r d) = ∑ n, p (ix2 n r) * vc (ix2 n d) := by
  unfold coarse
  pointwise

theorem ratio_picked (e b : FVec Ideal S512x1024 .f32) (v : FVec Ideal S1024x64 .bf16) (r : Fin 512) (d : Fin 64) :
    ratio (picked e b v) (ix2 r d)
      = Ideal.div (∑ t, e (ix2 r t) * b (ix2 r t) * v (ix2 t d)) (∑ t, e (ix2 r t) * b (ix2 r t)) := by
  have h : ∀ t, k0_pay8 (F := Ideal) (ix2 t 0) = 1 := ones_apply
  unfold ratio picked
  generalize k0_pay8 (F := Ideal) = Z at *
  pointwise
  simp only [h, mul_one]

theorem ratio_window (w : FVec Ideal S512x768 .f32) (v : FVec Ideal S1024x64 .bf16) (r : Fin 512) (d : Fin 64) :
    ratio (window w v) (ix2 r d)
      = Ideal.div (∑ t : Fin 768, w (ix2 r t) * v (ix2 (⟨256 + t.val, by have := t.isLt; omega⟩ : Fin 1024) d))
        (∑ t, w (ix2 r t)) := by
  have h : ∀ t, k0_pay8 (F := Ideal) (ix2 t 0) = 1 := ones_apply
  unfold ratio window
  generalize k0_pay8 (F := Ideal) = Z at *
  pointwise
  simp only [h, mul_one]

theorem near_apply (q : FVec Ideal S512x64 .bf16) (k : FVec Ideal S1024x64 .bf16) (c : FVec Ideal S512x1 .f32) (r : Fin 512)
    (t : Fin 768) :
    near q k c (ix2 r t) = Scalar.select (k0_pay7 (ix2 r t)) (Ideal.exp (∑ x, q (ix2 r x)
      * k (ix2 (⟨256 + t.val, by have := t.isLt; omega⟩ : Fin 1024) x) - c (ix2 r 0))) 0 := by
  unfold near
  generalize k0_pay7 = Z
  pointwise

theorem gated_apply (g : FVec Ideal S512x3 .f32) (a b c : FVec Ideal S512x64 .f32) (r : Fin 512) (d : Fin 64) :
    gated g a b c (ix2 r d)
      = g (ix2 r 0) * a (ix2 r d) + g (ix2 r 1) * b (ix2 r d) + g (ix2 r 2) * c (ix2 r d) := by
  unfold gated
  pointwise

/-! ## The head -/

section
variable {q : FVec Ideal S512x64 .bf16} {k v : FVec Ideal S1024x64 .bf16} {Wk Wv : FVec Ideal S64x64 .bf16}
variable {qr : Fin 512 → Fin 64 → ℝ} {kr : Fin 2048 → Fin 64 → ℝ} {Wr : Fin 64 → Fin 64 → ℝ} {ve : Fin 2048 → Fin 64 → EReal}
variable (hq : ∀ r x, q (ix2 r x) = (qr r x : EReal)) (hk : ∀ t x, k (ix2 t x) = (kr (keyOf t) x : EReal))
variable (hW : ∀ x d, Wk (ix2 x d) = (Wr x d : EReal)) (hv : ∀ t x, v (ix2 t x) = ve (keyOf t) x)

include hk hW in
/-- The compressed keys are real. -/
theorem comp_keys (n : Fin 32) (d : Fin 64) : comp k Wk (ix2 n d) = (compressR kr Wr (n.castLE le64) d : EReal) := by
  rw [comp_apply, ← compress_real, ← tile_compress (N := 32) (K := 1024) rfl le64]
  simp only [hk, hW]
  rfl

include hv in
/-- The compressed values. -/
theorem comp_values (n : Fin 32) (d : Fin 64) :
    comp v Wv (ix2 n d) = compress ve (fun x d => Wv (ix2 x d)) (n.castLE le64) d := by
  rw [comp_apply, ← tile_compress (N := 32) (K := 1024) rfl le64]
  simp only [hv]
  rfl

include hq hk hW in
/-- The probabilities of the blocks. -/
theorem probs_eq (n : Fin 32) (r : Fin 512) :
    probs (scaled q) (comp k Wk) (ix2 n r)
      = weight (Spec.ended (rowOf r)) (fun m => score (qr r) (compressR kr Wr m)) (n.castLE le64) := by
  rw [probs_apply]
  simp only [scaled_apply, hq, comp_keys hk hW, score_first]
  refine tile_weight le64 (covers r) (by unfold rowOf; omega) _
    (fun m => Scalar.select (Head.ended (ix2 m r)) (score (qr r) (compressR kr Wr (m.castLE le64)) : EReal) ⊥)
    (fun m hm => ?_) (fun m hm => ?_) n
  · simp only [Scalar.select, (ended_apply m r).mpr hm]; rfl
  · simp only [Scalar.select]; exact if_neg fun h => hm ((ended_apply m r).mp h)

include hq hk hW in
/-- The importance of the blocks. -/
theorem importance_eq (n : Fin 32) (r : Fin 512) :
    importance (probs (scaled q) (comp k Wk)) (ix2 n r)
      = imp (rowOf r) (fun m => score (qr r) (compressR kr Wr m)) (n.castLE le64) := by
  rw [importance_apply, probs_eq hq hk hW]
  unfold imp Scalar.select
  by_cases h : Spec.ended (rowOf r) (n.castLE le64)
  · rw [if_pos h]; exact if_pos ((ended_apply n r).mpr h)
  · rw [if_neg h]; exact if_neg fun h' => h ((ended_apply n r).mp h')

include hq hk in
/-- The scores are real, -/
theorem scores_eq (r : Fin 512) (t : Fin 1024) :
    scores (scaled q) k (ix2 r t) = (score (qr r) (kr (keyOf t)) : EReal) := by
  rw [scores_apply]
  simp only [scaled_apply, hq, hk, score_first']

include hq hk in
/-- and so is the greatest. -/
theorem top_eq (r : Fin 512) : ∃ c : ℝ, top (scores (scaled q) k) (ix2 r 0) = (c : EReal) := by
  rw [top_apply]
  simp only [scores_eq hq hk]
  exact top_real _ (fun t => EReal.coe_ne_top _) (0 : Fin 1024) (EReal.coe_ne_bot _)

include hq hk hW hv in
/-- The head's entry is the row's. -/
theorem head_apply (g : FVec Ideal S512x3 .f32) (r : Fin 512) (d : Fin 64) :
    head q k v g Wk Wv (ix2 r d)
      = row (rowOf r) (fun m => score (qr r) (compressR kr Wr m)) (fun t => score (qr r) (kr t))
        (fun n => compress ve (fun x d => Wv (ix2 x d)) n d) (fun t => ve t d) (g (ix2 r 0)) (g (ix2 r 1)) (g (ix2 r 2)) := by
  have hr := r.isLt
  obtain ⟨c, hc⟩ := top_eq hq hk r
  unfold head headOf row
  rw [gated_apply, coarse_apply, ratio_picked, ratio_window]
  have e1 : ∑ n, probs (scaled q) (comp k Wk) (ix2 n r) * comp v Wv (ix2 n d)
      = attend (Spec.ended (rowOf r)) (fun m => score (qr r) (compressR kr Wr m))
        (fun n => compress ve (fun x d => Wv (ix2 x d)) n d) := by
    simp only [probs_eq hq hk hW, comp_values hv]
    exact tile_coarse le64 (covers r) _ fun n => compress ve (fun x d => Wv (ix2 x d)) n d
  have e2 : Ideal.div
      (∑ t, expo (scores (scaled q) k) (ix2 r t)
        * spread (Head.chosen (importance (probs (scaled q) (comp k Wk)))) (ix2 r t) * v (ix2 t d))
      (∑ t, expo (scores (scaled q) k) (ix2 r t)
        * spread (Head.chosen (importance (probs (scaled q) (comp k Wk)))) (ix2 r t))
      = attend (selected (rowOf r) fun m => score (qr r) (compressR kr Wr m)) (fun t => score (qr r) (kr t))
        (fun t => ve t d) := by
    simp only [hv]
    refine tile_selected (N := 32) (K := 1024) (by decide) le64 rfl (by unfold rowOf; omega) (by unfold rowOf; omega) _ _ c
      (fun t => ve t d) (fun t => expo (scores (scaled q) k) (ix2 r t))
      (fun t => spread (Head.chosen (importance (probs (scaled q) (comp k Wk)))) (ix2 r t)) (fun t => ?_) (fun t => ?_)
    · rw [expo_apply, hc, scores_eq hq hk, ← EReal.coe_sub, Ideal.exp_coe]; rfl
    · rw [spread_apply, chosen_apply]
      simp only [importance_eq hq hk hW]
  have e3 : Ideal.div
      (∑ t : Fin 768, near (scaled q) k (top (scores (scaled q) k)) (ix2 r t)
        * v (ix2 (⟨256 + t.val, by have := t.isLt; omega⟩ : Fin 1024) d))
      (∑ t, near (scaled q) k (top (scores (scaled q) k)) (ix2 r t))
      = attend (nearby (rowOf r)) (fun t => score (qr r) (kr t)) (fun t => ve t d) := by
    simp only [hv]
    refine tile_nearby (M := 768) (o := 256) (by decide) (by unfold rowOf; omega) (by unfold rowOf; omega) _ c
      (fun t => ve t d) (fun t => near (scaled q) k (top (scores (scaled q) k)) (ix2 r t)) (fun t ht => ?_) (fun t ht => ?_)
    · rw [near_apply, hc, (nearMask_apply r t).mpr ht]
      simp only [scaled_apply, hq, hk, score_first']
      rw [← EReal.coe_sub, Ideal.exp_coe]; rfl
    · rw [near_apply]
      exact if_neg fun h => ht ((nearMask_apply r t).mp h)
  rw [e1, e2, e3]

end

end Cert.AttnBIdeal.Head

end
-- ==== Proof.AttnBArray.lean ====
/- The array the tile of rows 512 to 1023 leaves: every entry is the row of the attention that `Spec.row` states, for
   arguments whose queries, keys and key matrix are real. -/
module

public import proofs.«01_k».proof.Proof.AttnBRead
public import Idealize.ShloMosaic.Lib.Pipeline.ValueKit

@[expose] public section

noncomputable section

namespace Cert.AttnBIdeal.Head

open Idealize.ShloMosaic Cert.AttnBIdeal Cert.AttnBIdeal.Gen Cert.Spec

/-- One head's columns of a block of six heads. -/
def cols {M : Nat} (x : FVec Ideal ⟨2, ![M, 384]⟩ .bf16) (h : Fin 6) : FVec Ideal ⟨2, ![M, 64]⟩ .bf16 :=
  fun i => x (ix2 (i 0) ⟨h.val * 64 + (i 1).val, by have := h.isLt; have : (i 1).val < 64 := (i 1).isLt; omega⟩)

/-- One head's gates of a block of six heads. -/
def gate (g : Vec Ideal S6x512x3 .f32) (h : Fin 6) : FVec Ideal S512x3 .f32 :=
  fun i => Ideal.logistic (g (ix3 h (i 0) (i 1)))

/-- A slice of 64 columns is a head's columns. -/
theorem slice_eq {M : Nat} (x : FVec Ideal ⟨2, ![M, 384]⟩ .bf16) (h : Fin 6) (o : Nat) (ho : o = h.val * 64)
    (hs : Shape.Slices ⟨2, ![M, 384]⟩ ![0, o] ⟨2, ![M, 64]⟩) :
    extractStridedSlice ⟨2, ![M, 64]⟩ ![0, o] x hs = cols x h := by
  subst ho
  funext i
  unfold cols extractStridedSlice
  refine congrArg x (funext fun a => Fin.ext ?_)
  fin_cases a
  · exact Nat.zero_add _
  · rfl

/-- A slice of one head's gates. -/
theorem gate_eq (g : Vec Ideal S6x512x3 .f32) (h : Fin 6) (o : Nat) (ho : o = h.val)
    (hs : Shape.Slices S6x512x3 ![o, 0, 0] S1x512x3) :
    shapeCast S512x3 (extractStridedSlice S1x512x3 ![o, 0, 0] (logistic g) hs) shapeCasts_S1x512x3_S512x3
      = gate g h := by
  subst ho
  funext i
  rw [eq_ix2 i]
  unfold gate
  pointwise

/-- Column `64 h + d` of the six heads side by side is column `d` of head `h`. -/
theorem heads_apply (q : Vec Ideal S512x384 .bf16) (k v : Vec Ideal S1024x384 .bf16) (g : Vec Ideal S6x512x3 .f32)
    (Wk Wv : Vec Ideal S64x64 .bf16) (r : Fin 512) (h : Fin 6) (d : Fin 64) :
    heads q k v g Wk Wv (ix2 r ⟨h.val * 64 + d.val, by have := h.isLt; have := d.isLt; omega⟩)
      = head (cols q h) (cols k h) (cols v h) (gate g h) Wk Wv (ix2 r d) := by
  have hd := d.isLt
  unfold heads
  rw [slice_eq q 0 0 rfl, slice_eq k 0 0 rfl, slice_eq v 0 0 rfl, slice_eq q 1 64 rfl, slice_eq k 1 64 rfl,
    slice_eq v 1 64 rfl, slice_eq q 2 128 rfl, slice_eq k 2 128 rfl, slice_eq v 2 128 rfl, slice_eq q 3 192 rfl,
    slice_eq k 3 192 rfl, slice_eq v 3 192 rfl, slice_eq q 4 256 rfl, slice_eq k 4 256 rfl, slice_eq v 4 256 rfl,
    slice_eq q 5 320 rfl, slice_eq k 5 320 rfl, slice_eq v 5 320 rfl, gate_eq g 0 0 rfl,
    gate_eq g 1 1 rfl, gate_eq g 2 2 rfl, gate_eq g 3 3 rfl, gate_eq g 4 4 rfl, gate_eq g 5 5 rfl]
  have e : ∀ {j : ℕ} (z : FVec Ideal S512x64 .bf16) (hj : j < 64), j = d.val → z (ix2 r ⟨j, hj⟩) = z (ix2 r d) :=
    fun z hj h => by subst h; rfl
  fin_cases h <;> pointwise <;> (try repeat rw [dif_neg (by omega)]) <;> (try rw [dif_pos (by omega)]) <;>
    exact e _ _ (by omega)

end Cert.AttnBIdeal.Head

namespace Cert.AttnBIdeal.Array

open Idealize.ShloMosaic Idealize.ShloMosaic.TcCoe Idealize.SL.Sem Cert.AttnBIdeal Cert.AttnBIdeal.Gen

variable (m : (ℓ : Loc nD τ sig) → Buf (Elt Ideal) ℓ) (c : Dev nD)

/-- Where the windows stand at a point: a point does six heads, so half of the columns. -/
theorem idx : ∀ t : Fin cfg0.N, win0_0.index t = ![1, t.val] ∧ win0_1.index t = ![0, t.val] ∧ win0_2.index t = ![0, t.val]
    ∧ win0_3.index t = ![t.val, 1, 0] ∧ win0_4.index t = ![0, 0] ∧ win0_5.index t = ![0, 0] ∧ win0_6.index t = ![0, t.val] :=
  (by decide +kernel : ∀ t : Fin grid0.N, _)

/-- The queries' block. -/
theorem iblk0 (t : Fin cfg0.N) (r : Fin 512) (k : Fin 384) (R : Fin 2048) (J : Fin 768) (hR : R.val = r.val + 512)
    (hJ : J.val = t.val * 384 + k.val) :
    iblk m c 0 t (ix2 r k) = m ((c : Thread nD τ).loc main_arg0) (ix2 R J) := by
  blk_ext [iblk, V, idx t]

/-- The keys' block. -/
theorem iblk1 (t : Fin cfg0.N) (r : Fin 1024) (k : Fin 384) (R : Fin 2048) (J : Fin 768) (hR : R.val = r.val)
    (hJ : J.val = t.val * 384 + k.val) :
    iblk m c 1 t (ix2 r k) = m ((c : Thread nD τ).loc main_arg1) (ix2 R J) := by
  blk_ext [iblk, V, idx t]

/-- The values' block. -/
theorem iblk2 (t : Fin cfg0.N) (r : Fin 1024) (k : Fin 384) (R : Fin 2048) (J : Fin 768) (hR : R.val = r.val)
    (hJ : J.val = t.val * 384 + k.val) :
    iblk m c 2 t (ix2 r k) = m ((c : Thread nD τ).loc main_arg2) (ix2 R J) := by
  blk_ext [iblk, V, idx t]

/-- The gates' block. -/
theorem iblk3 (t : Fin cfg0.N) (h : Fin 6) (r : Fin 512) (k : Fin 3) (H : Fin 12) (R : Fin 2048) (hR : R.val = r.val + 512)
    (hH : H.val = t.val * 6 + h.val) :
    iblk m c 3 t (ix3 h r k) = m ((c : Thread nD τ).loc main_arg3) (ix3 H R k) := by
  blk_ext [iblk, V, idx t]

/-- The matrix of the keys. -/
theorem iblk4 (t : Fin cfg0.N) : iblk m c 4 t = m ((c : Thread nD τ).loc main_arg4) := by
  funext y; blk_ext [iblk, V, idx t]

/-- The matrix of the values. -/
theorem iblk5 (t : Fin cfg0.N) : iblk m c 5 t = m ((c : Thread nD τ).loc main_arg5) := by
  funext y; blk_ext [iblk, V, idx t]

/-- An array read through the output window's block. -/
theorem read6 (t : Fin cfg0.N) (A : S512x768.Idx → Elt Ideal .bf16) (r : Fin 512) (j : Fin 384) (J : Fin 768)
    (hJ : J.val = t.val * 384 + j.val) :
    ((cfg0.win 6).blk t).view.read (Elt Ideal) A (ix2 r j) = A (ix2 r J) := by
  blk_ext [idx t]

/-- The array at a point's columns is what the point's body computed. -/
theorem block6 (t : Fin cfg0.N) (r : Fin 512) (j : Fin 384) (J : Fin 768) (hJ : J.val = t.val * 384 + j.val) :
    (dats m 0 c).arrAt 6 cfg0.N (ix2 r J)
      = out0_6 (iblk m c 0 t) (iblk m c 1 t) (iblk m c 2 t) (iblk m c 3 t) (iblk m c 4 t) (iblk m c 5 t) (ix2 r j) := by
  refine (read6 t _ r j J hJ).symm.trans ?_
  refine (congrFun (Value.blocks6 m c t ((by decide +kernel : ∀ t : Fin grid0.N, (cfg0.win 6).flush t = true) t))
    (ix2 r j)).trans ?_
  rw [Value.flushed6]
  rfl

/-- Column `d` of head `H` among all columns. -/
def col (H : Fin 12) (d : Fin 64) : Fin 768 := ⟨H.val * 64 + d.val, by have := H.isLt; have := d.isLt; omega⟩

/-- The array's entries: for real queries, keys and key matrix, the rows of the attention. -/
theorem array_apply {qr kr : Fin 2048 → Fin 768 → ℝ} {Wr : Fin 64 → Fin 64 → ℝ}
    (hq : ∀ r x, m ((c : Thread nD τ).loc main_arg0) (ix2 r x) = (qr r x : EReal))
    (hk : ∀ r x, m ((c : Thread nD τ).loc main_arg1) (ix2 r x) = (kr r x : EReal))
    (hW : ∀ x d, m ((c : Thread nD τ).loc main_arg4) (ix2 x d) = (Wr x d : EReal))
    (r : Fin 512) (R : Fin 2048) (hR : R.val = r.val + 512) (H : Fin 12) (d : Fin 64) :
    (dats m 0 c).arrAt 6 cfg0.N (ix2 r (col H d))
      = Spec.row R.val (fun n => Spec.score (fun x => qr R (col H x)) (Spec.compressR (fun t x => kr t (col H x)) Wr n))
        (fun t => Spec.score (fun x => qr R (col H x)) (fun x => kr t (col H x)))
        (fun n => Spec.compress (fun t x => m ((c : Thread nD τ).loc main_arg2) (ix2 t (col H x)))
          (fun x d => m ((c : Thread nD τ).loc main_arg5) (ix2 x d)) n d)
        (fun t => m ((c : Thread nD τ).loc main_arg2) (ix2 t (col H d)))
        (Ideal.logistic (m ((c : Thread nD τ).loc main_arg3) (ix3 H R 0)))
        (Ideal.logistic (m ((c : Thread nD τ).loc main_arg3) (ix3 H R 1)))
        (Ideal.logistic (m ((c : Thread nD τ).loc main_arg3) (ix3 H R 2))) := by
  have hN : cfg0.N = 2 := N_0
  have hH := H.isLt
  obtain ⟨t, ht⟩ : ∃ t : Fin cfg0.N, t.val = H.val / 6 := ⟨⟨H.val / 6, by omega⟩, rfl⟩
  obtain ⟨h, hh⟩ : ∃ h : Fin 6, h.val = H.val % 6 := ⟨⟨H.val % 6, by omega⟩, rfl⟩
  have hcol : ∀ x : Fin 64, (col H x).val = t.val * 384 + (h.val * 64 + x.val) := fun x => by
    show H.val * 64 + x.val = _
    omega
  rw [block6 m c t r ⟨h.val * 64 + d.val, by have := h.isLt; have := d.isLt; omega⟩ (col H d) (hcol d), Head.out_eq,
    Head.heads_apply]
  have q1 : ∀ (r' : Fin 512) x, Head.cols (iblk m c 0 t) h (ix2 r' x)
      = ((fun (r' : Fin 512) x => qr ⟨r'.val + 512, by have := r'.isLt; omega⟩ (col H x)) r' x : EReal) := fun r' x =>
    (iblk0 m c t r' _ ⟨r'.val + 512, by have := r'.isLt; omega⟩ (col H x) rfl (hcol x)).trans (hq _ _)
  have k1 : ∀ (t' : Fin 1024) x, Head.cols (iblk m c 1 t) h (ix2 t' x)
      = ((fun (t' : Fin 2048) x => kr t' (col H x)) (Head.keyOf t') x : EReal) := fun t' x =>
    (iblk1 m c t t' _ (Head.keyOf t') (col H x) rfl (hcol x)).trans (hk _ _)
  have v1 : ∀ (t' : Fin 1024) x, Head.cols (iblk m c 2 t) h (ix2 t' x)
      = (fun (t' : Fin 2048) x => m ((c : Thread nD τ).loc main_arg2) (ix2 t' (col H x))) (Head.keyOf t') x := fun t' x =>
    iblk2 m c t t' _ (Head.keyOf t') (col H x) rfl (hcol x)
  have g1 : ∀ b, Head.gate (iblk m c 3 t) h (ix2 r b)
      = Ideal.logistic (m ((c : Thread nD τ).loc main_arg3) (ix3 H R b)) := fun b =>
    congrArg Ideal.logistic (iblk3 m c t h r b H R hR (by omega))
  have W1 : ∀ x d, iblk m c 4 t (ix2 x d) = (Wr x d : EReal) := fun x d => by rw [iblk4]; exact hW x d
  rw [Head.head_apply (v := Head.cols (iblk m c 2 t) h)
    (qr := fun r' x => qr ⟨r'.val + 512, by have := r'.isLt; omega⟩ (col H x)) (kr := fun t' x => kr t' (col H x))
    (ve := fun (t' : Fin 2048) x => m ((c : Thread nD τ).loc main_arg2) (ix2 t' (col H x))) q1 k1 W1 v1, g1, g1, g1, iblk5]
  have eR : R = ⟨r.val + 512, by have := r.isLt; omega⟩ := Fin.ext hR
  rw [show Head.rowOf r = R.val from hR.symm, ← eR]

end Cert.AttnBIdeal.Array

end
-- ==== Proof.AttnTopK.lean ====
/- What the reference's whole-array steps give at an entry: the positions that a top-k returns, "any" of marks, and a
   masked softmax whose rows without an admitted entry are set to 0. -/
module

public import proofs.«01_k».proof.Proof.AttnSpec
public import Idealize.ShloMosaic.Lib.Pointwise
public import Idealize.ShloMosaic.Lib.Pointwise.Tactic

@[expose] public section

noncomputable section

namespace Cert.Spec

open Idealize.ShloMosaic

/-- The total order's "greater" on extended reals. -/
theorem gt_total (a b : EReal) : (FloatOps.cmpfTotal (F := Ideal) (φ := .f32) .gt a b == 1#1) = decide (b < a) := by
  show (BitVec.ofBool (decide (b < a)) == 1#1) = decide (b < a)
  by_cases h : b < a <;> simp [h]

/-- A word array that reads its own position along a fibre reads the position a sort picked. -/
theorem ofNat_sorted {N : ℕ} {I : Type} (y : I → BitVec 32) (f : Fin N → I) (hy : ∀ k, y (f k) = BitVec.ofNat 32 k.val)
    (B B' : Fin N → Fin N → Bool) (k : Fin N) (hB : ∀ a b, B a b = B' a b) :
    y (f (sortedFrom B k)) = BitVec.ofNat 32 (sortedFrom B' k).val := by
  rw [hy, funext₂ hB]

/-- The index of the `i`-th greatest is its position in the stable sort by decreasing value. -/
theorem topK_apply (x : FVec Ideal ⟨3, ![12, 2048, 64]⟩ .f32)
    (hs : Shape.Slices ⟨3, ![12, 2048, 64]⟩ (fun _ => 0) ⟨3, ![12, 2048, 4]⟩) (h : Fin 12) (s : Fin 2048) (i : Fin 4) :
    (Host.topK (⟨3, ![12, 2048, 4]⟩ : Shape) 2 (FloatOps.cmpfTotal (F := Ideal) (φ := .f32) .gt) x hs).2 (ix3 h s i)
      = BitVec.ofNat 32 (sortedFrom (fun a b : Fin 64 => decide (x (ix3 h s b) < x (ix3 h s a))) (i.castLE (by decide))).val := by
  have hcast : ∀ k : Fin 64, Shape.Idx.along (ix3 h s (i.castLE (by decide)) : (⟨3, ![12, 2048, 64]⟩ : Shape).Idx) 2 k = ix3 h s k := by
    intro k
    funext a
    fin_cases a <;> rfl
  have key : (Host.topK (⟨3, ![12, 2048, 4]⟩ : Shape) 2 (FloatOps.cmpfTotal (F := Ideal) (φ := .f32) .gt) x hs).2 (ix3 h s i)
      = (Host.sort2 ⟨3, ![12, 2048, 64]⟩ 2 (fun l r => FloatOps.cmpfTotal (F := Ideal) (φ := .f32) .gt l.1 r.1) x
        (iotaInDim ⟨3, ![12, 2048, 64]⟩ 32 2)).2 (ix3 h s (i.castLE (by decide))) := by
    unfold Host.topK extractStridedSlice
    simp only
    refine congrArg _ ?_
    funext a
    fin_cases a <;> exact Fin.ext (Nat.zero_add _)
  rw [key]
  unfold Host.sort2
  rw [dif_pos (by decide)]

  refine (congrArg (iotaInDim ⟨3, ![12, 2048, 64]⟩ 32 2) (hcast _)).trans ?_
  refine (ofNat_sorted (iotaInDim ⟨3, ![12, 2048, 64]⟩ 32 2) (fun k => ix3 h s k) (fun _ => rfl) _ _ _ fun a b => ?_)
  refine (gt_total _ _).trans ?_
  exact congrArg₂ (fun u v => decide (x u < x v)) (hcast b) (hcast a)

/-- "Any" of finitely many marks. -/
theorem any_iff {N : ℕ} (f : Fin N → BitVec 1) : Finset.fold IntOp.ori 0#1 f Finset.univ = 1#1 ↔ ∃ x, f x = 1#1 := by
  have h := Finset.fold_op_rel_iff_or (op := IntOp.ori) (r := fun (_ y : BitVec 1) => y = 1#1) (s := Finset.univ) (f := f) (b := 0#1)
    (fun {x y z} => (by decide : ∀ y z : BitVec 1, IntOp.ori y z = 1#1 ↔ y = 1#1 ∨ z = 1#1) y z) (c := 0#1)
  simpa using h

/-- A softmax over a row: the exponentials of the distances to the greatest entry, divided by their sum. -/
def soften {N : ℕ} (x : Fin N → EReal) (t : Fin N) : EReal :=
  Ideal.div (Ideal.exp (x t - max ⊥ (Finset.fold max ⊥ x Finset.univ)))
    (∑ u, Ideal.exp (x u - max ⊥ (Finset.fold max ⊥ x Finset.univ)))

/-- Of scores that are real where admitted and `⊥` elsewhere it is the weight, where at least one is admitted. -/
theorem soften_weight {N : ℕ} {A : Fin N → Prop} {M : Fin N → BitVec 1} (hM : ∀ t, M t = 1#1 ↔ A t) (s : Fin N → ℝ)
    (hA : ∃ t, A t) (t : Fin N) : soften (fun u => Scalar.select (M u) (s u : EReal) ⊥) t = weight A s t := by
  unfold soften
  rw [max_eq_right bot_le]
  exact soft id Function.injective_id A (fun t _ => ⟨t, rfl⟩) s _
    (fun u hu => if_pos ((hM u).mpr hu)) (fun u hu => if_neg fun h => hu ((hM u).mp h)) hA t

/-- With the rows without an admitted entry set to 0 it is the weight everywhere. -/
theorem soften_weight' {N : ℕ} {A : Fin N → Prop} {M : Fin N → BitVec 1} (hM : ∀ t, M t = 1#1 ↔ A t) (s : Fin N → ℝ)
    (t : Fin N) :
    Scalar.select (Finset.fold IntOp.ori 0#1 M Finset.univ) (soften (fun u => Scalar.select (M u) (s u : EReal) ⊥) t) 0
      = weight A s t := by
  unfold Scalar.select
  split
  · rename_i h
    obtain ⟨u, hu⟩ := (any_iff M).mp h
    exact soften_weight hM s ⟨u, (hM u).mp hu⟩ t
  · rename_i h
    exact (weight_not fun ht => h ((any_iff M).mpr ⟨t, (hM t).mpr ht⟩)).symm

end Cert.Spec

end
-- ==== Proof.AttnBRefRead.lean ====
/- The reference's stages read at an entry, each in terms of the stages before it. -/
module

public import proofs.«01_k».proof.Proof.Gen.AttnBRefIdeal.Read
public import proofs.«01_k».proof.Proof.AttnTopK
public import proofs.«01_k».proof.Proof.AttnConst
public import Idealize.ShloMosaic.Lib.Pointwise
public import Idealize.ShloMosaic.Lib.Pointwise.Tactic

@[expose] public section

noncomputable section

namespace Cert.AttnBRefIdeal.Stages

open Idealize.ShloMosaic Cert.AttnBRefIdeal Cert.AttnBRefIdeal.Read Cert.Spec

variable (x0 x1 x2 : FVec Ideal S2048x768 .bf16) (x3 : FVec Ideal S12x2048x3 .f32) (x4 x5 : FVec Ideal S64x64 .bf16)

/-- The column of the wide arrays that holds entry `d` of head `H`. -/
def col (H : Fin 12) (d : Fin 64) : Fin 768 := ⟨H.val * 64 + d.val, by have := H.isLt; have := d.isLt; omega⟩

/-! ## The heads -/

/-- The queries by head. -/
theorem q_apply (H : Fin 12) (s : Fin 2048) (d : Fin 64) : val_main_v6 (F := Ideal) x0 (ix3 H s d) = x0 (ix2 s (col H d)) := by
  unfold val_main_v6 val_main_v5 val_main_v0
  pointwise
  rfl

/-- The keys by head. -/
theorem k_apply (H : Fin 12) (s : Fin 2048) (d : Fin 64) : val_main_v8 (F := Ideal) x1 (ix3 H s d) = x1 (ix2 s (col H d)) := by
  unfold val_main_v8 val_main_v7 val_main_v1
  pointwise
  rfl

/-- The values by head. -/
theorem v_apply (H : Fin 12) (s : Fin 2048) (d : Fin 64) : val_main_v10 (F := Ideal) x2 (ix3 H s d) = x2 (ix2 s (col H d)) := by
  unfold val_main_v10 val_main_v9 val_main_v2
  pointwise
  rfl

/-! ## The compressed branch -/

/-- The compressed keys. -/
theorem kc_apply (H : Fin 12) (n d : Fin 64) : val_main_v16 (F := Ideal) x1 x4 (ix3 H n d)
    = compress (fun t x => x1 (ix2 t (col H x))) (fun x d => x4 (ix2 x d)) n d := by
  have e := k_apply x1 H
  unfold val_main_v16 val_main_v3 val_main_v15 val_main_v14 val_main_v13 val_main_cst val_main_cst_0 val_main_v12
  generalize val_main_v8 (F := Ideal) x1 = z at *
  pointwise
  unfold compress
  rw [thirtyTwo_f32]
  simp only [e]

/-- The compressed values. -/
theorem vc_apply (H : Fin 12) (n d : Fin 64) : val_main_v21 (F := Ideal) x2 x5 (ix3 H n d)
    = compress (fun t x => x2 (ix2 t (col H x))) (fun x d => x5 (ix2 x d)) n d := by
  have e := v_apply x2 H
  unfold val_main_v21 val_main_v4 val_main_v20 val_main_v19 val_main_v18 val_main_cst_1 val_main_cst_2 val_main_v17
  generalize val_main_v10 (F := Ideal) x2 = z at *
  pointwise
  unfold compress
  rw [thirtyTwo_f32]
  simp only [e]

/-- The scores of the compressed keys. -/
theorem coarseScore_apply (H : Fin 12) (s : Fin 2048) (n : Fin 64) : val_main_v24 (F := Ideal) x0 x1 x4 (ix3 H s n)
    = (∑ x, x0 (ix2 s (col H x)) * compress (fun t x => x1 (ix2 t (col H x))) (fun x d => x4 (ix2 x d)) n x)
      * ((1 / 8 : ℝ) : EReal) := by
  have e := q_apply x0 H s
  have e' := kc_apply x1 x4 H n
  unfold val_main_v24 val_main_v23 val_main_v22 val_main_cst_3
  generalize val_main_v6 (F := Ideal) x0 = y at *
  generalize val_main_v16 (F := Ideal) x1 x4 = z at *
  pointwise
  rw [eighth_f32]
  simp only [e, e']

/-- Which blocks have ended. -/
theorem ended_iff (s : Fin 2048) (n : Fin 64) : val_main_v36 (F := Ideal) (ix2 s n) = 1#1 ↔ ended s.val n := by
  have hn := n.isLt
  have hs := s.isLt
  unfold val_main_v36 val_main_v35 val_main_v34 val_main_v33 val_main_v32 val_main_v31 val_main_v30 val_main_c_5 val_main_v29 val_main_v28 val_main_c_4 val_main_v27 val_main_v26 val_main_c val_main_v25 val_main_v11
  pointwise
  rw [addi_ofNat, muli_ofNat, subi_ofNat (by omega), WordCmp.cmpi_sle_ofNat_eq_one_iff (by omega) (by omega)]
  unfold ended
  omega

/-- The masked scores of the compressed keys. -/
theorem coarseMasked_apply (H : Fin 12) (s : Fin 2048) (n : Fin 64) : val_main_v38 (F := Ideal) x0 x1 x4 (ix3 H s n)
    = Scalar.select (val_main_v36 (F := Ideal) (ix2 s n)) (val_main_v24 (F := Ideal) x0 x1 x4 (ix3 H s n)) ⊥ := by
  unfold val_main_v38 val_main_call0_v2 val_main_call0_v1 val_main_call0_v0 val_main_cst_6 val_main_v37
  generalize val_main_v24 (F := Ideal) x0 x1 x4 = z
  generalize val_main_v36 (F := Ideal) = q
  pointwise
  rw [← bot_f32]
  rfl

/-- Their softmax. -/
theorem coarseSoft_apply (H : Fin 12) (s : Fin 2048) (n : Fin 64) : val_main_v49 (F := Ideal) x0 x1 x4 (ix3 H s n)
    = soften (fun u => val_main_v38 (F := Ideal) x0 x1 x4 (ix3 H s u)) n := by
  unfold val_main_v49 val_main_v48 val_main_v47 val_main_v46 val_main_cst_9 val_main_v45 val_main_v44 val_main_v43 val_main_v42 val_main_v41 val_main_v40 val_main_cst_8 val_main_v39 val_main_cst_7
  generalize val_main_v38 (F := Ideal) x0 x1 x4 = z
  pointwise
  rw [bot_f32]
  rfl

/-- The compressed weights: the softmax, and 0 in rows where no block has ended. -/
theorem coarse_apply (H : Fin 12) (s : Fin 2048) (n : Fin 64) : val_main_v52 (F := Ideal) x0 x1 x4 (ix3 H s n)
    = Scalar.select (Finset.fold IntOp.ori 0#1 (fun u => val_main_v36 (F := Ideal) (ix2 s u)) Finset.univ)
        (val_main_v49 (F := Ideal) x0 x1 x4 (ix3 H s n)) 0 := by
  unfold val_main_v52 val_main_call1_v2 val_main_call1_v1 val_main_call1_v0 val_main_cst_11 val_main_v51 val_main_v50 val_main_c_10
  generalize val_main_v49 (F := Ideal) x0 x1 x4 = z
  generalize val_main_v36 (F := Ideal) = q
  pointwise
  rw [← zero_f32]
  rfl

/-- The compressed branch. -/
theorem coarseOut_apply (H : Fin 12) (s : Fin 2048) (d : Fin 64) : val_main_v53 (F := Ideal) x0 x1 x2 x4 x5 (ix3 H s d)
    = ∑ n, val_main_v52 (F := Ideal) x0 x1 x4 (ix3 H s n) * val_main_v21 (F := Ideal) x2 x5 (ix3 H n d) := by
  unfold val_main_v53
  generalize val_main_v52 (F := Ideal) x0 x1 x4 = z
  generalize val_main_v21 (F := Ideal) x2 x5 = y
  pointwise

/-! ## The selected branch -/

/-- The importance of the blocks. -/
theorem importance_apply (H : Fin 12) (s : Fin 2048) (n : Fin 64) : val_main_v55 (F := Ideal) x0 x1 x4 (ix3 H s n)
    = Scalar.select (val_main_v36 (F := Ideal) (ix2 s n)) (val_main_v52 (F := Ideal) x0 x1 x4 (ix3 H s n)) (-1) := by
  unfold val_main_v55 val_main_call2_v2 val_main_call2_v1 val_main_call2_v0 val_main_cst_12 val_main_v54
  generalize val_main_v52 (F := Ideal) x0 x1 x4 = z
  generalize val_main_v36 (F := Ideal) = q
  pointwise
  rw [← negOne_f32]
  rfl

/-- The indices of the four most important blocks. -/
theorem index_apply (H : Fin 12) (s : Fin 2048) (i : Fin 4) : val_main_indices (F := Ideal) x0 x1 x4 (ix3 H s i)
    = BitVec.ofNat 32 (sortedFrom (fun a b : Fin 64 => decide (val_main_v55 (F := Ideal) x0 x1 x4 (ix3 H s b)
        < val_main_v55 (F := Ideal) x0 x1 x4 (ix3 H s a))) (i.castLE (by decide))).val :=
  topK_apply (val_main_v55 (F := Ideal) x0 x1 x4) _ H s i

/-- Which blocks are chosen. -/
theorem chosenMark_apply (H : Fin 12) (s : Fin 2048) (n : Fin 64) : val_main_v62 (F := Ideal) x0 x1 x4 (ix3 H s n)
    = Finset.fold IntOp.ori 0#1 (fun i : Fin 4 => IntOp.cmpi .eq (val_main_indices (F := Ideal) x0 x1 x4 (ix3 H s i))
        (BitVec.ofNat 32 n.val)) Finset.univ := by
  unfold val_main_v62 val_main_c_13 val_main_v61 val_main_v60 val_main_v59 val_main_v58 val_main_v57 val_main_v56
  generalize val_main_indices (F := Ideal) x0 x1 x4 = z
  pointwise

/-- Which keys are selected. -/
theorem selectedMark_apply (H : Fin 12) (s t : Fin 2048) : val_main_v72 (F := Ideal) x0 x1 x4 (ix3 H s t)
    = IntOp.andi (val_main_v62 (F := Ideal) x0 x1 x4 (ix3 H s (blockOf t)))
        (IntOp.cmpi .sle (BitVec.ofNat 32 t.val) (BitVec.ofNat 32 s.val)) := by
  unfold val_main_v72 val_main_v71 val_main_v70 val_main_v69 val_main_v68 val_main_v67 val_main_v66 val_main_v65 val_main_v64 val_main_v63 val_main_v11
  generalize val_main_v62 (F := Ideal) x0 x1 x4 = z
  pointwise
  rfl

/-- The scores of the keys. -/
theorem score_apply (H : Fin 12) (s t : Fin 2048) : val_main_v75 (F := Ideal) x0 x1 (ix3 H s t)
    = (∑ x, x0 (ix2 s (col H x)) * x1 (ix2 t (col H x))) * ((1 / 8 : ℝ) : EReal) := by
  have e := q_apply x0 H s
  have e' := k_apply x1 H t
  unfold val_main_v75 val_main_v74 val_main_cst_14 val_main_v73
  generalize val_main_v6 (F := Ideal) x0 = y at *
  generalize val_main_v8 (F := Ideal) x1 = z at *
  pointwise
  rw [eighth_f32]
  simp only [e, e']

/-- The masked scores of the selected keys. -/
theorem selectedMasked_apply (H : Fin 12) (s t : Fin 2048) : val_main_v76 (F := Ideal) x0 x1 x4 (ix3 H s t)
    = Scalar.select (val_main_v72 (F := Ideal) x0 x1 x4 (ix3 H s t)) (val_main_v75 (F := Ideal) x0 x1 (ix3 H s t)) ⊥ := by
  unfold val_main_v76 val_main_call3_v1 val_main_call3_v0 val_main_cst_15
  generalize val_main_v75 (F := Ideal) x0 x1 = z
  generalize val_main_v72 (F := Ideal) x0 x1 x4 = q
  pointwise
  rw [← bot_f32]
  rfl

/-- The greatest masked score of a row. -/
theorem selectedTop_apply (H : Fin 12) (s : Fin 2048) : val_main_v77 (F := Ideal) x0 x1 x4 (ix2 H s)
    = Finset.fold max ⊥ (fun u : Fin 2048 => val_main_v76 (F := Ideal) x0 x1 x4 (ix3 H s u)) Finset.univ := by
  unfold val_main_v77 val_main_cst_16
  generalize val_main_v76 (F := Ideal) x0 x1 x4 = z
  pointwise
  rw [bot_f32]

/-- The exponential of the distance to it. -/
theorem selectedExp_apply (H : Fin 12) (s t : Fin 2048) : val_main_v83 (F := Ideal) x0 x1 x4 (ix3 H s t)
    = Ideal.exp (val_main_v76 (F := Ideal) x0 x1 x4 (ix3 H s t) - max ⊥ (val_main_v77 (F := Ideal) x0 x1 x4 (ix2 H s))) := by
  rw [val_main_v83_apply, val_main_v82_apply, val_main_v81_apply, val_main_v80_apply, val_main_v79_apply, val_main_v78_apply,
    show idx_main_v80 (idx_main_v81 (ix3 H s t)) = ix2 H s from by funext a; fin_cases a <;> rfl, ← bot_f32]
  generalize val_main_v76 (F := Ideal) x0 x1 x4 (ix3 H s t) = a
  generalize val_main_v77 (F := Ideal) x0 x1 x4 (ix2 H s) = b
  rfl

/-- The exponentials' sum. -/
theorem selectedMass_apply (H : Fin 12) (s : Fin 2048) : val_main_v84 (F := Ideal) x0 x1 x4 (ix2 H s)
    = ∑ u : Fin 2048, val_main_v83 (F := Ideal) x0 x1 x4 (ix3 H s u) := by
  rw [val_main_v84_apply, val_main_cst_18_apply, show FloatOps.ofBits (F := Ideal) .f32 0x00000000#32 = 0 from zero_f32, zero_add]
  refine Finset.sum_congr rfl fun u _ => congrArg _ ?_
  funext a; fin_cases a <;> rfl

/-- Their softmax. -/
theorem selectedSoft_apply (H : Fin 12) (s t : Fin 2048) : val_main_v87 (F := Ideal) x0 x1 x4 (ix3 H s t)
    = soften (fun u => val_main_v76 (F := Ideal) x0 x1 x4 (ix3 H s u)) t := by
  rw [val_main_v87_apply, val_main_v86_apply, val_main_v85_apply,
    show idx_main_v85 (idx_main_v86 (ix3 H s t)) = ix2 H s from by funext a; fin_cases a <;> rfl, selectedMass_apply]
  simp only [selectedExp_apply, selectedTop_apply]
  rfl

/-- The selected weights: the softmax, and 0 in rows where no key is selected. -/
theorem selectedWeight_apply (H : Fin 12) (s t : Fin 2048) : val_main_v90 (F := Ideal) x0 x1 x4 (ix3 H s t)
    = Scalar.select (Finset.fold IntOp.ori 0#1 (fun u => val_main_v72 (F := Ideal) x0 x1 x4 (ix3 H s u)) Finset.univ)
        (val_main_v87 (F := Ideal) x0 x1 x4 (ix3 H s t)) 0 := by
  unfold val_main_v90 val_main_call4_v2 val_main_call4_v1 val_main_call4_v0 val_main_cst_20 val_main_v89 val_main_v88 val_main_c_19
  generalize val_main_v87 (F := Ideal) x0 x1 x4 = z
  generalize val_main_v72 (F := Ideal) x0 x1 x4 = q
  pointwise
  rw [← zero_f32]
  rfl

/-- The selected branch. -/
theorem selectedOut_apply (H : Fin 12) (s : Fin 2048) (d : Fin 64) : val_main_v91 (F := Ideal) x0 x1 x2 x4 (ix3 H s d)
    = ∑ t, val_main_v90 (F := Ideal) x0 x1 x4 (ix3 H s t) * x2 (ix2 t (col H d)) := by
  have e := fun t => v_apply x2 H t d
  unfold val_main_v91
  generalize val_main_v90 (F := Ideal) x0 x1 x4 = z
  generalize val_main_v10 (F := Ideal) x2 = y at *
  pointwise
  simp only [e]

/-! ## The branch over the last 128 keys -/

/-- Which keys are nearby. -/
theorem nearbyMark_apply (s t : Fin 2048) : val_main_v99 (F := Ideal) (ix2 s t)
    = IntOp.andi (IntOp.cmpi .sle (BitVec.ofNat 32 t.val) (BitVec.ofNat 32 s.val))
        (IntOp.cmpi .sgt (BitVec.ofNat 32 t.val) (IntOp.subi (BitVec.ofNat 32 s.val) 128#32)) := by
  unfold val_main_v99 val_main_v98 val_main_v97 val_main_v96 val_main_v95 val_main_v94 val_main_c_21 val_main_v93 val_main_v92 val_main_v67 val_main_v66 val_main_v65 val_main_v64 val_main_v63 val_main_v11
  pointwise

/-- The masked scores of the nearby keys. -/
theorem nearbyMasked_apply (H : Fin 12) (s t : Fin 2048) : val_main_v101 (F := Ideal) x0 x1 (ix3 H s t)
    = Scalar.select (val_main_v99 (F := Ideal) (ix2 s t)) (val_main_v75 (F := Ideal) x0 x1 (ix3 H s t)) ⊥ := by
  unfold val_main_v101 val_main_call5_v2 val_main_call5_v1 val_main_call5_v0 val_main_cst_22 val_main_v100
  generalize val_main_v75 (F := Ideal) x0 x1 = z
  generalize val_main_v99 (F := Ideal) = q
  pointwise
  rw [← bot_f32]
  rfl

/-- The greatest masked score of a row. -/
theorem nearbyTop_apply (H : Fin 12) (s : Fin 2048) : val_main_v102 (F := Ideal) x0 x1 (ix2 H s)
    = Finset.fold max ⊥ (fun u : Fin 2048 => val_main_v101 (F := Ideal) x0 x1 (ix3 H s u)) Finset.univ := by
  unfold val_main_v102 val_main_cst_23
  generalize val_main_v101 (F := Ideal) x0 x1 = z
  pointwise
  rw [bot_f32]

/-- The exponential of the distance to it. -/
theorem nearbyExp_apply (H : Fin 12) (s t : Fin 2048) : val_main_v108 (F := Ideal) x0 x1 (ix3 H s t)
    = Ideal.exp (val_main_v101 (F := Ideal) x0 x1 (ix3 H s t) - max ⊥ (val_main_v102 (F := Ideal) x0 x1 (ix2 H s))) := by
  rw [val_main_v108_apply, val_main_v107_apply, val_main_v106_apply, val_main_v105_apply, val_main_v104_apply, val_main_v103_apply,
    show idx_main_v105 (idx_main_v106 (ix3 H s t)) = ix2 H s from by funext a; fin_cases a <;> rfl, ← bot_f32]
  generalize val_main_v101 (F := Ideal) x0 x1 (ix3 H s t) = a
  generalize val_main_v102 (F := Ideal) x0 x1 (ix2 H s) = b
  rfl

/-- The exponentials' sum. -/
theorem nearbyMass_apply (H : Fin 12) (s : Fin 2048) : val_main_v109 (F := Ideal) x0 x1 (ix2 H s)
    = ∑ u : Fin 2048, val_main_v108 (F := Ideal) x0 x1 (ix3 H s u) := by
  rw [val_main_v109_apply, val_main_cst_25_apply, show FloatOps.ofBits (F := Ideal) .f32 0x00000000#32 = 0 from zero_f32, zero_add]
  refine Finset.sum_congr rfl fun u _ => congrArg _ ?_
  funext a; fin_cases a <;> rfl

/-- Their softmax. -/
theorem nearbySoft_apply (H : Fin 12) (s t : Fin 2048) : val_main_v112 (F := Ideal) x0 x1 (ix3 H s t)
    = soften (fun u => val_main_v101 (F := Ideal) x0 x1 (ix3 H s u)) t := by
  rw [val_main_v112_apply, val_main_v111_apply, val_main_v110_apply,
    show idx_main_v110 (idx_main_v111 (ix3 H s t)) = ix2 H s from by funext a; fin_cases a <;> rfl, nearbyMass_apply]
  simp only [nearbyExp_apply, nearbyTop_apply]
  rfl

/-- The branch over the nearby keys. -/
theorem nearbyOut_apply (H : Fin 12) (s : Fin 2048) (d : Fin 64) : val_main_v113 (F := Ideal) x0 x1 x2 (ix3 H s d)
    = ∑ t, val_main_v112 (F := Ideal) x0 x1 (ix3 H s t) * x2 (ix2 t (col H d)) := by
  have e := fun t => v_apply x2 H t d
  unfold val_main_v113
  generalize val_main_v112 (F := Ideal) x0 x1 = z
  generalize val_main_v10 (F := Ideal) x2 = y at *
  pointwise
  simp only [e]

/-! ## The gates and the sum -/

/-- The gates. -/
theorem gate_apply (H : Fin 12) (s : Fin 2048) (g : Fin 3) : val_main_v119 (F := Ideal) x3 (ix3 H s g)
    = Ideal.logistic (x3 (ix3 H s g)) := by
  unfold val_main_v119 val_main_v118 val_main_cst_27 val_main_v117 val_main_v116 val_main_cst_26 val_main_v115 val_main_v114
  pointwise
  rfl

/-- The gated sum of the three branches. -/
theorem sum_apply (H : Fin 12) (s : Fin 2048) (d : Fin 64) : val_main_v130 (F := Ideal) x0 x1 x2 x3 x4 x5 (ix3 H s d)
    = val_main_v119 (F := Ideal) x3 (ix3 H s 0) * val_main_v53 (F := Ideal) x0 x1 x2 x4 x5 (ix3 H s d)
      + val_main_v119 (F := Ideal) x3 (ix3 H s 1) * val_main_v91 (F := Ideal) x0 x1 x2 x4 (ix3 H s d)
      + val_main_v119 (F := Ideal) x3 (ix3 H s 2) * val_main_v113 (F := Ideal) x0 x1 x2 (ix3 H s d) := by
  unfold val_main_v130 val_main_v129 val_main_v128 val_main_v127 val_main_v126 val_main_v125 val_main_v124 val_main_v123 val_main_v122 val_main_v121 val_main_v120
  generalize val_main_v119 (F := Ideal) x3 = g
  generalize val_main_v53 (F := Ideal) x0 x1 x2 x4 x5 = a
  generalize val_main_v91 (F := Ideal) x0 x1 x2 x4 = b
  generalize val_main_v113 (F := Ideal) x0 x1 x2 = e
  pointwise

/-- The heads side by side again. -/
theorem wide_apply (s : Fin 2048) (H : Fin 12) (d : Fin 64) : val_main_v133 (F := Ideal) x0 x1 x2 x3 x4 x5 (ix2 s (col H d))
    = val_main_v130 (F := Ideal) x0 x1 x2 x3 x4 x5 (ix3 H s d) := by
  have hH := H.isLt
  have hd := d.isLt
  have e1 : (col H d).val / 64 = H.val := by show (H.val * 64 + d.val) / 64 = _; omega
  have e2 : (col H d).val % 64 = d.val := by show (H.val * 64 + d.val) % 64 = _; omega
  unfold val_main_v133 val_main_v132 val_main_v131
  generalize val_main_v130 (F := Ideal) x0 x1 x2 x3 x4 x5 = z
  pointwise
  refine congrArg z ?_
  rw [show (⟨(col H d).val / 64, by omega⟩ : Fin 12) = H from Fin.ext e1,
    show (⟨(col H d).val % 64, by omega⟩ : Fin 64) = d from Fin.ext e2]

/-- The rows of the tile. -/
theorem rows_apply (r : Fin 512) (j : Fin 768) : val_main_v134 (F := Ideal) x0 x1 x2 x3 x4 x5 (ix2 r j)
    = val_main_v133 (F := Ideal) x0 x1 x2 x3 x4 x5 (ix2 ⟨512 + r.val, by have := r.isLt; omega⟩ j) := by
  unfold val_main_v134
  generalize val_main_v133 (F := Ideal) x0 x1 x2 x3 x4 x5 = z
  pointwise

/-- The rows from row `o` on of an array of the whole's size. -/
theorem slice_apply (x : FVec Ideal S2048x768 .bf16) (o : ℕ) (ho : o + 512 ≤ 2048)
    (hs : S2048x768.Slices ![o, 0] S512x768) (r : Fin 512) (j : Fin 768) :
    extractStridedSlice S512x768 ![o, 0] x hs (ix2 r j) = x (ix2 ⟨o + r.val, by have := r.isLt; omega⟩ j) := by
  pointwise

end Cert.AttnBRefIdeal.Stages

end
-- ==== Proof.AttnBRef.lean ====
/- What the reference computes: for queries, keys and key matrix with real entries, an entry of a row is the entry of the
   attention's row that `Spec.row` states. -/
module

public import proofs.«01_k».proof.Proof.AttnBRefRead
public import proofs.«01_k».proof.Proof.AttnRow
public import Idealize.ShloMosaic.Lib.WordArith

@[expose] public section

noncomputable section

namespace Cert.AttnBRefIdeal.Stages

open Idealize.ShloMosaic Cert.AttnBRefIdeal Cert.AttnBRefIdeal.Read Cert.Spec

variable {x0 x1 : FVec Ideal S2048x768 .bf16} (x2 : FVec Ideal S2048x768 .bf16) (x3 : FVec Ideal S12x2048x3 .f32)
  {x4 : FVec Ideal S64x64 .bf16} (x5 : FVec Ideal S64x64 .bf16)
  {qr kr : Fin 2048 → Fin 768 → ℝ} {Wr : Fin 64 → Fin 64 → ℝ}

/-- The scores of the compressed keys of head `H` for row `s`. -/
def coarse (qr kr : Fin 2048 → Fin 768 → ℝ) (Wr : Fin 64 → Fin 64 → ℝ) (H : Fin 12) (s : Fin 2048) (n : Fin 64) : ℝ :=
  score (fun x => qr s (col H x)) (compressR (fun t x => kr t (col H x)) Wr n)

/-- The scores of the keys of head `H` for row `s`. -/
def fine (qr kr : Fin 2048 → Fin 768 → ℝ) (H : Fin 12) (s t : Fin 2048) : ℝ :=
  score (fun x => qr s (col H x)) (fun x => kr t (col H x))

section

variable (hq : ∀ r x, x0 (ix2 r x) = (qr r x : EReal)) (hk : ∀ r x, x1 (ix2 r x) = (kr r x : EReal))
include hq hk

/-- The scores of the keys are real. -/
theorem score_real (H : Fin 12) (s t : Fin 2048) :
    val_main_v75 (F := Ideal) x0 x1 (ix3 H s t) = (fine qr kr H s t : EReal) := by
  rw [score_apply]
  simp only [hq, hk]
  exact score_after _ _

/-- The weights of the nearby keys. -/
theorem nearby_weight (H : Fin 12) (s t : Fin 2048) :
    val_main_v112 (F := Ideal) x0 x1 (ix3 H s t) = weight (nearby s.val) (fine qr kr H s) t := by
  rw [nearbySoft_apply]
  simp only [nearbyMasked_apply, score_real hq hk]
  refine soften_weight (fun u => ?_) (fine qr kr H s) (nearby_nonempty s.isLt) t
  have hu := u.isLt
  have hs := s.isLt
  have e : (BitVec.ofNat 32 s.val - 128#32).toInt = (s.val : ℤ) - 128 := by
    rw [WordArith.toInt_sub_of_bounds, WordCmp.toInt_ofNat_of_lt (by omega)]
    · rfl
    all_goals rw [WordCmp.toInt_ofNat_of_lt (by omega), show (128#32 : BitVec 32).toInt = 128 from rfl]; omega
  rw [nearbyMark_apply, andi_iff, WordCmp.cmpi_sle_ofNat_eq_one_iff (by omega) (by omega)]
  unfold nearby
  refine and_congr_right fun _ => ?_
  rw [WordCmp.cmpi_sgt_eq, WordCmp.ofBool_eq_one_iff]
  show decide ((BitVec.ofNat 32 s.val - 128#32).toInt < (BitVec.ofNat 32 u.val).toInt) = true ↔ _
  rw [decide_eq_true_iff, e, WordCmp.toInt_ofNat_of_lt (by omega)]
  omega

variable (hW : ∀ x d, x4 (ix2 x d) = (Wr x d : EReal))
include hW

/-- The scores of the compressed keys are real. -/
theorem coarse_real (H : Fin 12) (s : Fin 2048) (n : Fin 64) :
    val_main_v24 (F := Ideal) x0 x1 x4 (ix3 H s n) = (coarse qr kr Wr H s n : EReal) := by
  rw [coarseScore_apply]
  simp only [hq, hk, hW, compress_real]
  exact score_after _ _

/-- The compressed weights. -/
theorem coarse_weight (H : Fin 12) (s : Fin 2048) (n : Fin 64) :
    val_main_v52 (F := Ideal) x0 x1 x4 (ix3 H s n) = weight (ended s.val) (coarse qr kr Wr H s) n := by
  rw [coarse_apply, coarseSoft_apply]
  simp only [coarseMasked_apply, coarse_real hq hk hW]
  exact soften_weight' (fun u => ended_iff s u) _ n

/-- The importance of the blocks. -/
theorem importance (H : Fin 12) (s : Fin 2048) (n : Fin 64) :
    val_main_v55 (F := Ideal) x0 x1 x4 (ix3 H s n) = imp s.val (coarse qr kr Wr H s) n := by
  rw [importance_apply, coarse_weight hq hk hW]
  unfold imp Scalar.select
  by_cases h : ended s.val n
  · exact (if_pos ((ended_iff s n).mpr h)).trans (if_pos h).symm
  · exact (if_neg fun e => h ((ended_iff s n).mp e)).trans (if_neg h).symm

/-- The mark of the chosen blocks. -/
theorem chosen_mark (H : Fin 12) (s : Fin 2048) (n : Fin 64) :
    val_main_v62 (F := Ideal) x0 x1 x4 (ix3 H s n) = 1#1 ↔ chosen (imp s.val (coarse qr kr Wr H s)) n := by
  rw [chosenMark_apply, any_iff]
  unfold chosen
  refine exists_congr fun i => ?_
  rw [index_apply]
  simp only [importance hq hk hW]
  rw [WordCmp.cmpi_eq_ofNat_eq_one_iff (by have := Fin.isLt (sortedFrom (fun a b : Fin 64 => decide (imp s.val (coarse qr kr Wr H s) b < imp s.val (coarse qr kr Wr H s) a)) (i.castLE (by decide))); omega)
    (by have := n.isLt; omega)]
  exact Fin.ext_iff.symm

/-- The mark of the selected keys. -/
theorem selected_mark (H : Fin 12) (s t : Fin 2048) :
    val_main_v72 (F := Ideal) x0 x1 x4 (ix3 H s t) = 1#1 ↔ selected s.val (coarse qr kr Wr H s) t := by
  have ht := t.isLt
  have hs := s.isLt
  rw [selectedMark_apply, andi_iff, chosen_mark hq hk hW, WordCmp.cmpi_sle_ofNat_eq_one_iff (by omega) (by omega)]
  exact and_comm

/-- The weights of the selected keys. -/
theorem selected_weight (H : Fin 12) (s t : Fin 2048) : val_main_v90 (F := Ideal) x0 x1 x4 (ix3 H s t)
    = weight (selected s.val (coarse qr kr Wr H s)) (fine qr kr H s) t := by
  rw [selectedWeight_apply, selectedSoft_apply]
  simp only [selectedMasked_apply, score_real hq hk]
  exact soften_weight' (fun u => selected_mark hq hk hW H s u) _ t

/-- An entry of the reference's whole result. -/
theorem wide_row (s : Fin 2048) (H : Fin 12) (d : Fin 64) :
    val_main_v133 (F := Ideal) x0 x1 x2 x3 x4 x5 (ix2 s (col H d))
      = row s.val (coarse qr kr Wr H s) (fine qr kr H s)
          (fun n => compress (fun t x => x2 (ix2 t (col H x))) (fun x d => x5 (ix2 x d)) n d)
          (fun t => x2 (ix2 t (col H d)))
          (Ideal.logistic (x3 (ix3 H s 0))) (Ideal.logistic (x3 (ix3 H s 1))) (Ideal.logistic (x3 (ix3 H s 2))) := by
  rw [wide_apply, sum_apply, gate_apply, gate_apply, gate_apply, coarseOut_apply, selectedOut_apply, nearbyOut_apply]
  simp only [coarse_weight hq hk hW, selected_weight hq hk hW, nearby_weight hq hk, vc_apply]
  rfl

end

end Cert.AttnBRefIdeal.Stages

end
-- ==== Proof.AttnFinite.lean ====
/- The precondition: every entry of the queries, the keys and the key matrix has an absolute value below infinity, so it is
   a real number. -/
module

public import proofs.«01_k».proof.Proof.Gen.Pre_finite
public import Idealize.ShloMosaic.Lib.ReduceAll
public import Idealize.ShloMosaic.Lib.Pointwise
public import Idealize.ShloMosaic.Lib.Pointwise.Tactic

@[expose] public section

noncomputable section

namespace Cert.Pre_finite

open Idealize.ShloMosaic Cert.Pre_finite Cert.Pre_finite.Facts

/-- The scalar shape has one index. -/
theorem one_index : Subsingleton S_.Idx := ⟨fun a b => funext fun i => i.elim0⟩

/-- The pattern of infinity. -/
theorem inf_bf16 : Ideal.ofBits .bf16 0x7F80#16 = ⊤ := by
  simp [Ideal.ofBits, Ideal.ieee]

/-- An extended real whose absolute value is below infinity is its real part. -/
theorem real_of_lt (a : EReal) (h : FloatOps.cmpf (F := Ideal) (φ := .bf16) .olt (FloatOps.hostAbsf (F := Ideal) (φ := .bf16) a)
    (Ideal.ofBits .bf16 0x7F80#16) = 1#1) : a = (a.toReal : EReal) := by
  rw [inf_bf16] at h
  induction a using EReal.rec with
  | bot => exact absurd h (by simp [FloatOps.cmpf, FloatOps.hostAbsf, FloatOps.absf, Ideal.cmp])
  | coe r => rfl
  | top => exact absurd h (by simp [FloatOps.cmpf, FloatOps.hostAbsf, FloatOps.absf, Ideal.cmp])

/-- A conjunction of marks is set only when both are. -/
theorem andi_true {a b : BitVec 1} (h : IntOp.andi a b = 1#1) : a = 1#1 ∧ b = 1#1 :=
  (by decide : ∀ a b : BitVec 1, IntOp.andi a b = 1#1 → a = 1#1 ∧ b = 1#1) a b h

variable [Facts]

/-- Where the precondition holds, the queries, the keys and the key matrix have real entries. -/
theorem real (x0 x1 x2 : FVec Ideal S2048x768 .bf16) (x3 : FVec Ideal S12x2048x3 .f32) (x4 x5 : FVec Ideal S64x64 .bf16)
    (h : fn (F := Ideal) x0 x1 x2 x3 x4 x5 = fun _ => 1#1) :
    (∀ i, x0 i = ((x0 i).toReal : EReal)) ∧ (∀ i, x1 i = ((x1 i).toReal : EReal)) ∧ ∀ i, x4 i = ((x4 i).toReal : EReal) := by
  have := one_index
  have h' := congrFun h ix0
  unfold fn at h'
  obtain ⟨h01, h4⟩ := andi_true h'
  obtain ⟨h0, h1⟩ := andi_true h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h4 i)⟩

end Cert.Pre_finite

end
-- ==== Proof.AttnBClaim.lean ====
/- The claims about the attention of the rows 512 to 1023: the frames, what the program on extended reals preserves, and
   the equality with the reference. -/
module

public import proofs.«01_k».proof.Defs
public import proofs.«01_k».proof.Proof.AttnBArray
public import proofs.«01_k».proof.Proof.AttnBRef
public import proofs.«01_k».proof.Proof.AttnFinite
public import proofs.«01_k».proof.Proof.Gen.AttnB.Frame
public import proofs.«01_k».proof.Proof.Gen.AttnBIdeal.Value
public import proofs.«01_k».proof.Proof.Gen.AttnBRefIdeal.Run
public import Idealize.ShloMosaic.Lib.Quiescent

@[expose] public section

noncomputable section

namespace Cert.Proof.AttnB

open Idealize.ShloMosaic Cert

/-- The kernel on machine words runs and leaves its arguments. -/
theorem words : Cert.quiescent_AttnB (hAttnB := Cert.AttnB.Gen.facts) := fun m ρ _ => Cert.AttnB.Gen.frame m ρ

/-- So does the kernel on extended reals. -/
theorem ideal : Cert.quiescent_AttnBIdeal (hAttnBIdeal := Cert.AttnBIdeal.Gen.facts) := fun m ρ _ =>
  Cert.AttnBIdeal.Gen.frame (F := Ideal) m ρ

/-- And, with it, the kernel under the precondition. -/
theorem ideal_finite : Cert.quiescent_AttnBIdeal_pre_finite (hAttnBIdeal := Cert.AttnBIdeal.Gen.facts)
    (hPre_finite := Cert.Pre_finite.Gen.facts) := fun m ρ _ => ideal m ρ trivial

/-- The reference on extended reals runs and leaves its arguments. -/
theorem reference : Cert.quiescent_AttnBRefIdeal (hAttnBRefIdeal := Cert.AttnBRefIdeal.Gen.facts) := fun m ρ _ =>
  (θ_run Cert.AttnBRefIdeal.defs _ _).mono
    (fun r h => ⟨fun c => (h c).2, Idealize.ShloMosaic.sem_eq_zero_of_no_sems (by decide) r.2⟩)
    (Cert.AttnBRefIdeal.Value.run (F := Ideal) m ρ)

/-- And, with it, the reference under the precondition. -/
theorem reference_finite : Cert.quiescent_AttnBRefIdeal_pre_finite (hAttnBRefIdeal := Cert.AttnBRefIdeal.Gen.facts)
    (hPre_finite := Cert.Pre_finite.Gen.facts) := fun m ρ _ => reference m ρ trivial

/-- The mask constant is read as minus infinity. -/
theorem preserves : Cert.preserves_AttnB_AttnBIdeal :=
  IdealRules.named_const.statement Cert.AttnBIdeal.κ "mask" .f32 0xF149F2CA#32 ⊥ rfl

/-- On extended reals, from real queries, keys and key matrix, the kernel ends with the reference's result. -/
theorem algebraic : Cert.algebraic_AttnBIdeal_AttnBRefIdeal_pre_finite (hAttnBIdeal := Cert.AttnBIdeal.Gen.facts)
    (hAttnBRefIdeal := Cert.AttnBRefIdeal.Gen.facts) (hPre_finite := Cert.Pre_finite.Gen.facts) := by
  intro m ρ m' ρ' hpre hagree
  refine ⟨_, Cert.AttnBIdeal.Value.run_blocks (F := Ideal) m ρ, ?_⟩
  refine (θ_run Cert.AttnBRefIdeal.defs _ _).mono (fun _ h c => ⟨(h c).1.trans ?_, (h c).2⟩)
    (Cert.AttnBRefIdeal.Value.run (F := Ideal) m' ρ')
  obtain ⟨e0, e1, e2, e3, e4, e5⟩ := hagree c
  obtain ⟨r0, r1, r4⟩ := Cert.Pre_finite.real (h := hpre c)
  have a0 : StableHlo.launchContents m' c (Proc.tc.devRef Cert.AttnBRefIdeal.main_arg0)
      = m ((c.tc : Thread Cert.AttnBIdeal.nD Cert.AttnBIdeal.τ).loc Cert.AttnBIdeal.main_arg0) := e0
  have a1 : StableHlo.launchContents m' c (Proc.tc.devRef Cert.AttnBRefIdeal.main_arg1)
      = m ((c.tc : Thread Cert.AttnBIdeal.nD Cert.AttnBIdeal.τ).loc Cert.AttnBIdeal.main_arg1) := e1
  have a2 : StableHlo.launchContents m' c (Proc.tc.devRef Cert.AttnBRefIdeal.main_arg2)
      = m ((c.tc : Thread Cert.AttnBIdeal.nD Cert.AttnBIdeal.τ).loc Cert.AttnBIdeal.main_arg2) := e2
  have a3 : StableHlo.launchContents m' c (Proc.tc.devRef Cert.AttnBRefIdeal.main_arg3)
      = m ((c.tc : Thread Cert.AttnBIdeal.nD Cert.AttnBIdeal.τ).loc Cert.AttnBIdeal.main_arg3) := e3
  have a4 : StableHlo.launchContents m' c (Proc.tc.devRef Cert.AttnBRefIdeal.main_arg4)
      = m ((c.tc : Thread Cert.AttnBIdeal.nD Cert.AttnBIdeal.τ).loc Cert.AttnBIdeal.main_arg4) := e4
  have a5 : StableHlo.launchContents m' c (Proc.tc.devRef Cert.AttnBRefIdeal.main_arg5)
      = m ((c.tc : Thread Cert.AttnBIdeal.nD Cert.AttnBIdeal.τ).loc Cert.AttnBIdeal.main_arg5) := e5
  rw [Cert.AttnBRefIdeal.Read.val_main_v134_eq, a0, a1, a2, a3, a4, a5]
  funext i
  obtain ⟨r, j, rfl⟩ : ∃ (r : Fin 512) (j : Fin 768), i = ix2 r j := ⟨i 0, i 1, eq_ix2 i⟩
  obtain ⟨H, d, rfl⟩ : ∃ (H : Fin 12) (d : Fin 64), j = Cert.AttnBRefIdeal.Stages.col H d :=
    ⟨⟨j.val / 64, by have := j.isLt; omega⟩, ⟨j.val % 64, by omega⟩, Fin.ext (Nat.div_add_mod' j.val 64).symm⟩
  refine (Cert.AttnBRefIdeal.Stages.rows_apply ..).trans ?_
  exact (Cert.AttnBRefIdeal.Stages.wide_row _ _ _ (fun _ _ => r0 _) (fun _ _ => r1 _) (fun _ _ => r4 _) _ H d).trans
    (Cert.AttnBIdeal.Array.array_apply m c (fun _ _ => r0 _) (fun _ _ => r1 _) (fun _ _ => r4 _) r _
      (Nat.add_comm 512 r.val) H d).symm

end Cert.Proof.AttnB

end
-- ==== Proof.AttnTile.lean ====
/- One head of the attention kernel's body on a tile of 512 rows that looks at `K` keys in `N` blocks, as vector
   operations of any such sizes. -/
module

public import proofs.«01_k».proof.Proof.AttnRow
public import proofs.«01_k».proof.Proof.AttnConst
public import Idealize.ShloMosaic.Lib.MatmulPlain
public import Idealize.ShloMosaic.Lib.Pointwise
public import Idealize.ShloMosaic.Lib.Pointwise.Tactic

@[expose] public section

noncomputable section

namespace Cert.Tile

open Idealize.ShloMosaic Cert.Spec

/-- The shape of `a` rows and `b` columns. -/
abbrev mat (a b : ℕ) : Shape := ⟨2, ![a, b]⟩

/-- The shape of `a` entries. -/
abbrev vec (a : ℕ) : Shape := ⟨1, ![a]⟩

/-! ## The shapes fit -/

theorem reduces_rows (a b : ℕ) : (mat a b).Reduces [1] (vec a) := ⟨rfl, Nat.one_pos, fun i => by fin_cases i; rfl⟩
theorem reduces_cols (a b : ℕ) : (mat a b).Reduces [0] (vec b) := ⟨rfl, Nat.one_pos, fun i => by fin_cases i; rfl⟩
theorem casts_column (a : ℕ) : (vec a).ShapeCasts (mat a 1) := by simp [Shape.ShapeCasts, Shape.numel]
theorem casts_row (a : ℕ) : (vec a).ShapeCasts (mat 1 a) := by simp [Shape.ShapeCasts, Shape.numel]
theorem broadcasts_column (a b : ℕ) : (mat a 1).Broadcasts (mat a b) :=
  ⟨le_rfl, fun i => by fin_cases i <;> [exact .inr fun _ => rfl; exact .inl rfl]⟩
theorem broadcasts_row (a b : ℕ) : (mat 1 b).Broadcasts (mat a b) :=
  ⟨le_rfl, fun i => by fin_cases i <;> [exact .inl rfl; exact .inr fun _ => rfl]⟩
theorem iotas (a b : ℕ) : (mat a b).Iotas .tc 32 [0] := ⟨by simp, fun _ => ⟨.inr rfl, le_rfl⟩, fun h => absurd rfl h⟩
theorem concatenates (a : ℕ) : Shape.Concatenates [mat a 64, mat a 64] (mat a 128) 1 :=
  ⟨le_rfl, fun s hs => by
    simp only [List.mem_cons, List.not_mem_nil, or_false, or_self] at hs
    subst hs
    exact ⟨rfl, fun b hb => by fin_cases b <;> [rfl; exact absurd rfl hb]⟩, rfl⟩

/-! ## Products -/

/-- `K×A` by `K×B`, both contracted on their first axis. -/
def firstAxes (K A B : ℕ) : DotDims (mat K A) (mat K B) (mat A B) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section
variable {A B K : ℕ} {φ₁ φ₂ : FTy}

theorem zero_acc (s : Shape) (i : s.Idx) : constant (F := Ideal) s .f32 0x00000000#32 i = 0 := by pointwise

theorem plain_apply (x : FVec Ideal (mat A K) φ₁) (y : FVec Ideal (mat K B) φ₂) (r : Fin A) (c : Fin B) :
    matmul (DotDims.plain A K B) none x y (constant (mat A B) .f32 0x00000000#32) (ix2 r c)
      = ∑ k, x (ix2 r k) * y (ix2 k c) :=
  (Ideal.matmul_plain_apply none x y _ r c).trans (by rw [zero_acc, zero_add]; rfl)

theorem lastAxes_apply (x : FVec Ideal (mat A K) φ₁) (y : FVec Ideal (mat B K) φ₂) (r : Fin A) (c : Fin B) :
    matmul (DotDims.transposedRhs A K B) none x y (constant (mat A B) .f32 0x00000000#32) (ix2 r c)
      = ∑ k, x (ix2 r k) * y (ix2 c k) :=
  (Ideal.matmul_transposedRhs_apply none x y _ r c).trans (by rw [zero_acc, zero_add]; rfl)

theorem firstAxes_apply (x : FVec Ideal (mat K A) φ₁) (y : FVec Ideal (mat K B) φ₂) (r : Fin A) (c : Fin B) :
    matmul (firstAxes K A B) none x y (constant (mat A B) .f32 0x00000000#32) (ix2 r c)
      = ∑ k, x (ix2 k r) * y (ix2 k c) := by
  have hk := ValueIdx.contrEquiv1_symm_val (firstAxes K A B) K rfl rfl
  refine (Ideal.matmul_apply ..).trans ?_
  rw [zero_acc, zero_add, ← Equiv.sum_comp (ValueIdx.contrEquiv1 (firstAxes K A B) K rfl rfl).symm]
  refine Finset.sum_congr rfl fun k _ => ?_
  congr 2
  · funext a; refine Fin.ext ?_; fin_cases a
    · exact hk k
    · rfl
  · funext a; refine Fin.ext ?_; fin_cases a
    · exact hk k
    · rfl

end

/-! ## The stages, and what each holds at an entry -/

variable {N K M : ℕ}

/-- The queries times 1/8. -/
def scaled (q : FVec Ideal (mat 512 64) .bf16) : FVec Ideal (mat 512 64) .bf16 :=
  mulf q (broadcast (mat 512 64) (Scalar.ofBits .bf16 0x3E00#16))

theorem scaled_apply (q : FVec Ideal (mat 512 64) .bf16) (r : Fin 512) (d : Fin 64) :
    scaled q (ix2 r d) = q (ix2 r d) * ((1 / 8 : ℝ) : EReal) := by
  unfold scaled
  pointwise
  rw [eighth_bf16]

/-- The scores of keys. -/
def scores (q : FVec Ideal (mat 512 64) .bf16) (k : FVec Ideal (mat K 64) .bf16) : FVec Ideal (mat 512 K) .f32 :=
  matmul (DotDims.transposedRhs 512 64 K) none q k (constant (mat 512 K) .f32 0x00000000#32)

theorem scores_apply (q : FVec Ideal (mat 512 64) .bf16) (k : FVec Ideal (mat K 64) .bf16) (r : Fin 512) (t : Fin K) :
    scores q k (ix2 r t) = ∑ x, q (ix2 r x) * k (ix2 t x) := lastAxes_apply q k r t

/-- Each row's greatest score. -/
def top (s : FVec Ideal (mat 512 K) .f32) : FVec Ideal (mat 512 1) .f32 :=
  shapeCast (mat 512 1) (multiReduction .maximumf [1] (vec 512) s 0xFF800000#32 (reduces_rows 512 K) (.inl rfl) rfl)
    (casts_column 512)

theorem top_apply (s : FVec Ideal (mat 512 K) .f32) (r : Fin 512) :
    top s (ix2 r 0) = Finset.fold max ⊥ (fun x => s (ix2 r x)) Finset.univ := by
  unfold top
  pointwise
  rw [bot_f32]

/-- The exponentials of the scores less a column. -/
def expo (s : FVec Ideal (mat 512 K) .f32) (c : FVec Ideal (mat 512 1) .f32) : FVec Ideal (mat 512 K) .f32 :=
  exp (subf s (broadcastTo (mat 512 K) c (broadcasts_column 512 K)))

theorem expo_apply (s : FVec Ideal (mat 512 K) .f32) (c : FVec Ideal (mat 512 1) .f32) (r : Fin 512) (t : Fin K) :
    expo s c (ix2 r t) = Ideal.exp (s (ix2 r t) - c (ix2 r 0)) := by
  unfold expo
  pointwise

/-- The mean of each block of keys, or of values, times a matrix: the compressed keys, or values. -/
def comp (E : FVec Ideal (mat N K) .bf16) (x : FVec Ideal (mat K 64) .bf16) (W : FVec Ideal (mat 64 64) .bf16) :
    FVec Ideal (mat N 64) .f32 :=
  matmul (DotDims.plain N 64 64) none
    (truncf .bf16 (mulf (matmul (DotDims.plain N K 64) none E x (constant (mat N 64) .f32 0x00000000#32))
      (broadcast (mat N 64) (Scalar.ofBits .f32 0x3D000000#32))) (by decide))
    W (constant (mat N 64) .f32 0x00000000#32)

theorem comp_apply (E : FVec Ideal (mat N K) .bf16) (x : FVec Ideal (mat K 64) .bf16) (W : FVec Ideal (mat 64 64) .bf16)
    (n : Fin N) (d : Fin 64) :
    comp E x W (ix2 n d) = ∑ y, (∑ t, E (ix2 n t) * x (ix2 t y)) * ((1 / 32 : ℝ) : EReal) * W (ix2 y d) := by
  refine (plain_apply _ W n d).trans (Finset.sum_congr rfl fun y _ => ?_)
  have e := plain_apply E x n y
  generalize matmul (DotDims.plain N K 64) none E x (constant (mat N 64) .f32 0x00000000#32) = z at *
  pointwise
  rw [e, thirtySecond_f32]

/-- The scores of the compressed keys, transposed, with a number `μ` for a block that has not ended. -/
def blockScores (T : IVec (mat N 512) 1) (μ : Ideal .f32) (q : FVec Ideal (mat 512 64) .bf16)
    (kc : FVec Ideal (mat N 64) .f32) : FVec Ideal (mat N 512) .f32 :=
  select T (matmul (DotDims.transposedRhs N 64 512) none (truncf .bf16 kc (by decide)) q
    (constant (mat N 512) .f32 0x00000000#32)) (broadcast (mat N 512) μ)

theorem blockScores_apply (T : IVec (mat N 512) 1) (μ : Ideal .f32) (q : FVec Ideal (mat 512 64) .bf16)
    (kc : FVec Ideal (mat N 64) .f32) (n : Fin N) (r : Fin 512) :
    blockScores T μ q kc (ix2 n r) = Scalar.select (T (ix2 n r)) (∑ x, kc (ix2 n x) * q (ix2 r x)) μ := by
  have e := lastAxes_apply (truncf .bf16 kc (by decide)) q n r
  unfold blockScores
  generalize matmul (DotDims.transposedRhs N 64 512) none (truncf .bf16 kc _) q _ = z at *
  pointwise
  rw [e]
  pointwise

/-- The softmax down each column, and 0 in the columns that `V` does not mark. -/
def softened (V : IVec (mat 1 512) 1) (s : FVec Ideal (mat N 512) .f32) : FVec Ideal (mat N 512) .f32 :=
  have e : FVec Ideal (mat N 512) .f32 := exp (subf s (broadcastTo (mat N 512) (shapeCast (mat 1 512)
    (multiReduction .maximumf [0] (vec 512) s 0xFF800000#32 (reduces_cols N 512) (.inl rfl) rfl) (casts_row 512))
    (broadcasts_row N 512)))
  select (broadcastTo (mat N 512) (shapeCast (mat 1 512) V rfl) (broadcasts_row N 512))
    (divf e (broadcastTo (mat N 512) (shapeCast (mat 1 512)
      (multiReduction .add [0] (vec 512) e 0x00000000#32 (reduces_cols N 512) (.inl rfl) rfl) (casts_row 512))
      (broadcasts_row N 512)))
    (broadcast (mat N 512) (Scalar.ofBits .f32 0x00000000#32))

theorem softened_apply (V : IVec (mat 1 512) 1) (s : FVec Ideal (mat N 512) .f32) (n : Fin N) (r : Fin 512) :
    softened V s (ix2 n r) = Scalar.select (V (ix2 0 r))
      (Ideal.div (Ideal.exp (s (ix2 n r) - Finset.fold max ⊥ (fun m => s (ix2 m r)) Finset.univ))
        (∑ u, Ideal.exp (s (ix2 u r) - Finset.fold max ⊥ (fun m => s (ix2 m r)) Finset.univ))) 0 := by
  unfold softened
  pointwise
  rw [bot_f32]

/-- The importance of the blocks: the probability, and -1 for a block that has not ended. -/
def importance (T : IVec (mat N 512) 1) (p : FVec Ideal (mat N 512) .f32) : FVec Ideal (mat N 512) .f32 :=
  select T p (broadcast (mat N 512) (Scalar.ofBits .f32 0xBF800000#32))

theorem importance_apply (T : IVec (mat N 512) 1) (p : FVec Ideal (mat N 512) .f32) (n : Fin N) (r : Fin 512) :
    importance T p (ix2 n r) = Scalar.select (T (ix2 n r)) (p (ix2 n r)) (-1) := by
  unfold importance
  pointwise
  rw [negOne_f32]

/-- One mark in each column: the first block of greatest importance. -/
def mark (x : FVec Ideal (mat N 512) .f32) : IVec (mat N 512) 1 :=
  cmpi .eq (iota .tc (mat N 512) 32 [0] (iotas N 512))
    (broadcastTo (mat N 512) (shapeCast (mat 1 512) (multiReductionI .minsi [0] (vec 512)
      (select (cmpf .oeq x (broadcastTo (mat N 512) (shapeCast (mat 1 512)
          (multiReduction .maximumf [0] (vec 512) x 0xFF800000#32 (reduces_cols N 512) (.inl rfl) rfl) (casts_row 512))
          (broadcasts_row N 512)))
        (iota .tc (mat N 512) 32 [0] (iotas N 512)) (broadcast (mat N 512) (BitVec.ofNat 32 N)))
      2147483647#32 (reduces_cols N 512) rfl) (casts_row 512)) (broadcasts_row N 512))

theorem mark_apply (x : FVec Ideal (mat N 512) .f32) (n : Fin N) (r : Fin 512) :
    mark x (ix2 n r) = markW (fun m => x (ix2 m r)) n := by
  unfold mark
  pointwise
  rw [bot_f32]
  rfl

/-- The importance with the marked blocks at -2. -/
def strike (x : FVec Ideal (mat N 512) .f32) : FVec Ideal (mat N 512) .f32 :=
  select (mark x) (broadcast (mat N 512) (Scalar.ofBits .f32 0xC0000000#32)) x

theorem strike_apply (x : FVec Ideal (mat N 512) .f32) (r : Fin 512) :
    (fun n : Fin N => strike x (ix2 n r)) = strikeW (fun m => x (ix2 m r)) := by
  funext n
  have h := mark_apply x n r
  unfold strike
  generalize mark x = m at *
  pointwise
  rw [h, negTwo_f32]
  rfl

/-- The marks of four rounds. -/
def chosen (x : FVec Ideal (mat N 512) .f32) : IVec (mat N 512) 1 :=
  ori (ori (ori (ori (broadcast (mat N 512) 0#1) (mark x)) (mark (strike x))) (mark (strike (strike x))))
    (mark (strike (strike (strike x))))

theorem chosen_apply (x : FVec Ideal (mat N 512) .f32) (n : Fin N) (r : Fin 512) :
    chosen x (ix2 n r) = chosenW (fun m => x (ix2 m r)) n := by
  have h0 := mark_apply x n r
  have h1 := mark_apply (strike x) n r
  have h2 := mark_apply (strike (strike x)) n r
  have h3 := mark_apply (strike (strike (strike x))) n r
  rw [strike_apply] at h1 h2 h3
  rw [strike_apply] at h2 h3
  rw [strike_apply] at h3
  unfold chosen
  generalize mark x = m0 at *
  generalize mark (strike x) = m1 at *
  generalize mark (strike (strike x)) = m2 at *
  generalize mark (strike (strike (strike x))) = m3 at *
  pointwise
  rw [h0, h1, h2, h3]
  rfl

/-- The marks spread over the keys of each block. -/
def spread (E : FVec Ideal (mat N K) .bf16) (x : IVec (mat N 512) 1) : FVec Ideal (mat 512 K) .f32 :=
  matmul (firstAxes N 512 K) none (truncf .bf16 (sitofp .f32 (extui 32 x (by decide))) (by decide)) E
    (constant (mat 512 K) .f32 0x00000000#32)

theorem spread_apply (E : FVec Ideal (mat N K) .bf16) (x : IVec (mat N 512) 1) (r : Fin 512) (t : Fin K) :
    spread E x (ix2 r t) = ∑ n, (if x (ix2 n r) = 1#1 then 1 else 0) * E (ix2 n t) := by
  refine (firstAxes_apply _ E r t).trans (Finset.sum_congr rfl fun n _ => ?_)
  pointwise
  rw [mark_number]

/-- The compressed branch. -/
def coarse (p : FVec Ideal (mat N 512) .f32) (vc : FVec Ideal (mat N 64) .f32) : FVec Ideal (mat 512 64) .f32 :=
  matmul (firstAxes N 512 64) none (truncf .bf16 p (by decide)) (truncf .bf16 vc (by decide))
    (constant (mat 512 64) .f32 0x00000000#32)

theorem coarse_apply (p : FVec Ideal (mat N 512) .f32) (vc : FVec Ideal (mat N 64) .f32) (r : Fin 512) (d : Fin 64) :
    coarse p vc (ix2 r d) = ∑ n, p (ix2 n r) * vc (ix2 n d) := by
  refine (firstAxes_apply _ _ r d).trans (Finset.sum_congr rfl fun n _ => ?_)
  pointwise

/-- The values and, beside them, the column that sums the weights. -/
def joined (v z : FVec Ideal (mat K 64) .bf16) : FVec Ideal (mat K 128) .bf16 :=
  concatenate (mat K 128) 1 [⟨mat K 64, v⟩, ⟨mat K 64, z⟩] (concatenates K)

theorem joined_left (v z : FVec Ideal (mat K 64) .bf16) (t : Fin K) (d : Fin 64) (j : Fin 128) (hj : j.val = d.val) :
    joined v z (ix2 t j) = v (ix2 t d) := by
  have hd := d.isLt
  unfold joined
  pointwise
  rw [dif_pos (by omega)]
  refine congrArg v (funext fun b => Fin.ext ?_)
  fin_cases b
  · rfl
  · exact hj

theorem joined_right (v z : FVec Ideal (mat K 64) .bf16) (t : Fin K) :
    joined v z (ix2 t 64) = z (ix2 t 0) := by
  unfold joined
  pointwise
  refine congrArg z (funext fun b => Fin.ext ?_)
  fin_cases b <;> rfl

/-- The weighted values and, in column 64, the weights' sum. -/
def weighted (w : FVec Ideal (mat 512 K) .f32) (v z : FVec Ideal (mat K 64) .bf16) : FVec Ideal (mat 512 128) .f32 :=
  matmul (DotDims.plain 512 K 128) none (truncf .bf16 w (by decide)) (joined v z) (constant (mat 512 128) .f32 0x00000000#32)

/-- The weighted values divided by the weights' sum. -/
def ratio (x : FVec Ideal (mat 512 128) .f32) : FVec Ideal (mat 512 64) .f32 :=
  divf (extractStridedSlice (mat 512 64) ![0, 0] x (by decide))
    (broadcastTo (mat 512 64) (extractStridedSlice (mat 512 1) ![0, 64] x (by decide)) (broadcasts_column 512 64))

theorem ratio_weighted (w : FVec Ideal (mat 512 K) .f32) (v z : FVec Ideal (mat K 64) .bf16) (hz : ∀ t, z (ix2 t 0) = 1)
    (r : Fin 512) (d : Fin 64) :
    ratio (weighted w v z) (ix2 r d) = Ideal.div (∑ t, w (ix2 r t) * v (ix2 t d)) (∑ t, w (ix2 r t)) := by
  have e := fun j => plain_apply (truncf .bf16 w (by decide)) (joined v z) r j
  unfold ratio weighted
  generalize matmul (DotDims.plain 512 K 128) none (truncf .bf16 w _) (joined v z) _ = x at *
  pointwise
  rw [e, e]
  congr 1
  · refine Finset.sum_congr rfl fun t _ => ?_
    rw [joined_left v z t d _ rfl]
    pointwise
  · refine Finset.sum_congr rfl fun t _ => ?_
    refine (congrArg _ ((joined_right v z t).trans (hz t))).trans ((mul_one _).trans ?_)
    pointwise

/-- Numbers where marked, 0 elsewhere. -/
def kept (m : IVec (mat 512 K) 1) (x : FVec Ideal (mat 512 K) .f32) : FVec Ideal (mat 512 K) .f32 :=
  select m x (broadcast (mat 512 K) (Scalar.ofBits .f32 0x00000000#32))

theorem kept_apply (m : IVec (mat 512 K) 1) (x : FVec Ideal (mat 512 K) .f32) (r : Fin 512) (t : Fin K) :
    kept m x (ix2 r t) = Scalar.select (m (ix2 r t)) (x (ix2 r t)) 0 := by
  unfold kept
  pointwise

/-- The three branches under the head's gates. -/
def gated (g : FVec Ideal (mat 512 3) .f32) (a b c : FVec Ideal (mat 512 64) .f32) : FVec Ideal (mat 512 64) .bf16 :=
  truncf .bf16 (addf (addf
    (mulf (broadcastTo (mat 512 64) (extractStridedSlice (mat 512 1) ![0, 0] g (by decide)) (broadcasts_column 512 64)) a)
    (mulf (broadcastTo (mat 512 64) (extractStridedSlice (mat 512 1) ![0, 1] g (by decide)) (broadcasts_column 512 64)) b))
    (mulf (broadcastTo (mat 512 64) (extractStridedSlice (mat 512 1) ![0, 2] g (by decide)) (broadcasts_column 512 64)) c))
    (by decide)

theorem gated_apply (g : FVec Ideal (mat 512 3) .f32) (a b c : FVec Ideal (mat 512 64) .f32) (r : Fin 512) (d : Fin 64) :
    gated g a b c (ix2 r d) = g (ix2 r 0) * a (ix2 r d) + g (ix2 r 1) * b (ix2 r d) + g (ix2 r 2) * c (ix2 r d) := by
  unfold gated
  pointwise

end Cert.Tile

end
-- ==== Proof.AttnTileHead.lean ====
/- One head of a tile, entry by entry: for queries, keys and key matrix with real entries it is the row of the attention that
   `Spec.row` states. The tile has the rows from `ρ` on, looks at the first `K` keys in `N` blocks, and at the `M` keys from
   `o` on for the sliding window. And the six heads of a point side by side. -/
module

public import proofs.«01_k».proof.Proof.AttnTile

@[expose] public section

noncomputable section

namespace Cert.Tile

open Idealize.ShloMosaic Cert.Spec

variable {N K M : ℕ}

/-! ## One head -/

/-- What a tile's body computes once for all heads: the membership table of keys in blocks, the blocks that have ended at a
    row, the rows that see a block, the score of a block that has not ended, the columns that sum the weights, the keys
    near a row, and what is done to the weights of the selected keys. -/
structure Tables (N K M : ℕ) where
  E : FVec Ideal (mat N K) .bf16
  T : IVec (mat N 512) 1
  V : IVec (mat 1 512) 1
  μ : Ideal .f32
  Z : FVec Ideal (mat K 64) .bf16
  Z' : FVec Ideal (mat M 64) .bf16
  near : IVec (mat 512 M) 1
  mask : FVec Ideal (mat 512 K) .f32 → FVec Ideal (mat 512 K) .f32

/-- The probabilities of the blocks, transposed. -/
def probs (A : Tables N K M) (q : FVec Ideal (mat 512 64) .bf16) (k : FVec Ideal (mat K 64) .bf16)
    (Wk : FVec Ideal (mat 64 64) .bf16) : FVec Ideal (mat N 512) .f32 :=
  softened A.V (blockScores A.T A.μ q (comp A.E k Wk))

/-- The weights of the selected keys. -/
def picked (A : Tables N K M) (q : FVec Ideal (mat 512 64) .bf16) (k : FVec Ideal (mat K 64) .bf16)
    (Wk : FVec Ideal (mat 64 64) .bf16) : FVec Ideal (mat 512 K) .f32 :=
  A.mask (mulf (expo (scores q k) (top (scores q k))) (spread A.E (chosen (importance A.T (probs A q k Wk)))))

/-- The weights of the near keys, which are `k'`. -/
def close (A : Tables N K M) (q : FVec Ideal (mat 512 64) .bf16) (k : FVec Ideal (mat K 64) .bf16)
    (k' : FVec Ideal (mat M 64) .bf16) : FVec Ideal (mat 512 M) .f32 :=
  kept A.near (expo (scores q k') (top (scores q k)))

/-- One head: its scaled queries, keys, values, the keys and values of the window, gates, and the two matrices. -/
def headOf (A : Tables N K M) (q : FVec Ideal (mat 512 64) .bf16) (k v : FVec Ideal (mat K 64) .bf16)
    (k' v' : FVec Ideal (mat M 64) .bf16) (g : FVec Ideal (mat 512 3) .f32) (Wk Wv : FVec Ideal (mat 64 64) .bf16) :
    FVec Ideal (mat 512 64) .bf16 :=
  gated g (coarse (probs A q k Wk) (comp A.E v Wv)) (ratio (weighted (picked A q k Wk) v A.Z))
    (ratio (weighted (close A q k k') v' A.Z'))

/-- What the tables hold, entry by entry. -/
structure Tables.Hold (A : Tables N K M) (ρ o : ℕ) : Prop where
  h4 : 4 ≤ N
  hN : N ≤ 64
  hK : K = 32 * N
  hρ : ρ + 512 ≤ K
  hM : o + M ≤ 2048
  lo : o ≤ ρ - 127
  hi : ρ + 512 ≤ o + M
  E : ∀ n t, A.E (ix2 n t) = member n.val t.val
  T : ∀ n (r : Fin 512), A.T (ix2 n r) = 1#1 ↔ ended (r.val + ρ) (n.castLE hN)
  V : ∀ r : Fin 512, A.V (ix2 0 r) = 1#1 ↔ 31 ≤ r.val + ρ
  μ : A.μ = (⊥ : EReal)
  Z : ∀ t, A.Z (ix2 t 0) = 1
  Z' : ∀ t, A.Z' (ix2 t 0) = 1
  near : ∀ (r : Fin 512) (t : Fin M), A.near (ix2 r t) = 1#1 ↔
    nearby (r.val + ρ) ⟨o + t.val, by have := t.isLt; omega⟩
  mask : ∀ w (r : Fin 512) (t : Fin K), (t.val ≤ r.val + ρ ∨ 127 ≤ r.val + ρ) ∧ A.mask w (ix2 r t) = w (ix2 r t)
    ∨ r.val + ρ < t.val ∧ A.mask w (ix2 r t) = 0

/-- The key of the whole that the tile's key `t` is. -/
def keyOf (hK : K ≤ 2048) (t : Fin K) : Fin 2048 := t.castLE hK

/-- The key of the whole that the window's key `t` is. -/
def slabOf (o : ℕ) (hM : o + M ≤ 2048) (t : Fin M) : Fin 2048 := ⟨o + t.val, by have := t.isLt; omega⟩

section
variable {A : Tables N K M} {ρ o : ℕ} (S : A.Hold ρ o)
variable {q : FVec Ideal (mat 512 64) .bf16} {k v : FVec Ideal (mat K 64) .bf16} {k' v' : FVec Ideal (mat M 64) .bf16}
variable {Wk Wv : FVec Ideal (mat 64 64) .bf16}
variable {qr : Fin 512 → Fin 64 → ℝ} {kr : Fin 2048 → Fin 64 → ℝ} {Wr : Fin 64 → Fin 64 → ℝ} {ve : Fin 2048 → Fin 64 → EReal}

include S in
theorem Tables.Hold.le : K ≤ 2048 := by have := S.hK; have := S.hN; omega

include S in
theorem Tables.Hold.covers (r : Fin 512) : Covers (r.val + ρ) N := by
  have := S.hK; have := S.hρ; have := r.isLt
  unfold Covers
  omega

variable (hq : ∀ r x, q (ix2 r x) = (qr r x : EReal)) (hk : ∀ t x, k (ix2 t x) = (kr (keyOf S.le t) x : EReal))
variable (hk' : ∀ t x, k' (ix2 t x) = (kr (slabOf o S.hM t) x : EReal)) (hW : ∀ x d, Wk (ix2 x d) = (Wr x d : EReal))
variable (hv : ∀ t x, v (ix2 t x) = ve (keyOf S.le t) x) (hv' : ∀ t x, v' (ix2 t x) = ve (slabOf o S.hM t) x)

include hk hW in
/-- The compressed keys are real. -/
theorem comp_keys (n : Fin N) (d : Fin 64) : comp A.E k Wk (ix2 n d) = (compressR kr Wr (n.castLE S.hN) d : EReal) := by
  rw [comp_apply, ← compress_real, ← tile_compress S.hK S.hN]
  simp only [S.E, hk, hW]
  rfl

include hv in
/-- The compressed values. -/
theorem comp_values (n : Fin N) (d : Fin 64) :
    comp A.E v Wv (ix2 n d) = compress ve (fun x d => Wv (ix2 x d)) (n.castLE S.hN) d := by
  rw [comp_apply, ← tile_compress S.hK S.hN]
  simp only [S.E, hv]
  rfl

include hq hk hW in
/-- The probabilities of the blocks. -/
theorem probs_eq (n : Fin N) (r : Fin 512) :
    probs A (scaled q) k Wk (ix2 n r)
      = weight (ended (r.val + ρ)) (fun m => score (qr r) (compressR kr Wr m)) (n.castLE S.hN) := by
  unfold probs
  rw [softened_apply]
  by_cases h31 : 31 ≤ r.val + ρ
  · refine (if_pos ((S.V r).mpr h31)).trans ?_
    simp only [blockScores_apply, scaled_apply, hq, comp_keys S hk hW, score_first]
    refine tile_weight S.hN (S.covers r) h31 _
      (fun m => Scalar.select (A.T (ix2 m r)) (score (qr r) (compressR kr Wr (m.castLE S.hN)) : EReal) A.μ)
      (fun m hm => ?_) (fun m hm => ?_) n
    · exact if_pos ((S.T m r).mpr hm)
    · exact (if_neg fun h => hm ((S.T m r).mp h)).trans S.μ
  · refine (if_neg fun h => h31 ((S.V r).mp h)).trans (weight_not fun h => ?_).symm
    unfold ended at h
    omega

include hq hk hW in
/-- The importance of the blocks. -/
theorem importance_eq (n : Fin N) (r : Fin 512) :
    importance A.T (probs A (scaled q) k Wk) (ix2 n r)
      = imp (r.val + ρ) (fun m => score (qr r) (compressR kr Wr m)) (n.castLE S.hN) := by
  rw [importance_apply, probs_eq S hq hk hW]
  unfold imp Scalar.select
  by_cases h : ended (r.val + ρ) (n.castLE S.hN)
  · rw [if_pos h]; exact if_pos ((S.T n r).mpr h)
  · rw [if_neg h]; exact if_neg fun h' => h ((S.T n r).mp h')

include hq hk in
/-- The scores are real, -/
theorem scores_eq (r : Fin 512) (t : Fin K) :
    scores (scaled q) k (ix2 r t) = (score (qr r) (kr (keyOf S.le t)) : EReal) := by
  rw [scores_apply]
  simp only [scaled_apply, hq, hk, score_first']

include hq hk in
/-- and so is the greatest. -/
theorem top_eq (r : Fin 512) : ∃ c : ℝ, top (scores (scaled q) k) (ix2 r 0) = (c : EReal) := by
  have h0 : 0 < K := by have := S.hK; have := S.h4; omega
  rw [top_apply]
  simp only [scores_eq S hq hk]
  exact top_real _ (fun t => EReal.coe_ne_top _) (⟨0, h0⟩ : Fin K) (EReal.coe_ne_bot _)

include hq hk hW in
/-- The average over the selected keys. -/
theorem picked_eq (r : Fin 512) (w : Fin 2048 → EReal) :
    Ideal.div (∑ t, picked A (scaled q) k Wk (ix2 r t) * w (keyOf S.le t)) (∑ t, picked A (scaled q) k Wk (ix2 r t))
      = attend (selected (r.val + ρ) fun m => score (qr r) (compressR kr Wr m)) (fun t => score (qr r) (kr t)) w := by
  obtain ⟨c, hc⟩ := top_eq S hq hk r
  have hr := r.isLt
  have hρ := S.hρ
  refine tile_selected_masked S.h4 S.hN S.hK (by omega) _ _ c w (fun t => picked A (scaled q) k Wk (ix2 r t))
    fun t => (S.mask (mulf (expo (scores (scaled q) k) (top (scores (scaled q) k)))
      (spread A.E (chosen (importance A.T (probs A (scaled q) k Wk))))) r t).imp_left fun ht => ⟨ht.1, ?_⟩
  unfold picked
  rw [ht.2, mulf_apply, expo_apply, hc, scores_eq S hq hk, ← EReal.coe_sub, Ideal.exp_coe, spread_apply]
  simp only [S.E]
  rw [sum_member_block S.hK t fun n =>
    if chosen (importance A.T (probs A (scaled q) k Wk)) (ix2 n r) = 1#1 then 1 else 0, chosen_apply]
  simp only [importance_eq S hq hk hW]
  rfl

include hq hk hk' in
/-- The average over the near keys. -/
theorem close_eq (r : Fin 512) (w : Fin 2048 → EReal) :
    Ideal.div (∑ t, close A (scaled q) k k' (ix2 r t) * w (slabOf o S.hM t)) (∑ t, close A (scaled q) k k' (ix2 r t))
      = attend (nearby (r.val + ρ)) (fun t => score (qr r) (kr t)) w := by
  obtain ⟨c, hc⟩ := top_eq S hq hk r
  have hr := r.isLt
  have lo := S.lo
  have hi := S.hi
  refine tile_nearby S.hM (by omega) (by omega) _ c w (fun t => close A (scaled q) k k' (ix2 r t)) (fun t ht => ?_)
    (fun t ht => ?_)
  · unfold close
    rw [kept_apply]
    refine (if_pos ((S.near r t).mpr ht)).trans ?_
    rw [expo_apply, hc, scores_apply]
    simp only [scaled_apply, hq, hk', score_first']
    rw [← EReal.coe_sub, Ideal.exp_coe]
    rfl
  · unfold close
    rw [kept_apply]
    exact if_neg fun h => ht ((S.near r t).mp h)

include hq hk hk' hW hv hv' in
/-- The head's entry is the row's. -/
theorem head_apply (g : FVec Ideal (mat 512 3) .f32) (r : Fin 512) (d : Fin 64) :
    headOf A (scaled q) k v k' v' g Wk Wv (ix2 r d)
      = row (r.val + ρ) (fun m => score (qr r) (compressR kr Wr m)) (fun t => score (qr r) (kr t))
        (fun n => compress ve (fun x d => Wv (ix2 x d)) n d) (fun t => ve t d) (g (ix2 r 0)) (g (ix2 r 1)) (g (ix2 r 2)) := by
  unfold headOf row
  rw [gated_apply, coarse_apply, ratio_weighted _ _ _ S.Z, ratio_weighted _ _ _ S.Z']
  simp only [probs_eq S hq hk hW, comp_values S hv, hv, hv']
  rw [tile_coarse S.hN (S.covers r) _ fun n => compress ve (fun x d => Wv (ix2 x d)) n d,
    picked_eq S hq hk hW r fun t => ve t d, close_eq S hq hk hk' r fun t => ve t d]

end

/-! ## The six heads of a point -/

/-- One head's columns of a block of six heads. -/
def cols (x : FVec Ideal (mat M 384) .bf16) (h : Fin 6) : FVec Ideal (mat M 64) .bf16 :=
  fun i => x (ix2 (i 0) ⟨h.val * 64 + (i 1).val, by have := h.isLt; have : (i 1).val < 64 := (i 1).isLt; omega⟩)

/-- One head's gates of a block of six heads. -/
def gate (g : Vec Ideal ⟨3, ![6, 512, 3]⟩ .f32) (h : Fin 6) : FVec Ideal (mat 512 3) .f32 :=
  fun i => Ideal.logistic (g (ix3 h (i 0) (i 1)))

/-- 64 columns are a slice. -/
theorem slices_head (M o : ℕ) (h : o + 64 ≤ 384) : (mat M 384).Slices ![0, o] (mat M 64) :=
  ⟨rfl, fun a => by fin_cases a <;> [exact (Nat.zero_add M).le; exact h]⟩

/-- A slice of 64 columns is a head's columns. -/
theorem slice_eq (x : FVec Ideal (mat M 384) .bf16) (h : Fin 6) (o : ℕ) (ho : o = h.val * 64)
    (hs : (mat M 384).Slices ![0, o] (mat M 64)) : extractStridedSlice (mat M 64) ![0, o] x hs = cols x h := by
  subst ho
  funext i
  unfold cols extractStridedSlice
  refine congrArg x (funext fun a => Fin.ext ?_)
  fin_cases a
  · exact Nat.zero_add _
  · rfl

/-- The gates of head `o` as the body cuts them out. -/
def gateOf (g : Vec Ideal ⟨3, ![6, 512, 3]⟩ .f32) (o : ℕ) (hs : Shape.Slices ⟨3, ![6, 512, 3]⟩ ![o, 0, 0] ⟨3, ![1, 512, 3]⟩) :
    FVec Ideal (mat 512 3) .f32 :=
  shapeCast (mat 512 3) (extractStridedSlice ⟨3, ![1, 512, 3]⟩ ![o, 0, 0] (logistic g) hs) (by decide)

theorem gate_eq (g : Vec Ideal ⟨3, ![6, 512, 3]⟩ .f32) (h : Fin 6) (o : ℕ) (ho : o = h.val)
    (hs : Shape.Slices ⟨3, ![6, 512, 3]⟩ ![o, 0, 0] ⟨3, ![1, 512, 3]⟩) : gateOf g o hs = gate g h := by
  subst ho
  funext i
  rw [eq_ix2 i]
  unfold gate gateOf
  pointwise

/-- Head `h` of a point, by a head's function of its columns. -/
def part (f : FVec Ideal (mat 512 64) .bf16 → FVec Ideal (mat K 64) .bf16 → FVec Ideal (mat K 64) .bf16 →
      FVec Ideal (mat 512 3) .f32 → FVec Ideal (mat 512 64) .bf16)
    (q : Vec Ideal (mat 512 384) .bf16) (k v : Vec Ideal (mat K 384) .bf16) (g : Vec Ideal ⟨3, ![6, 512, 3]⟩ .f32) (h : ℕ)
    (o : ℕ) (ho : o + 64 ≤ 384) (hs : Shape.Slices ⟨3, ![6, 512, 3]⟩ ![h, 0, 0] ⟨3, ![1, 512, 3]⟩) :
    FVec Ideal (mat 512 64) .bf16 :=
  f (extractStridedSlice (mat 512 64) ![0, o] q (slices_head 512 o ho))
    (extractStridedSlice (mat K 64) ![0, o] k (slices_head K o ho))
    (extractStridedSlice (mat K 64) ![0, o] v (slices_head K o ho)) (gateOf g h hs)

/-- Six heads are as wide as a block. -/
theorem concatenates_heads : Shape.Concatenates [mat 512 64, mat 512 64, mat 512 64, mat 512 64, mat 512 64, mat 512 64]
    (mat 512 384) 1 := by decide

/-- The six heads of a point side by side. -/
def heads (f : FVec Ideal (mat 512 64) .bf16 → FVec Ideal (mat K 64) .bf16 → FVec Ideal (mat K 64) .bf16 →
      FVec Ideal (mat 512 3) .f32 → FVec Ideal (mat 512 64) .bf16)
    (q : Vec Ideal (mat 512 384) .bf16) (k v : Vec Ideal (mat K 384) .bf16) (g : Vec Ideal ⟨3, ![6, 512, 3]⟩ .f32) :
    Vec Ideal (mat 512 384) .bf16 :=
  concatenate (mat 512 384) 1
    [⟨mat 512 64, part f q k v g 0 0 (by decide) (by decide)⟩, ⟨mat 512 64, part f q k v g 1 64 (by decide) (by decide)⟩,
     ⟨mat 512 64, part f q k v g 2 128 (by decide) (by decide)⟩, ⟨mat 512 64, part f q k v g 3 192 (by decide) (by decide)⟩,
     ⟨mat 512 64, part f q k v g 4 256 (by decide) (by decide)⟩, ⟨mat 512 64, part f q k v g 5 320 (by decide) (by decide)⟩]
    concatenates_heads

/-- Column `64 h + d` of the six heads side by side is column `d` of head `h`. -/
theorem heads_apply (f : FVec Ideal (mat 512 64) .bf16 → FVec Ideal (mat K 64) .bf16 → FVec Ideal (mat K 64) .bf16 →
      FVec Ideal (mat 512 3) .f32 → FVec Ideal (mat 512 64) .bf16)
    (q : Vec Ideal (mat 512 384) .bf16) (k v : Vec Ideal (mat K 384) .bf16) (g : Vec Ideal ⟨3, ![6, 512, 3]⟩ .f32)
    (r : Fin 512) (h : Fin 6) (d : Fin 64) :
    heads f q k v g (ix2 r ⟨h.val * 64 + d.val, by have := h.isLt; have := d.isLt; omega⟩)
      = f (cols q h) (cols k h) (cols v h) (gate g h) (ix2 r d) := by
  have hd := d.isLt
  have p : ∀ (h : Fin 6) (n o : ℕ) (hn : n = h.val) (e : o = h.val * 64) ho hs, part f q k v g n o ho hs
      = f (cols q h) (cols k h) (cols v h) (gate g h) := fun h n o hn e ho hs => by
    unfold part
    rw [slice_eq q h o e, slice_eq k h o e, slice_eq v h o e, gate_eq g h n hn]
  unfold heads
  rw [p 0 0 0 rfl rfl, p 1 1 64 rfl rfl, p 2 2 128 rfl rfl, p 3 3 192 rfl rfl, p 4 4 256 rfl rfl, p 5 5 320 rfl rfl]
  have e : ∀ {j : ℕ} (z : FVec Ideal (mat 512 64) .bf16) (hj : j < 64), j = d.val → z (ix2 r ⟨j, hj⟩) = z (ix2 r d) :=
    fun z hj h => by subst h; rfl
  fin_cases h <;> pointwise <;> (try repeat rw [dif_neg (by omega)]) <;> (try rw [dif_pos (by omega)]) <;>
    exact e _ _ (by omega)

end Cert.Tile

end
-- ==== Proof.AttnDHead.lean ====
/- The tile of rows 1536 to 2047: its body's tables, and its body's output block as the six heads that `Tile.headOf` states
   for these tables. -/
module

public import proofs.«01_k».proof.Proof.Gen.AttnDIdeal.Value
public import proofs.«01_k».proof.Proof.AttnTileHead

@[expose] public section

noncomputable section

namespace Cert.AttnDIdeal.Head

open Idealize.ShloMosaic Cert.AttnDIdeal Cert.AttnDIdeal.Gen Cert.Spec

/-- The body's tables. -/
def tables : Tile.Tables 64 2048 768 where
  E := k0_pay2
  T := k0_pay6 k0_pay3 k0_pay4 k0_pay5
  V := cmpi .sge (extractStridedSlice S1x512 ![0, 0] k0_pay3 slices_S64x512_o0_0_S1x512) (broadcast S1x512 31#32)
  μ := Named.named κ "mask" 0xF149F2CA#32
  Z := k0_pay8
  Z' := extractStridedSlice S768x64 ![0, 0] (k0_pay8 (F := Ideal)) slices_S2048x64_o0_0_S768x64
  near := k0_pay7
  mask w := w

/-- The membership table of keys in blocks. -/
theorem member_apply (n : Fin 64) (t : Fin 2048) : k0_pay2 (F := Ideal) (ix2 n t) = member n.val t.val := by
  have hw := block_word t
  unfold k0_pay2
  pointwise
  rw [hw, select_block (by have := t.isLt; omega) (by have := n.isLt; omega)]
  rfl

/-- The column that sums the weights. -/
theorem ones_apply (t : Fin 2048) : k0_pay8 (F := Ideal) (ix2 t 0) = 1 := by
  unfold k0_pay8
  pointwise
  exact (mark_number 1#1).trans (if_pos rfl)

/-- Which blocks have ended. -/
theorem ended_apply (n : Fin 64) (r : Fin 512) :
    k0_pay6 k0_pay3 k0_pay4 k0_pay5 (ix2 n r) = 1#1 ↔ (n.val + 1) * 32 - 1 ≤ r.val + 1536 := by
  have hn := n.isLt
  have hr := r.isLt
  unfold k0_pay6 k0_pay3 k0_pay4 k0_pay5
  pointwise
  rw [addi_ofNat, muli_ofNat, subi_ofNat (by omega), addi_ofNat, WordCmp.cmpi_sle_ofNat_eq_one_iff (by omega) (by omega)]

/-- Which rows see a block: here all. -/
theorem sees_apply (r : Fin 512) : tables.V (ix2 0 r) = 1#1 ↔ 31 ≤ r.val + 1536 := by
  have hr := r.isLt
  unfold tables k0_pay3
  pointwise
  rw [addi_ofNat, WordCmp.cmpi_sge_ofNat_eq_one_iff (by omega) (by omega)]
  exact iff_of_true (by omega) trivial

/-- Which keys from key 1280 on are nearby. -/
theorem near_apply (r : Fin 512) (t : Fin 768) :
    k0_pay7 (ix2 r t) = 1#1 ↔ nearby (r.val + 1536) ⟨1280 + t.val, by have := t.isLt; omega⟩ := by
  have ht := t.isLt
  have hr := r.isLt
  unfold k0_pay7
  pointwise
  rw [addi_ofNat, addi_ofNat, subi_ofNat (by omega), subi_ofNat (by omega), andi_iff,
    WordCmp.cmpi_sle_ofNat_eq_one_iff (by omega) (by omega), WordCmp.cmpi_sgt_ofNat_eq_one_iff (by omega) (by omega)]
  unfold nearby
  simp only
  omega

/-- What the tables hold. -/
theorem holds : tables.Hold 1536 1280 where
  h4 := by decide
  hN := by decide
  hK := by decide
  hρ := by decide
  hM := by decide
  lo := by decide
  hi := by decide
  E n t := by unfold tables; exact member_apply n t
  T n r := by
    unfold tables
    exact (ended_apply n r).trans (by unfold Spec.ended; rw [Fin.val_castLE]; have := n.isLt; omega)
  V := sees_apply
  μ := rfl
  Z t := by unfold tables; exact ones_apply t
  Z' t := by
    have h : ∀ t, k0_pay8 (F := Ideal) (ix2 t 0) = 1 := ones_apply
    unfold tables
    generalize k0_pay8 (F := Ideal) = Z at *
    pointwise
    exact h _
  near r t := by unfold tables; exact near_apply r t
  mask _ _ _ := Or.inl ⟨Or.inr (by omega), rfl⟩

/-- One head, from its columns of the blocks. -/
def head (Wk Wv : Vec Ideal S64x64 .bf16) (q : FVec Ideal S512x64 .bf16) (k v : FVec Ideal S2048x64 .bf16)
    (g : FVec Ideal S512x3 .f32) : FVec Ideal S512x64 .bf16 :=
  Tile.headOf tables (Tile.scaled q) k v (extractStridedSlice S768x64 ![1280, 0] k slices_S2048x64_o1280_0_S768x64)
    (extractStridedSlice S768x64 ![1280, 0] v slices_S2048x64_o1280_0_S768x64) g Wk Wv

theorem origin2 : (![0, 0] : Fin 2 → Nat) = fun _ => 0 := funext fun a => by fin_cases a <;> rfl
theorem origin3 : (![0, 0, 0] : Fin 3 → Nat) = fun _ => 0 := funext fun a => by fin_cases a <;> rfl

set_option maxHeartbeats 8000000 in
/-- The body's output block is the six heads of its input blocks. -/
theorem out_eq (q : Vec Ideal S512x384 .bf16) (k v : Vec Ideal S2048x384 .bf16) (g : Vec Ideal S6x512x3 .f32)
    (Wk Wv : Vec Ideal S64x64 .bf16) : out0_6 q k v g Wk Wv = Tile.heads (head Wk Wv) q k v g := by
  unfold_out out0_6
  rw [View.canon_unit_zero origin2]
  have e0 : View.ld q r0_0 = q := View.ld_unit_zero origin2 _ _
  have e1 : View.ld k r0_1 = k := View.ld_unit_zero origin2 _ _
  have e2 : View.ld v r0_1 = v := View.ld_unit_zero origin2 _ _
  have e3 : View.ld g r0_2 = g := View.ld_unit_zero origin3 _ _
  have e4 : View.ld Wk r0_3 = Wk := View.ld_unit_zero origin2 _ _
  have e5 : View.ld Wv r0_3 = Wv := View.ld_unit_zero origin2 _ _
  rw [e0, e1, e2, e3, e4, e5]
  rfl

end Cert.AttnDIdeal.Head

end
-- ==== Proof.AttnTilePoint.lean ====
/- What a point of a tile leaves: a point does six of the twelve heads, on its blocks of the arrays, and every entry is the
   row of the attention that `Spec.row` states, for arrays whose queries, keys and key matrix are real. -/
module

public import proofs.«01_k».proof.Proof.AttnTileHead

@[expose] public section

noncomputable section

namespace Cert.Tile

open Idealize.ShloMosaic Cert.Spec

variable {N K M : ℕ}

/-- Column `d` of head `H` among all columns. -/
def col (H : Fin 12) (d : Fin 64) : Fin 768 := ⟨H.val * 64 + d.val, by have := H.isLt; have := d.isLt; omega⟩

/-- The entry of row `R`, head `H` and column `d` of the attention of the queries, keys, values, gates and matrices. -/
def entry (qr kr : Fin 2048 → Fin 768 → ℝ) (Wr : Fin 64 → Fin 64 → ℝ) (V : FVec Ideal (mat 2048 768) .bf16)
    (G : Vec Ideal ⟨3, ![12, 2048, 3]⟩ .f32) (Wv : FVec Ideal (mat 64 64) .bf16) (R : Fin 2048) (H : Fin 12) (d : Fin 64) :
    EReal :=
  row R.val (fun n => score (fun x => qr R (col H x)) (compressR (fun t x => kr t (col H x)) Wr n))
    (fun t => score (fun x => qr R (col H x)) (fun x => kr t (col H x)))
    (fun n => compress (fun t x => V (ix2 t (col H x))) (fun x d => Wv (ix2 x d)) n d) (fun t => V (ix2 t (col H d)))
    (Ideal.logistic (G (ix3 H R 0))) (Ideal.logistic (G (ix3 H R 1))) (Ideal.logistic (G (ix3 H R 2)))

/-- The blocks of point `b` of a tile of rows from `ρ` on: six heads' columns of its rows of the queries, of the first `K`
    rows of the keys and values, and its rows of the gates. -/
structure Blocks (ρ b : ℕ) (q : Vec Ideal (mat 512 384) .bf16) (k v : Vec Ideal (mat K 384) .bf16)
    (g : Vec Ideal ⟨3, ![6, 512, 3]⟩ .f32) (Q X V : FVec Ideal (mat 2048 768) .bf16)
    (G : Vec Ideal ⟨3, ![12, 2048, 3]⟩ .f32) : Prop where
  q : ∀ (r : Fin 512) (x : Fin 384) (R : Fin 2048) (J : Fin 768), R.val = r.val + ρ → J.val = b * 384 + x.val →
    q (ix2 r x) = Q (ix2 R J)
  k : ∀ (r : Fin K) (x : Fin 384) (R : Fin 2048) (J : Fin 768), R.val = r.val → J.val = b * 384 + x.val →
    k (ix2 r x) = X (ix2 R J)
  v : ∀ (r : Fin K) (x : Fin 384) (R : Fin 2048) (J : Fin 768), R.val = r.val → J.val = b * 384 + x.val →
    v (ix2 r x) = V (ix2 R J)
  g : ∀ (h : Fin 6) (r : Fin 512) (i : Fin 3) (H : Fin 12) (R : Fin 2048), R.val = r.val + ρ → H.val = b * 6 + h.val →
    g (ix3 h r i) = G (ix3 H R i)

/-- The entries of a point's block, when the window's keys are the rows from `o` on of the point's keys. -/
theorem point_apply {A : Tables N K M} {ρ o b : ℕ} (S : A.Hold ρ o) (hoK : o + M ≤ K)
    {slab : FVec Ideal (mat K 64) .bf16 → FVec Ideal (mat M 64) .bf16}
    (hslab : ∀ x (t : Fin M) d, slab x (ix2 t d) = x (ix2 ⟨o + t.val, by have := t.isLt; omega⟩ d))
    {q : Vec Ideal (mat 512 384) .bf16} {k v : Vec Ideal (mat K 384) .bf16} {g : Vec Ideal ⟨3, ![6, 512, 3]⟩ .f32}
    {Q X V : FVec Ideal (mat 2048 768) .bf16} {G : Vec Ideal ⟨3, ![12, 2048, 3]⟩ .f32} (B : Blocks ρ b q k v g Q X V G)
    {Wk Wv : FVec Ideal (mat 64 64) .bf16} {qr kr : Fin 2048 → Fin 768 → ℝ} {Wr : Fin 64 → Fin 64 → ℝ}
    (hq : ∀ r x, Q (ix2 r x) = (qr r x : EReal)) (hk : ∀ r x, X (ix2 r x) = (kr r x : EReal))
    (hW : ∀ x d, Wk (ix2 x d) = (Wr x d : EReal))
    (r : Fin 512) (R : Fin 2048) (hR : R.val = r.val + ρ) (H : Fin 12) (h : Fin 6) (hH : H.val = b * 6 + h.val) (d : Fin 64) :
    heads (fun q k v g => headOf A (scaled q) k v (slab k) (slab v) g Wk Wv) q k v g
        (ix2 r ⟨h.val * 64 + d.val, by have := h.isLt; have := d.isLt; omega⟩) = entry qr kr Wr V G Wv R H d := by
  have hcol : ∀ x : Fin 64, (col H x).val = b * 384 + (h.val * 64 + x.val) := fun x => by
    show H.val * 64 + x.val = _
    omega
  have hρ : ∀ r' : Fin 512, r'.val + ρ < 2048 := fun r' => by have := S.hρ; have := S.le; have := r'.isLt; omega
  rw [heads_apply]
  refine (head_apply S (qr := fun r' x => qr ⟨r'.val + ρ, hρ r'⟩ (col H x)) (kr := fun t x => kr t (col H x))
    (ve := fun t x => V (ix2 t (col H x)))
    (fun r' x => (B.q r' _ ⟨r'.val + ρ, hρ r'⟩ (col H x) rfl (hcol x)).trans (hq _ _))
    (fun t x => (B.k t _ (keyOf S.le t) (col H x) rfl (hcol x)).trans (hk _ _))
    (fun t x => (hslab _ t x).trans ((B.k _ _ (slabOf o S.hM t) (col H x) rfl (hcol x)).trans (hk _ _))) hW
    (fun t x => B.v t _ (keyOf S.le t) (col H x) rfl (hcol x))
    (fun t x => (hslab _ t x).trans (B.v _ _ (slabOf o S.hM t) (col H x) rfl (hcol x))) _ r d).trans ?_
  have g1 : ∀ i, gate g h (ix2 r i) = Ideal.logistic (G (ix3 H R i)) := fun i => congrArg Ideal.logistic (B.g h r i H R hR hH)
  have eR : R = ⟨r.val + ρ, hρ r⟩ := Fin.ext hR
  rw [g1, g1, g1]
  subst eR
  rfl

end Cert.Tile

end
-- ==== Proof.AttnDArray.lean ====
/- The array the tile of rows 1536 to 2047 leaves: every entry is the row of the attention that `Spec.row` states, for
   arguments whose queries, keys and key matrix are real. -/
module

public import proofs.«01_k».proof.Proof.AttnDHead
public import proofs.«01_k».proof.Proof.AttnTilePoint
public import Idealize.ShloMosaic.Lib.Pipeline.ValueKit

@[expose] public section

noncomputable section

namespace Cert.AttnDIdeal.Array

open Idealize.ShloMosaic Idealize.ShloMosaic.TcCoe Idealize.SL.Sem Cert.AttnDIdeal Cert.AttnDIdeal.Gen

variable (m : (ℓ : Loc nD τ sig) → Buf (Elt Ideal) ℓ) (c : Dev nD)

/-- Where the windows stand at a point. -/
theorem idx : ∀ t : Fin cfg0.N, win0_0.index t = ![3, t.val] ∧ win0_1.index t = ![0, t.val] ∧ win0_2.index t = ![0, t.val]
    ∧ win0_3.index t = ![t.val, 3, 0] ∧ win0_4.index t = ![0, 0] ∧ win0_5.index t = ![0, 0] ∧ win0_6.index t = ![0, t.val] :=
  (by decide +kernel : ∀ t : Fin grid0.N, _)

/-- The blocks of the queries, keys, values and gates. -/
theorem blocks (t : Fin cfg0.N) : Tile.Blocks 1536 t.val (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) where
  q r x R J hR hJ := by blk_ext [iblk, V, idx t]
  k r x R J hR hJ := by blk_ext [iblk, V, idx t]
  v r x R J hR hJ := by blk_ext [iblk, V, idx t]
  g h r x H R hR hH := by blk_ext [iblk, V, idx t]

/-- The matrix of the keys. -/
theorem iblk4 (t : Fin cfg0.N) : iblk m c 4 t = m ((c : Thread nD τ).loc main_arg4) := by
  funext y; blk_ext [iblk, V, idx t]

/-- The matrix of the values. -/
theorem iblk5 (t : Fin cfg0.N) : iblk m c 5 t = m ((c : Thread nD τ).loc main_arg5) := by
  funext y; blk_ext [iblk, V, idx t]

/-- An array read through the output window's block. -/
theorem read6 (t : Fin cfg0.N) (A : S512x768.Idx → Elt Ideal .bf16) (r : Fin 512) (j : Fin 384) (J : Fin 768)
    (hJ : J.val = t.val * 384 + j.val) :
    ((cfg0.win 6).blk t).view.read (Elt Ideal) A (ix2 r j) = A (ix2 r J) := by
  blk_ext [idx t]

/-- The array at a point's columns is what the point's body computed. -/
theorem block6 (t : Fin cfg0.N) (r : Fin 512) (j : Fin 384) (J : Fin 768) (hJ : J.val = t.val * 384 + j.val) :
    (dats m 0 c).arrAt 6 cfg0.N (ix2 r J)
      = out0_6 (iblk m c 0 t) (iblk m c 1 t) (iblk m c 2 t) (iblk m c 3 t) (iblk m c 4 t) (iblk m c 5 t) (ix2 r j) := by
  refine (read6 t _ r j J hJ).symm.trans ?_
  refine (congrFun (Value.blocks6 m c t ((by decide +kernel : ∀ t : Fin grid0.N, (cfg0.win 6).flush t = true) t))
    (ix2 r j)).trans ?_
  rw [Value.flushed6]
  rfl

/-- The window's keys are those from key 1280 on. -/
theorem slab_apply (x : FVec Ideal S2048x64 .bf16) (t : Fin 768) (d : Fin 64) :
    extractStridedSlice S768x64 ![1280, 0] x slices_S2048x64_o1280_0_S768x64 (ix2 t d)
      = x (ix2 (⟨1280 + t.val, by have := t.isLt; omega⟩ : Fin 2048) d) := by
  pointwise

/-- The array's entries: for real queries, keys and key matrix, the rows of the attention. -/
theorem array_apply {qr kr : Fin 2048 → Fin 768 → ℝ} {Wr : Fin 64 → Fin 64 → ℝ}
    (hq : ∀ r x, m ((c : Thread nD τ).loc main_arg0) (ix2 r x) = (qr r x : EReal))
    (hk : ∀ r x, m ((c : Thread nD τ).loc main_arg1) (ix2 r x) = (kr r x : EReal))
    (hW : ∀ x d, m ((c : Thread nD τ).loc main_arg4) (ix2 x d) = (Wr x d : EReal))
    (r : Fin 512) (R : Fin 2048) (hR : R.val = r.val + 1536) (H : Fin 12) (d : Fin 64) :
    (dats m 0 c).arrAt 6 cfg0.N (ix2 r (Tile.col H d))
      = Tile.entry qr kr Wr (m ((c : Thread nD τ).loc main_arg2)) (m ((c : Thread nD τ).loc main_arg3))
        (m ((c : Thread nD τ).loc main_arg5)) R H d := by
  have hN : cfg0.N = 2 := N_0
  have hH := H.isLt
  obtain ⟨t, ht⟩ : ∃ t : Fin cfg0.N, t.val = H.val / 6 := ⟨⟨H.val / 6, by omega⟩, rfl⟩
  obtain ⟨h, hh⟩ : ∃ h : Fin 6, h.val = H.val % 6 := ⟨⟨H.val % 6, by omega⟩, rfl⟩
  have hJ : (Tile.col H d).val = t.val * 384 + (h.val * 64 + d.val) := by
    show H.val * 64 + d.val = _
    omega
  rw [block6 m c t r ⟨h.val * 64 + d.val, by have := h.isLt; have := d.isLt; omega⟩ (Tile.col H d) hJ, Head.out_eq, iblk5]
  exact Tile.point_apply Head.holds (by decide) slab_apply (blocks m c t) hq hk (fun x d => by rw [iblk4]; exact hW x d)
    r R hR H h (by omega) d

end Cert.AttnDIdeal.Array

end
-- ==== Proof.AttnDClaim.lean ====
/- The claims about the attention of the rows 1536 to 2047: the frames, what the program on extended reals preserves, and
   the equality with the reference. -/
module

public import proofs.«01_k».proof.Defs
public import proofs.«01_k».proof.Proof.AttnDArray
public import proofs.«01_k».proof.Proof.AttnBRef
public import proofs.«01_k».proof.Proof.AttnFinite
public import proofs.«01_k».proof.Proof.Gen.AttnD.Frame
public import proofs.«01_k».proof.Proof.Gen.AttnDIdeal.Value
public import proofs.«01_k».proof.Proof.Gen.AttnDRefIdeal.Run
public import Idealize.ShloMosaic.Lib.Quiescent

@[expose] public section

noncomputable section

namespace Cert.Proof.AttnD

open Idealize.ShloMosaic Cert

/-- The kernel on machine words runs and leaves its arguments. -/
theorem words : Cert.quiescent_AttnD (hAttnD := Cert.AttnD.Gen.facts) := fun m ρ _ => Cert.AttnD.Gen.frame m ρ

/-- So does the kernel on extended reals. -/
theorem ideal : Cert.quiescent_AttnDIdeal (hAttnDIdeal := Cert.AttnDIdeal.Gen.facts) := fun m ρ _ =>
  Cert.AttnDIdeal.Gen.frame (F := Ideal) m ρ

/-- And, with it, the kernel under the precondition. -/
theorem ideal_finite : Cert.quiescent_AttnDIdeal_pre_finite (hAttnDIdeal := Cert.AttnDIdeal.Gen.facts)
    (hPre_finite := Cert.Pre_finite.Gen.facts) := fun m ρ _ => ideal m ρ trivial

/-- The reference on extended reals runs and leaves its arguments. -/
theorem reference : Cert.quiescent_AttnDRefIdeal (hAttnDRefIdeal := Cert.AttnDRefIdeal.Gen.facts) := fun m ρ _ =>
  (θ_run Cert.AttnDRefIdeal.defs _ _).mono
    (fun r h => ⟨fun c => (h c).2, Idealize.ShloMosaic.sem_eq_zero_of_no_sems (by decide) r.2⟩)
    (Cert.AttnDRefIdeal.Value.run (F := Ideal) m ρ)

/-- And, with it, the reference under the precondition. -/
theorem reference_finite : Cert.quiescent_AttnDRefIdeal_pre_finite (hAttnDRefIdeal := Cert.AttnDRefIdeal.Gen.facts)
    (hPre_finite := Cert.Pre_finite.Gen.facts) := fun m ρ _ => reference m ρ trivial

/-- The mask constant is read as minus infinity. -/
theorem preserves : Cert.preserves_AttnD_AttnDIdeal :=
  IdealRules.named_const.statement Cert.AttnDIdeal.κ "mask" .f32 0xF149F2CA#32 ⊥ rfl

/-- On extended reals, from real queries, keys and key matrix, the kernel ends with the reference's result. -/
theorem algebraic : Cert.algebraic_AttnDIdeal_AttnDRefIdeal_pre_finite (hAttnDIdeal := Cert.AttnDIdeal.Gen.facts)
    (hAttnDRefIdeal := Cert.AttnDRefIdeal.Gen.facts) (hPre_finite := Cert.Pre_finite.Gen.facts) := by
  intro m ρ m' ρ' hpre hagree
  refine ⟨_, Cert.AttnDIdeal.Value.run_blocks (F := Ideal) m ρ, ?_⟩
  refine (θ_run Cert.AttnDRefIdeal.defs _ _).mono (fun _ h c => ⟨(h c).1.trans ?_, (h c).2⟩)
    (Cert.AttnDRefIdeal.Value.run (F := Ideal) m' ρ')
  obtain ⟨e0, e1, e2, e3, e4, e5⟩ := hagree c
  obtain ⟨r0, r1, r4⟩ := Cert.Pre_finite.real (h := hpre c)
  have a0 : StableHlo.launchContents m' c (Proc.tc.devRef Cert.AttnDRefIdeal.main_arg0)
      = m ((c.tc : Thread Cert.AttnDIdeal.nD Cert.AttnDIdeal.τ).loc Cert.AttnDIdeal.main_arg0) := e0
  have a1 : StableHlo.launchContents m' c (Proc.tc.devRef Cert.AttnDRefIdeal.main_arg1)
      = m ((c.tc : Thread Cert.AttnDIdeal.nD Cert.AttnDIdeal.τ).loc Cert.AttnDIdeal.main_arg1) := e1
  have a2 : StableHlo.launchContents m' c (Proc.tc.devRef Cert.AttnDRefIdeal.main_arg2)
      = m ((c.tc : Thread Cert.AttnDIdeal.nD Cert.AttnDIdeal.τ).loc Cert.AttnDIdeal.main_arg2) := e2
  have a3 : StableHlo.launchContents m' c (Proc.tc.devRef Cert.AttnDRefIdeal.main_arg3)
      = m ((c.tc : Thread Cert.AttnDIdeal.nD Cert.AttnDIdeal.τ).loc Cert.AttnDIdeal.main_arg3) := e3
  have a4 : StableHlo.launchContents m' c (Proc.tc.devRef Cert.AttnDRefIdeal.main_arg4)
      = m ((c.tc : Thread Cert.AttnDIdeal.nD Cert.AttnDIdeal.τ).loc Cert.AttnDIdeal.main_arg4) := e4
  have a5 : StableHlo.launchContents m' c (Proc.tc.devRef Cert.AttnDRefIdeal.main_arg5)
      = m ((c.tc : Thread Cert.AttnDIdeal.nD Cert.AttnDIdeal.τ).loc Cert.AttnDIdeal.main_arg5) := e5
  show extractStridedSlice Cert.AttnDRefIdeal.S512x768 ![1536, 0] (Cert.AttnBRefIdeal.Read.val_main_v133 (F := Ideal)
    (StableHlo.launchContents m' c (Proc.tc.devRef Cert.AttnDRefIdeal.main_arg0))
    (StableHlo.launchContents m' c (Proc.tc.devRef Cert.AttnDRefIdeal.main_arg1))
    (StableHlo.launchContents m' c (Proc.tc.devRef Cert.AttnDRefIdeal.main_arg2))
    (StableHlo.launchContents m' c (Proc.tc.devRef Cert.AttnDRefIdeal.main_arg3))
    (StableHlo.launchContents m' c (Proc.tc.devRef Cert.AttnDRefIdeal.main_arg4))
    (StableHlo.launchContents m' c (Proc.tc.devRef Cert.AttnDRefIdeal.main_arg5)))
    (by decide) = _
  rw [a0, a1, a2, a3, a4, a5]
  funext i
  obtain ⟨r, j, rfl⟩ : ∃ (r : Fin 512) (j : Fin 768), i = ix2 r j := ⟨i 0, i 1, eq_ix2 i⟩
  obtain ⟨H, d, rfl⟩ : ∃ (H : Fin 12) (d : Fin 64), j = Tile.col H d :=
    ⟨⟨j.val / 64, by have := j.isLt; omega⟩, ⟨j.val % 64, by omega⟩, Fin.ext (Nat.div_add_mod' j.val 64).symm⟩
  refine (Cert.AttnBRefIdeal.Stages.slice_apply _ 1536 (by decide) _ r _).trans ?_
  exact (Cert.AttnBRefIdeal.Stages.wide_row _ _ _ (fun _ _ => r0 _) (fun _ _ => r1 _) (fun _ _ => r4 _) _ H d).trans
    (Cert.AttnDIdeal.Array.array_apply m c (fun _ _ => r0 _) (fun _ _ => r1 _) (fun _ _ => r4 _) r _
      (Nat.add_comm 1536 r.val) H d).symm

end Cert.Proof.AttnD

end
-- ==== Proof.AttnCHead.lean ====
/- The tile of rows 1024 to 1535: its body's tables, and its body's output block as the six heads that `Tile.headOf` states
   for these tables. -/
module

public import proofs.«01_k».proof.Proof.Gen.AttnCIdeal.Value
public import proofs.«01_k».proof.Proof.AttnTileHead

@[expose] public section

noncomputable section

namespace Cert.AttnCIdeal.Head

open Idealize.ShloMosaic Cert.AttnCIdeal Cert.AttnCIdeal.Gen Cert.Spec

/-- The body's tables. -/
def tables : Tile.Tables 48 1536 768 where
  E := k0_pay2
  T := k0_pay6 k0_pay3 k0_pay4 k0_pay5
  V := cmpi .sge (extractStridedSlice S1x512 ![0, 0] k0_pay3 slices_S48x512_o0_0_S1x512) (broadcast S1x512 31#32)
  μ := Named.named κ "mask" 0xF149F2CA#32
  Z := k0_pay8
  Z' := extractStridedSlice S768x64 ![0, 0] (k0_pay8 (F := Ideal)) slices_S1536x64_o0_0_S768x64
  near := k0_pay7
  mask w := w

/-- The membership table of keys in blocks. -/
theorem member_apply (n : Fin 48) (t : Fin 1536) : k0_pay2 (F := Ideal) (ix2 n t) = member n.val t.val := by
  have hw := block_word (t.castLE (by decide))
  rw [Fin.val_castLE] at hw
  unfold k0_pay2
  pointwise
  rw [hw, select_block (by have := t.isLt; omega) (by have := n.isLt; omega)]
  rfl

/-- The column that sums the weights. -/
theorem ones_apply (t : Fin 1536) : k0_pay8 (F := Ideal) (ix2 t 0) = 1 := by
  unfold k0_pay8
  pointwise
  exact (mark_number 1#1).trans (if_pos rfl)

/-- Which blocks have ended. -/
theorem ended_apply (n : Fin 48) (r : Fin 512) :
    k0_pay6 k0_pay3 k0_pay4 k0_pay5 (ix2 n r) = 1#1 ↔ (n.val + 1) * 32 - 1 ≤ r.val + 1024 := by
  have hn := n.isLt
  have hr := r.isLt
  unfold k0_pay6 k0_pay3 k0_pay4 k0_pay5
  pointwise
  rw [addi_ofNat, muli_ofNat, subi_ofNat (by omega), addi_ofNat, WordCmp.cmpi_sle_ofNat_eq_one_iff (by omega) (by omega)]

/-- Which rows see a block: here all. -/
theorem sees_apply (r : Fin 512) : tables.V (ix2 0 r) = 1#1 ↔ 31 ≤ r.val + 1024 := by
  have hr := r.isLt
  unfold tables k0_pay3
  pointwise
  rw [addi_ofNat, WordCmp.cmpi_sge_ofNat_eq_one_iff (by omega) (by omega)]
  exact iff_of_true (by omega) trivial

/-- Which keys from key 768 on are nearby. -/
theorem near_apply (r : Fin 512) (t : Fin 768) :
    k0_pay7 (ix2 r t) = 1#1 ↔ nearby (r.val + 1024) ⟨768 + t.val, by have := t.isLt; omega⟩ := by
  have ht := t.isLt
  have hr := r.isLt
  unfold k0_pay7
  pointwise
  rw [addi_ofNat, addi_ofNat, subi_ofNat (by omega), subi_ofNat (by omega), andi_iff,
    WordCmp.cmpi_sle_ofNat_eq_one_iff (by omega) (by omega), WordCmp.cmpi_sgt_ofNat_eq_one_iff (by omega) (by omega)]
  unfold nearby
  simp only
  omega

/-- What the tables hold. -/
theorem holds : tables.Hold 1024 768 where
  h4 := by decide
  hN := by decide
  hK := by decide
  hρ := by decide
  hM := by decide
  lo := by decide
  hi := by decide
  E n t := by unfold tables; exact member_apply n t
  T n r := by
    unfold tables
    exact (ended_apply n r).trans (by unfold Spec.ended; rw [Fin.val_castLE]; have := n.isLt; omega)
  V := sees_apply
  μ := rfl
  Z t := by unfold tables; exact ones_apply t
  Z' t := by
    have h : ∀ t, k0_pay8 (F := Ideal) (ix2 t 0) = 1 := ones_apply
    unfold tables
    generalize k0_pay8 (F := Ideal) = Z at *
    pointwise
    exact h _
  near r t := by unfold tables; exact near_apply r t
  mask _ _ _ := Or.inl ⟨Or.inr (by omega), rfl⟩

/-- One head, from its columns of the blocks. -/
def head (Wk Wv : Vec Ideal S64x64 .bf16) (q : FVec Ideal S512x64 .bf16) (k v : FVec Ideal S1536x64 .bf16)
    (g : FVec Ideal S512x3 .f32) : FVec Ideal S512x64 .bf16 :=
  Tile.headOf tables (Tile.scaled q) k v (extractStridedSlice S768x64 ![768, 0] k slices_S1536x64_o768_0_S768x64)
    (extractStridedSlice S768x64 ![768, 0] v slices_S1536x64_o768_0_S768x64) g Wk Wv

theorem origin2 : (![0, 0] : Fin 2 → Nat) = fun _ => 0 := funext fun a => by fin_cases a <;> rfl
theorem origin3 : (![0, 0, 0] : Fin 3 → Nat) = fun _ => 0 := funext fun a => by fin_cases a <;> rfl

variable (c : Dev nD) (i : grid0.Coords)
  (a1 : Memref sig .tc .vmem S512x384 .bf16) (h1 : a1.IsWhole)
  (a2 : Memref sig .tc .vmem S1536x384 .bf16) (h2 : a2.IsWhole)
  (a3 : Memref sig .tc .vmem S1536x384 .bf16) (h3 : a3.IsWhole)
  (a4 : Memref sig .tc .vmem S6x512x3 .f32) (h4 : a4.IsWhole)
  (a5 : Memref sig .tc .vmem S64x64 .bf16) (h5 : a5.IsWhole)
  (a6 : Memref sig .tc .vmem S64x64 .bf16) (h6 : a6.IsWhole)
  (a7 : Memref sig .tc .vmem S512x384 .bf16) (h7 : a7.IsWhole)

set_option maxHeartbeats 8000000 in
/-- The body's output block is the six heads of its input blocks. -/
theorem out_eq (q : Vec Ideal S512x384 .bf16) (k v : Vec Ideal S1536x384 .bf16) (g : Vec Ideal S6x512x3 .f32)
    (Wk Wv : Vec Ideal S64x64 .bf16) :
    out0_A_6 c i a1 h1 a2 h2 a3 h3 a4 h4 a5 h5 a6 h6 a7 h7 q k v g Wk Wv = Tile.heads (head Wk Wv) q k v g := by
  unfold out0_A_6
  rw [View.read_writes_eq_canon _ _ _ (fun y => cover0_A_6 (y := y) ..)]
  unfold kernelRun0_A
  dsimp only
  rw [View.canon_unit_zero origin2]
  have e0 : View.readAt (Elt Ideal) a1.view (Rect.unit ![0, 0] S512x384.size (by decide)).toLoadRect
      (h1.unread q) = q := by
    rw [View.readAt_eq_ld, h1.read_unread, View.ld_unit_zero (S := S512x384) origin2]
  have e1 : View.readAt (Elt Ideal) a2.view (Rect.unit ![0, 0] S1536x384.size (by decide)).toLoadRect
      (h2.unread k) = k := by
    rw [View.readAt_eq_ld, h2.read_unread, View.ld_unit_zero (S := S1536x384) origin2]
  have e2 : View.readAt (Elt Ideal) a3.view (Rect.unit ![0, 0] S1536x384.size (by decide)).toLoadRect
      (h3.unread v) = v := by
    rw [View.readAt_eq_ld, h3.read_unread, View.ld_unit_zero (S := S1536x384) origin2]
  have e3 : View.readAt (Elt Ideal) a4.view (Rect.unit ![0, 0, 0] S6x512x3.size (by decide)).toLoadRect
      (h4.unread g) = g := by
    rw [View.readAt_eq_ld, h4.read_unread, View.ld_unit_zero (S := S6x512x3) origin3]
  have e4 : View.readAt (Elt Ideal) a5.view (Rect.unit ![0, 0] S64x64.size (by decide)).toLoadRect
      (h5.unread Wk) = Wk := by
    rw [View.readAt_eq_ld, h5.read_unread, View.ld_unit_zero (S := S64x64) origin2]
  have e5 : View.readAt (Elt Ideal) a6.view (Rect.unit ![0, 0] S64x64.size (by decide)).toLoadRect
      (h6.unread Wv) = Wv := by
    rw [View.readAt_eq_ld, h6.read_unread, View.ld_unit_zero (S := S64x64) origin2]
  -- with the blocks written as what the body reads, both sides unfold to the same operations
  conv_rhs => rw [← e0, ← e1, ← e2, ← e3, ← e4, ← e5]
  rfl

end Cert.AttnCIdeal.Head

end
-- ==== Proof.AttnCArray.lean ====
/- The array the tile of rows 1024 to 1535 leaves: every entry is the row of the attention that `Spec.row` states, for
   arguments whose queries, keys and key matrix are real. -/
module

public import proofs.«01_k».proof.Proof.AttnCHead
public import proofs.«01_k».proof.Proof.AttnTilePoint
public import Idealize.ShloMosaic.Lib.Pipeline.ValueKit

@[expose] public section

noncomputable section

namespace Cert.AttnCIdeal.Array

open Idealize.ShloMosaic Idealize.ShloMosaic.TcCoe Idealize.SL.Sem Cert.AttnCIdeal Cert.AttnCIdeal.Gen

variable (m : (ℓ : Loc nD τ sig) → Buf (Elt Ideal) ℓ) (c : Dev nD)

/-- Where the windows stand at a point. -/
theorem idx : ∀ t : Fin cfg0.N, win0_0.index t = ![2, t.val] ∧ win0_1.index t = ![0, t.val] ∧ win0_2.index t = ![0, t.val]
    ∧ win0_3.index t = ![t.val, 2, 0] ∧ win0_4.index t = ![0, 0] ∧ win0_5.index t = ![0, 0] ∧ win0_6.index t = ![0, t.val] :=
  (by decide +kernel : ∀ t : Fin grid0.N, _)

/-- No block of the keys reaches past the array, so the window holds it whole. -/
theorem X1_apply (t : Fin cfg0.N) (j : (cfg0.win 1).block.Idx) :
    X0_1 m c t j = iblk m c 1 t fun a => ⟨(j a).val, ((cfg0.win 1).moved_iff _ j).mp (moved0_1 t j) a⟩ := by
  unfold X0_1 Pipeline.Window.fill
  rw [dif_pos (moved0_1 t j)]

/-- Nor does one of the values. -/
theorem X2_apply (t : Fin cfg0.N) (j : (cfg0.win 2).block.Idx) :
    X0_2 m c t j = iblk m c 2 t fun a => ⟨(j a).val, ((cfg0.win 2).moved_iff _ j).mp (moved0_2 t j) a⟩ := by
  unfold X0_2 Pipeline.Window.fill
  rw [dif_pos (moved0_2 t j)]

/-- The blocks of the queries, keys, values and gates. -/
theorem blocks (t : Fin cfg0.N) : Tile.Blocks 1024 t.val (iblk m c 0 t) (X0_1 m c t) (X0_2 m c t) (iblk m c 3 t)
    (m ((c : Thread nD τ).loc main_arg0)) (m ((c : Thread nD τ).loc main_arg1)) (m ((c : Thread nD τ).loc main_arg2))
    (m ((c : Thread nD τ).loc main_arg3)) where
  q r x R J hR hJ := by blk_ext [iblk, V, idx t]
  k r x R J hR hJ := by rw [X1_apply]; blk_ext [iblk, V, idx t]
  v r x R J hR hJ := by rw [X2_apply]; blk_ext [iblk, V, idx t]
  g h r x H R hR hH := by blk_ext [iblk, V, idx t]

/-- The matrix of the keys. -/
theorem iblk4 (t : Fin cfg0.N) : iblk m c 4 t = m ((c : Thread nD τ).loc main_arg4) := by
  funext y; blk_ext [iblk, V, idx t]

/-- The matrix of the values. -/
theorem iblk5 (t : Fin cfg0.N) : iblk m c 5 t = m ((c : Thread nD τ).loc main_arg5) := by
  funext y; blk_ext [iblk, V, idx t]

/-- An array read through the output window's block. -/
theorem read6 (t : Fin cfg0.N) (A : S512x768.Idx → Elt Ideal .bf16) (r : Fin 512) (j : Fin 384) (J : Fin 768)
    (hJ : J.val = t.val * 384 + j.val) :
    ((cfg0.win 6).blk t).view.read (Elt Ideal) A (ix2 r j) = A (ix2 r J) := by
  blk_ext [idx t]

/-- The array at a point's columns is the six heads of the point's blocks. -/
theorem block6 (t : Fin cfg0.N) (r : Fin 512) (j : Fin 384) (J : Fin 768) (hJ : J.val = t.val * 384 + j.val) :
    (dats m 0 c).arrAt 6 cfg0.N (ix2 r J)
      = Tile.heads (Head.head (iblk m c 4 t) (iblk m c 5 t)) (iblk m c 0 t) (X0_1 m c t) (X0_2 m c t) (iblk m c 3 t)
        (ix2 r j) := by
  refine (read6 t _ r j J hJ).symm.trans ?_
  refine (congrFun (Value.blocks6 m c t ((by decide +kernel : ∀ t : Fin grid0.N, (cfg0.win 6).flush t = true) t))
    (ix2 r j)).trans ?_
  rw [Value.flushed6_A]
  exact congrFun (Head.out_eq ..) _

/-- The window's keys are those from key 768 on. -/
theorem slab_apply (x : FVec Ideal S1536x64 .bf16) (t : Fin 768) (d : Fin 64) :
    extractStridedSlice S768x64 ![768, 0] x slices_S1536x64_o768_0_S768x64 (ix2 t d)
      = x (ix2 (⟨768 + t.val, by have := t.isLt; omega⟩ : Fin 1536) d) := by
  pointwise

/-- The array's entries: for real queries, keys and key matrix, the rows of the attention. -/
theorem array_apply {qr kr : Fin 2048 → Fin 768 → ℝ} {Wr : Fin 64 → Fin 64 → ℝ}
    (hq : ∀ r x, m ((c : Thread nD τ).loc main_arg0) (ix2 r x) = (qr r x : EReal))
    (hk : ∀ r x, m ((c : Thread nD τ).loc main_arg1) (ix2 r x) = (kr r x : EReal))
    (hW : ∀ x d, m ((c : Thread nD τ).loc main_arg4) (ix2 x d) = (Wr x d : EReal))
    (r : Fin 512) (R : Fin 2048) (hR : R.val = r.val + 1024) (H : Fin 12) (d : Fin 64) :
    (dats m 0 c).arrAt 6 cfg0.N (ix2 r (Tile.col H d))
      = Tile.entry qr kr Wr (m ((c : Thread nD τ).loc main_arg2)) (m ((c : Thread nD τ).loc main_arg3))
        (m ((c : Thread nD τ).loc main_arg5)) R H d := by
  have hN : cfg0.N = 2 := N_0
  have hH := H.isLt
  obtain ⟨t, ht⟩ : ∃ t : Fin cfg0.N, t.val = H.val / 6 := ⟨⟨H.val / 6, by omega⟩, rfl⟩
  obtain ⟨h, hh⟩ : ∃ h : Fin 6, h.val = H.val % 6 := ⟨⟨H.val % 6, by omega⟩, rfl⟩
  have hJ : (Tile.col H d).val = t.val * 384 + (h.val * 64 + d.val) := by
    show H.val * 64 + d.val = _
    omega
  rw [block6 m c t r ⟨h.val * 64 + d.val, by have := h.isLt; have := d.isLt; omega⟩ (Tile.col H d) hJ, iblk5]
  exact Tile.point_apply Head.holds (by decide) slab_apply (blocks m c t) hq hk (fun x d => by rw [iblk4]; exact hW x d)
    r R hR H h (by omega) d

end Cert.AttnCIdeal.Array

end
-- ==== Proof.AttnCClaim.lean ====
/- The claims about the attention of the rows 1024 to 1535: the frames, what the program on extended reals preserves, and
   the equality with the reference. -/
module

public import proofs.«01_k».proof.Defs
public import proofs.«01_k».proof.Proof.AttnCArray
public import proofs.«01_k».proof.Proof.AttnBRef
public import proofs.«01_k».proof.Proof.AttnFinite
public import proofs.«01_k».proof.Proof.Gen.AttnC.Frame
public import proofs.«01_k».proof.Proof.Gen.AttnCIdeal.Value
public import proofs.«01_k».proof.Proof.Gen.AttnCRefIdeal.Run
public import Idealize.ShloMosaic.Lib.Quiescent

@[expose] public section

noncomputable section

namespace Cert.Proof.AttnC

open Idealize.ShloMosaic Cert

/-- The kernel on machine words runs and leaves its arguments. -/
theorem words : Cert.quiescent_AttnC (hAttnC := Cert.AttnC.Gen.facts) := fun m ρ _ => Cert.AttnC.Gen.frame m ρ

/-- So does the kernel on extended reals. -/
theorem ideal : Cert.quiescent_AttnCIdeal (hAttnCIdeal := Cert.AttnCIdeal.Gen.facts) := fun m ρ _ =>
  Cert.AttnCIdeal.Gen.frame (F := Ideal) m ρ

/-- And, with it, the kernel under the precondition. -/
theorem ideal_finite : Cert.quiescent_AttnCIdeal_pre_finite (hAttnCIdeal := Cert.AttnCIdeal.Gen.facts)
    (hPre_finite := Cert.Pre_finite.Gen.facts) := fun m ρ _ => ideal m ρ trivial

/-- The reference on extended reals runs and leaves its arguments. -/
theorem reference : Cert.quiescent_AttnCRefIdeal (hAttnCRefIdeal := Cert.AttnCRefIdeal.Gen.facts) := fun m ρ _ =>
  (θ_run Cert.AttnCRefIdeal.defs _ _).mono
    (fun r h => ⟨fun c => (h c).2, Idealize.ShloMosaic.sem_eq_zero_of_no_sems (by decide) r.2⟩)
    (Cert.AttnCRefIdeal.Value.run (F := Ideal) m ρ)

/-- And, with it, the reference under the precondition. -/
theorem reference_finite : Cert.quiescent_AttnCRefIdeal_pre_finite (hAttnCRefIdeal := Cert.AttnCRefIdeal.Gen.facts)
    (hPre_finite := Cert.Pre_finite.Gen.facts) := fun m ρ _ => reference m ρ trivial

/-- The mask constant is read as minus infinity. -/
theorem preserves : Cert.preserves_AttnC_AttnCIdeal :=
  IdealRules.named_const.statement Cert.AttnCIdeal.κ "mask" .f32 0xF149F2CA#32 ⊥ rfl

/-- On extended reals, from real queries, keys and key matrix, the kernel ends with the reference's result. -/
theorem algebraic : Cert.algebraic_AttnCIdeal_AttnCRefIdeal_pre_finite (hAttnCIdeal := Cert.AttnCIdeal.Gen.facts)
    (hAttnCRefIdeal := Cert.AttnCRefIdeal.Gen.facts) (hPre_finite := Cert.Pre_finite.Gen.facts) := by
  intro m ρ m' ρ' hpre hagree
  refine ⟨_, Cert.AttnCIdeal.Value.run_blocks (F := Ideal) m ρ, ?_⟩
  refine (θ_run Cert.AttnCRefIdeal.defs _ _).mono (fun _ h c => ⟨(h c).1.trans ?_, (h c).2⟩)
    (Cert.AttnCRefIdeal.Value.run (F := Ideal) m' ρ')
  obtain ⟨e0, e1, e2, e3, e4, e5⟩ := hagree c
  obtain ⟨r0, r1, r4⟩ := Cert.Pre_finite.real (h := hpre c)
  have a0 : StableHlo.launchContents m' c (Proc.tc.devRef Cert.AttnCRefIdeal.main_arg0)
      = m ((c.tc : Thread Cert.AttnCIdeal.nD Cert.AttnCIdeal.τ).loc Cert.AttnCIdeal.main_arg0) := e0
  have a1 : StableHlo.launchContents m' c (Proc.tc.devRef Cert.AttnCRefIdeal.main_arg1)
      = m ((c.tc : Thread Cert.AttnCIdeal.nD Cert.AttnCIdeal.τ).loc Cert.AttnCIdeal.main_arg1) := e1
  have a2 : StableHlo.launchContents m' c (Proc.tc.devRef Cert.AttnCRefIdeal.main_arg2)
      = m ((c.tc : Thread Cert.AttnCIdeal.nD Cert.AttnCIdeal.τ).loc Cert.AttnCIdeal.main_arg2) := e2
  have a3 : StableHlo.launchContents m' c (Proc.tc.devRef Cert.AttnCRefIdeal.main_arg3)
      = m ((c.tc : Thread Cert.AttnCIdeal.nD Cert.AttnCIdeal.τ).loc Cert.AttnCIdeal.main_arg3) := e3
  have a4 : StableHlo.launchContents m' c (Proc.tc.devRef Cert.AttnCRefIdeal.main_arg4)
      = m ((c.tc : Thread Cert.AttnCIdeal.nD Cert.AttnCIdeal.τ).loc Cert.AttnCIdeal.main_arg4) := e4
  have a5 : StableHlo.launchContents m' c (Proc.tc.devRef Cert.AttnCRefIdeal.main_arg5)
      = m ((c.tc : Thread Cert.AttnCIdeal.nD Cert.AttnCIdeal.τ).loc Cert.AttnCIdeal.main_arg5) := e5
  show extractStridedSlice Cert.AttnCRefIdeal.S512x768 ![1024, 0] (Cert.AttnBRefIdeal.Read.val_main_v133 (F := Ideal)
    (StableHlo.launchContents m' c (Proc.tc.devRef Cert.AttnCRefIdeal.main_arg0))
    (StableHlo.launchContents m' c (Proc.tc.devRef Cert.AttnCRefIdeal.main_arg1))
    (StableHlo.launchContents m' c (Proc.tc.devRef Cert.AttnCRefIdeal.main_arg2))
    (StableHlo.launchContents m' c (Proc.tc.devRef Cert.AttnCRefIdeal.main_arg3))
    (StableHlo.launchContents m' c (Proc.tc.devRef Cert.AttnCRefIdeal.main_arg4))
    (StableHlo.launchContents m' c (Proc.tc.devRef Cert.AttnCRefIdeal.main_arg5)))
    (by decide) = _
  rw [a0, a1, a2, a3, a4, a5]
  funext i
  obtain ⟨r, j, rfl⟩ : ∃ (r : Fin 512) (j : Fin 768), i = ix2 r j := ⟨i 0, i 1, eq_ix2 i⟩
  obtain ⟨H, d, rfl⟩ : ∃ (H : Fin 12) (d : Fin 64), j = Tile.col H d :=
    ⟨⟨j.val / 64, by have := j.isLt; omega⟩, ⟨j.val % 64, by omega⟩, Fin.ext (Nat.div_add_mod' j.val 64).symm⟩
  refine (Cert.AttnBRefIdeal.Stages.slice_apply _ 1024 (by decide) _ r _).trans ?_
  exact (Cert.AttnBRefIdeal.Stages.wide_row _ _ _ (fun _ _ => r0 _) (fun _ _ => r1 _) (fun _ _ => r4 _) _ H d).trans
    (Cert.AttnCIdeal.Array.array_apply m c (fun _ _ => r0 _) (fun _ _ => r1 _) (fun _ _ => r4 _) r _
      (Nat.add_comm 1024 r.val) H d).symm

end Cert.Proof.AttnC

end
-- ==== Proof.AttnAHead.lean ====
/- The tile of rows 0 to 511: its body's tables, and its body's output block as the six heads that `Tile.headOf` states
   for these tables. -/
module

public import proofs.«01_k».proof.Proof.Gen.AttnAIdeal.Value
public import proofs.«01_k».proof.Proof.AttnTileHead
public import Idealize.ShloMosaic.Lib.WordArith

@[expose] public section

noncomputable section

namespace Cert.AttnAIdeal.Head

open Idealize.ShloMosaic Cert.AttnAIdeal Cert.AttnAIdeal.Gen Cert.Spec

/-- The body's tables. -/
def tables : Tile.Tables 16 512 512 where
  E := k0_pay2
  T := k0_pay6 k0_pay3 k0_pay4 k0_pay5
  V := cmpi .sge (extractStridedSlice S1x512 ![0, 0] k0_pay3 slices_S16x512_o0_0_S1x512) (broadcast S1x512 31#32)
  μ := Named.named κ "mask" 0xF149F2CA#32
  Z := k0_pay9
  Z' := k0_pay9
  near := k0_pay8
  mask := Tile.kept k0_pay7

/-- The membership table of keys in blocks. -/
theorem member_apply (n : Fin 16) (t : Fin 512) : k0_pay2 (F := Ideal) (ix2 n t) = member n.val t.val := by
  have hw := block_word (t.castLE (by decide))
  rw [Fin.val_castLE] at hw
  unfold k0_pay2
  pointwise
  rw [hw, select_block (by have := t.isLt; omega) (by have := n.isLt; omega)]
  rfl

/-- The column that sums the weights. -/
theorem ones_apply (t : Fin 512) : k0_pay9 (F := Ideal) (ix2 t 0) = 1 := by
  unfold k0_pay9
  pointwise
  exact (mark_number 1#1).trans (if_pos rfl)

/-- Which blocks have ended. -/
theorem ended_apply (n : Fin 16) (r : Fin 512) :
    k0_pay6 k0_pay3 k0_pay4 k0_pay5 (ix2 n r) = 1#1 ↔ (n.val + 1) * 32 - 1 ≤ r.val + 0 := by
  have hn := n.isLt
  have hr := r.isLt
  unfold k0_pay6 k0_pay3 k0_pay4 k0_pay5
  pointwise
  rw [addi_ofNat, muli_ofNat, subi_ofNat (by omega), addi_ofNat, WordCmp.cmpi_sle_ofNat_eq_one_iff (by omega) (by omega)]
  exact Iff.rfl

/-- Which rows see a block. -/
theorem sees_apply (r : Fin 512) : tables.V (ix2 0 r) = 1#1 ↔ 31 ≤ r.val + 0 := by
  have hr := r.isLt
  unfold tables k0_pay3
  pointwise
  rw [addi_ofNat, WordCmp.cmpi_sge_ofNat_eq_one_iff (by omega) (by omega)]
  exact Iff.rfl

/-- Which keys a row may see. -/
theorem causal_apply (r t : Fin 512) : k0_pay7 (ix2 r t) = 1#1 ↔ t.val ≤ r.val := by
  have ht := t.isLt
  have hr := r.isLt
  unfold k0_pay7
  pointwise
  rw [WordCmp.cmpi_sle_ofNat_eq_one_iff (by omega) (by omega)]

/-- Which keys are nearby. -/
theorem near_apply (r t : Fin 512) :
    k0_pay8 (ix2 r t) = 1#1 ↔ nearby (r.val + 0) ⟨0 + t.val, by have := t.isLt; omega⟩ := by
  have ht := t.isLt
  have hr := r.isLt
  have hc := causal_apply r t
  have e : (BitVec.ofNat 32 r.val - 128#32).toInt = (r.val : ℤ) - 128 := by
    rw [WordArith.toInt_sub_of_bounds, WordCmp.toInt_ofNat_of_lt (by omega)]
    · rfl
    all_goals rw [WordCmp.toInt_ofNat_of_lt (by omega), show (128#32 : BitVec 32).toInt = 128 from rfl]; omega
  unfold k0_pay8
  generalize k0_pay7 = m at *
  pointwise
  rw [andi_iff, hc, WordCmp.cmpi_sgt_eq, WordCmp.ofBool_eq_one_iff]
  unfold nearby
  show t.val ≤ r.val ∧ decide ((BitVec.ofNat 32 r.val - 128#32).toInt < (BitVec.ofNat 32 t.val).toInt) = true ↔ _
  rw [decide_eq_true_iff, e, WordCmp.toInt_ofNat_of_lt (by omega)]
  simp only
  omega

/-- What the tables hold. -/
theorem holds : tables.Hold 0 0 where
  h4 := by decide
  hN := by decide
  hK := by decide
  hρ := by decide
  hM := by decide
  lo := by decide
  hi := by decide
  E n t := by unfold tables; exact member_apply n t
  T n r := by
    unfold tables
    exact (ended_apply n r).trans (by unfold Spec.ended; rw [Fin.val_castLE]; have := n.isLt; omega)
  V := sees_apply
  μ := rfl
  Z t := by unfold tables; exact ones_apply t
  Z' t := by unfold tables; exact ones_apply t
  near r t := by unfold tables; exact near_apply r t
  mask w r t := by
    unfold tables
    simp only [Tile.kept_apply]
    by_cases h : t.val ≤ r.val
    · exact Or.inl ⟨Or.inl h, if_pos ((causal_apply r t).mpr h)⟩
    · exact Or.inr ⟨by omega, if_neg fun h' => h ((causal_apply r t).mp h')⟩

/-- One head, from its columns of the blocks. -/
def head (Wk Wv : Vec Ideal S64x64 .bf16) (q : FVec Ideal S512x64 .bf16) (k v : FVec Ideal S512x64 .bf16)
    (g : FVec Ideal S512x3 .f32) : FVec Ideal S512x64 .bf16 :=
  Tile.headOf tables (Tile.scaled q) k v k v g Wk Wv

theorem origin2 : (![0, 0] : Fin 2 → Nat) = fun _ => 0 := funext fun a => by fin_cases a <;> rfl
theorem origin3 : (![0, 0, 0] : Fin 3 → Nat) = fun _ => 0 := funext fun a => by fin_cases a <;> rfl

set_option maxHeartbeats 8000000 in
/-- The body's output block is the six heads of its input blocks. -/
theorem out_eq (q : Vec Ideal S512x384 .bf16) (k v : Vec Ideal S512x384 .bf16) (g : Vec Ideal S6x512x3 .f32)
    (Wk Wv : Vec Ideal S64x64 .bf16) : out0_6 q k v g Wk Wv = Tile.heads (head Wk Wv) q k v g := by
  unfold_out out0_6
  rw [View.canon_unit_zero origin2]
  have e0 : View.ld q r0_0 = q := View.ld_unit_zero origin2 _ _
  have e1 : View.ld k r0_0 = k := View.ld_unit_zero origin2 _ _
  have e2 : View.ld v r0_0 = v := View.ld_unit_zero origin2 _ _
  have e3 : View.ld g r0_1 = g := View.ld_unit_zero origin3 _ _
  have e4 : View.ld Wk r0_2 = Wk := View.ld_unit_zero origin2 _ _
  have e5 : View.ld Wv r0_2 = Wv := View.ld_unit_zero origin2 _ _
  rw [e0, e1, e2, e3, e4, e5]
  rfl

end Cert.AttnAIdeal.Head

end
-- ==== Proof.AttnAArray.lean ====
/- The array the tile of rows 0 to 511 leaves: every entry is the row of the attention that `Spec.row` states, for
   arguments whose queries, keys and key matrix are real. -/
module

public import proofs.«01_k».proof.Proof.AttnAHead
public import proofs.«01_k».proof.Proof.AttnTilePoint
public import Idealize.ShloMosaic.Lib.Pipeline.ValueKit

@[expose] public section

noncomputable section

namespace Cert.AttnAIdeal.Array

open Idealize.ShloMosaic Idealize.ShloMosaic.TcCoe Idealize.SL.Sem Cert.AttnAIdeal Cert.AttnAIdeal.Gen

variable (m : (ℓ : Loc nD τ sig) → Buf (Elt Ideal) ℓ) (c : Dev nD)

/-- Where the windows stand at a point. -/
theorem idx : ∀ t : Fin cfg0.N, win0_0.index t = ![0, t.val] ∧ win0_1.index t = ![0, t.val] ∧ win0_2.index t = ![0, t.val]
    ∧ win0_3.index t = ![t.val, 0, 0] ∧ win0_4.index t = ![0, 0] ∧ win0_5.index t = ![0, 0] ∧ win0_6.index t = ![0, t.val] :=
  (by decide +kernel : ∀ t : Fin grid0.N, _)

/-- The blocks of the queries, keys, values and gates. -/
theorem blocks (t : Fin cfg0.N) : Tile.Blocks 0 t.val (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) where
  q r x R J hR hJ := by blk_ext [iblk, V, idx t]
  k r x R J hR hJ := by blk_ext [iblk, V, idx t]
  v r x R J hR hJ := by blk_ext [iblk, V, idx t]
  g h r x H R hR hH := by blk_ext [iblk, V, idx t]

/-- The matrix of the keys. -/
theorem iblk4 (t : Fin cfg0.N) : iblk m c 4 t = m ((c : Thread nD τ).loc main_arg4) := by
  funext y; blk_ext [iblk, V, idx t]

/-- The matrix of the values. -/
theorem iblk5 (t : Fin cfg0.N) : iblk m c 5 t = m ((c : Thread nD τ).loc main_arg5) := by
  funext y; blk_ext [iblk, V, idx t]

/-- An array read through the output window's block. -/
theorem read6 (t : Fin cfg0.N) (A : S512x768.Idx → Elt Ideal .bf16) (r : Fin 512) (j : Fin 384) (J : Fin 768)
    (hJ : J.val = t.val * 384 + j.val) :
    ((cfg0.win 6).blk t).view.read (Elt Ideal) A (ix2 r j) = A (ix2 r J) := by
  blk_ext [idx t]

/-- The array at a point's columns is what the point's body computed. -/
theorem block6 (t : Fin cfg0.N) (r : Fin 512) (j : Fin 384) (J : Fin 768) (hJ : J.val = t.val * 384 + j.val) :
    (dats m 0 c).arrAt 6 cfg0.N (ix2 r J)
      = out0_6 (iblk m c 0 t) (iblk m c 1 t) (iblk m c 2 t) (iblk m c 3 t) (iblk m c 4 t) (iblk m c 5 t) (ix2 r j) := by
  refine (read6 t _ r j J hJ).symm.trans ?_
  refine (congrFun (Value.blocks6 m c t ((by decide +kernel : ∀ t : Fin grid0.N, (cfg0.win 6).flush t = true) t))
    (ix2 r j)).trans ?_
  rw [Value.flushed6]
  rfl

/-- The array's entries: for real queries, keys and key matrix, the rows of the attention. -/
theorem array_apply {qr kr : Fin 2048 → Fin 768 → ℝ} {Wr : Fin 64 → Fin 64 → ℝ}
    (hq : ∀ r x, m ((c : Thread nD τ).loc main_arg0) (ix2 r x) = (qr r x : EReal))
    (hk : ∀ r x, m ((c : Thread nD τ).loc main_arg1) (ix2 r x) = (kr r x : EReal))
    (hW : ∀ x d, m ((c : Thread nD τ).loc main_arg4) (ix2 x d) = (Wr x d : EReal))
    (r : Fin 512) (R : Fin 2048) (hR : R.val = r.val + 0) (H : Fin 12) (d : Fin 64) :
    (dats m 0 c).arrAt 6 cfg0.N (ix2 r (Tile.col H d))
      = Tile.entry qr kr Wr (m ((c : Thread nD τ).loc main_arg2)) (m ((c : Thread nD τ).loc main_arg3))
        (m ((c : Thread nD τ).loc main_arg5)) R H d := by
  have hN : cfg0.N = 2 := N_0
  have hH := H.isLt
  obtain ⟨t, ht⟩ : ∃ t : Fin cfg0.N, t.val = H.val / 6 := ⟨⟨H.val / 6, by omega⟩, rfl⟩
  obtain ⟨h, hh⟩ : ∃ h : Fin 6, h.val = H.val % 6 := ⟨⟨H.val % 6, by omega⟩, rfl⟩
  have hJ : (Tile.col H d).val = t.val * 384 + (h.val * 64 + d.val) := by
    show H.val * 64 + d.val = _
    omega
  rw [block6 m c t r ⟨h.val * 64 + d.val, by have := h.isLt; have := d.isLt; omega⟩ (Tile.col H d) hJ, Head.out_eq, iblk5]
  exact Tile.point_apply Head.holds (by decide) (slab := id)
    (fun x t d => congrArg (fun u => x (ix2 u d)) (Fin.ext (Nat.zero_add t.val).symm)) (blocks m c t) hq hk (fun x d => by rw [iblk4]; exact hW x d)
    r R hR H h (by omega) d

end Cert.AttnAIdeal.Array

end
-- ==== Proof.AttnAClaim.lean ====
/- The claims about the attention of the rows 0 to 511: the frames, what the program on extended reals preserves, and
   the equality with the reference. -/
module

public import proofs.«01_k».proof.Defs
public import proofs.«01_k».proof.Proof.AttnAArray
public import proofs.«01_k».proof.Proof.AttnBRef
public import proofs.«01_k».proof.Proof.AttnFinite
public import proofs.«01_k».proof.Proof.Gen.AttnA.Frame
public import proofs.«01_k».proof.Proof.Gen.AttnAIdeal.Value
public import proofs.«01_k».proof.Proof.Gen.AttnARefIdeal.Run
public import Idealize.ShloMosaic.Lib.Quiescent

@[expose] public section

noncomputable section

namespace Cert.Proof.AttnA

open Idealize.ShloMosaic Cert

/-- The kernel on machine words runs and leaves its arguments. -/
theorem words : Cert.quiescent_AttnA (hAttnA := Cert.AttnA.Gen.facts) := fun m ρ _ => Cert.AttnA.Gen.frame m ρ

/-- So does the kernel on extended reals. -/
theorem ideal : Cert.quiescent_AttnAIdeal (hAttnAIdeal := Cert.AttnAIdeal.Gen.facts) := fun m ρ _ =>
  Cert.AttnAIdeal.Gen.frame (F := Ideal) m ρ

/-- And, with it, the kernel under the precondition. -/
theorem ideal_finite : Cert.quiescent_AttnAIdeal_pre_finite (hAttnAIdeal := Cert.AttnAIdeal.Gen.facts)
    (hPre_finite := Cert.Pre_finite.Gen.facts) := fun m ρ _ => ideal m ρ trivial

/-- The reference on extended reals runs and leaves its arguments. -/
theorem reference : Cert.quiescent_AttnARefIdeal (hAttnARefIdeal := Cert.AttnARefIdeal.Gen.facts) := fun m ρ _ =>
  (θ_run Cert.AttnARefIdeal.defs _ _).mono
    (fun r h => ⟨fun c => (h c).2, Idealize.ShloMosaic.sem_eq_zero_of_no_sems (by decide) r.2⟩)
    (Cert.AttnARefIdeal.Value.run (F := Ideal) m ρ)

/-- And, with it, the reference under the precondition. -/
theorem reference_finite : Cert.quiescent_AttnARefIdeal_pre_finite (hAttnARefIdeal := Cert.AttnARefIdeal.Gen.facts)
    (hPre_finite := Cert.Pre_finite.Gen.facts) := fun m ρ _ => reference m ρ trivial

/-- The mask constant is read as minus infinity. -/
theorem preserves : Cert.preserves_AttnA_AttnAIdeal :=
  IdealRules.named_const.statement Cert.AttnAIdeal.κ "mask" .f32 0xF149F2CA#32 ⊥ rfl

/-- On extended reals, from real queries, keys and key matrix, the kernel ends with the reference's result. -/
theorem algebraic : Cert.algebraic_AttnAIdeal_AttnARefIdeal_pre_finite (hAttnAIdeal := Cert.AttnAIdeal.Gen.facts)
    (hAttnARefIdeal := Cert.AttnARefIdeal.Gen.facts) (hPre_finite := Cert.Pre_finite.Gen.facts) := by
  intro m ρ m' ρ' hpre hagree
  refine ⟨_, Cert.AttnAIdeal.Value.run_blocks (F := Ideal) m ρ, ?_⟩
  refine (θ_run Cert.AttnARefIdeal.defs _ _).mono (fun _ h c => ⟨(h c).1.trans ?_, (h c).2⟩)
    (Cert.AttnARefIdeal.Value.run (F := Ideal) m' ρ')
  obtain ⟨e0, e1, e2, e3, e4, e5⟩ := hagree c
  obtain ⟨r0, r1, r4⟩ := Cert.Pre_finite.real (h := hpre c)
  have a0 : StableHlo.launchContents m' c (Proc.tc.devRef Cert.AttnARefIdeal.main_arg0)
      = m ((c.tc : Thread Cert.AttnAIdeal.nD Cert.AttnAIdeal.τ).loc Cert.AttnAIdeal.main_arg0) := e0
  have a1 : StableHlo.launchContents m' c (Proc.tc.devRef Cert.AttnARefIdeal.main_arg1)
      = m ((c.tc : Thread Cert.AttnAIdeal.nD Cert.AttnAIdeal.τ).loc Cert.AttnAIdeal.main_arg1) := e1
  have a2 : StableHlo.launchContents m' c (Proc.tc.devRef Cert.AttnARefIdeal.main_arg2)
      = m ((c.tc : Thread Cert.AttnAIdeal.nD Cert.AttnAIdeal.τ).loc Cert.AttnAIdeal.main_arg2) := e2
  have a3 : StableHlo.launchContents m' c (Proc.tc.devRef Cert.AttnARefIdeal.main_arg3)
      = m ((c.tc : Thread Cert.AttnAIdeal.nD Cert.AttnAIdeal.τ).loc Cert.AttnAIdeal.main_arg3) := e3
  have a4 : StableHlo.launchContents m' c (Proc.tc.devRef Cert.AttnARefIdeal.main_arg4)
      = m ((c.tc : Thread Cert.AttnAIdeal.nD Cert.AttnAIdeal.τ).loc Cert.AttnAIdeal.main_arg4) := e4
  have a5 : StableHlo.launchContents m' c (Proc.tc.devRef Cert.AttnARefIdeal.main_arg5)
      = m ((c.tc : Thread Cert.AttnAIdeal.nD Cert.AttnAIdeal.τ).loc Cert.AttnAIdeal.main_arg5) := e5
  show extractStridedSlice Cert.AttnARefIdeal.S512x768 ![0, 0] (Cert.AttnBRefIdeal.Read.val_main_v133 (F := Ideal)
    (StableHlo.launchContents m' c (Proc.tc.devRef Cert.AttnARefIdeal.main_arg0))
    (StableHlo.launchContents m' c (Proc.tc.devRef Cert.AttnARefIdeal.main_arg1))
    (StableHlo.launchContents m' c (Proc.tc.devRef Cert.AttnARefIdeal.main_arg2))
    (StableHlo.launchContents m' c (Proc.tc.devRef Cert.AttnARefIdeal.main_arg3))
    (StableHlo.launchContents m' c (Proc.tc.devRef Cert.AttnARefIdeal.main_arg4))
    (StableHlo.launchContents m' c (Proc.tc.devRef Cert.AttnARefIdeal.main_arg5)))
    (by decide) = _
  rw [a0, a1, a2, a3, a4, a5]
  funext i
  obtain ⟨r, j, rfl⟩ : ∃ (r : Fin 512) (j : Fin 768), i = ix2 r j := ⟨i 0, i 1, eq_ix2 i⟩
  obtain ⟨H, d, rfl⟩ : ∃ (H : Fin 12) (d : Fin 64), j = Tile.col H d :=
    ⟨⟨j.val / 64, by have := j.isLt; omega⟩, ⟨j.val % 64, by omega⟩, Fin.ext (Nat.div_add_mod' j.val 64).symm⟩
  refine (Cert.AttnBRefIdeal.Stages.slice_apply _ 0 (by decide) _ r _).trans ?_
  exact (Cert.AttnBRefIdeal.Stages.wide_row _ _ _ (fun _ _ => r0 _) (fun _ _ => r1 _) (fun _ _ => r4 _) _ H d).trans
    (Cert.AttnAIdeal.Array.array_apply m c (fun _ _ => r0 _) (fun _ _ => r1 _) (fun _ _ => r4 _) r _
      (Nat.add_comm 0 r.val) H d).symm

end Cert.Proof.AttnA

end
-- ==== Proof.lean ====
module

public import proofs.«01_k».proof.Defs
public import proofs.«01_k».proof.Proof.TailClaim
public import proofs.«01_k».proof.Proof.ProjClaim
public import proofs.«01_k».proof.Proof.Gen.TailIdeal.Value
public import proofs.«01_k».proof.Proof.Gen.ProjIdeal.Value
public import proofs.«01_k».proof.Proof.Gen.TailRefIdeal.Run
public import proofs.«01_k».proof.Proof.Gen.ProjRefIdeal.Run
public import proofs.«01_k».proof.Proof.Gen.TailRefIdeal.Read
public import proofs.«01_k».proof.Proof.Gen.ProjRefIdeal.Read
public import proofs.«01_k».proof.Proof.Gen.Pre_finite
public import proofs.«01_k».proof.Proof.AttnBClaim
public import proofs.«01_k».proof.Proof.Gen.AttnB.Frame
public import proofs.«01_k».proof.Proof.Gen.AttnBIdeal.Value
public import proofs.«01_k».proof.Proof.Gen.AttnBRefIdeal.Run
public import proofs.«01_k».proof.Proof.Gen.AttnBRefIdeal.Read
public import proofs.«01_k».proof.Proof.AttnDClaim
public import proofs.«01_k».proof.Proof.AttnCClaim
public import proofs.«01_k».proof.Proof.AttnAClaim
public import proofs.«01_k».proof.Proof.Gen.AttnD.Frame
public import proofs.«01_k».proof.Proof.Gen.AttnDIdeal.Value
public import proofs.«01_k».proof.Proof.Gen.AttnDRefIdeal.Run
public import proofs.«01_k».proof.Proof.Gen.AttnC.Frame
public import proofs.«01_k».proof.Proof.Gen.AttnCIdeal.Value
public import proofs.«01_k».proof.Proof.Gen.AttnCRefIdeal.Run
public import proofs.«01_k».proof.Proof.Gen.AttnA.Frame
public import proofs.«01_k».proof.Proof.Gen.AttnAIdeal.Value
public import proofs.«01_k».proof.Proof.Gen.AttnARefIdeal.Run

@[expose] public section

noncomputable section

namespace Cert.Proof

/-- Every claim about the kernels and their references. -/
theorem claim : Cert.Claim := ⟨Cert.Tail.Gen.facts, Cert.TailIdeal.Gen.facts, Cert.TailRefIdeal.Gen.facts,
  Cert.Proj.Gen.facts, Cert.ProjIdeal.Gen.facts, Cert.ProjRefIdeal.Gen.facts, Cert.AttnB.Gen.facts,
  Cert.AttnBIdeal.Gen.facts, Cert.AttnBRefIdeal.Gen.facts, Cert.AttnD.Gen.facts, Cert.AttnDIdeal.Gen.facts,
  Cert.AttnDRefIdeal.Gen.facts, Cert.AttnC.Gen.facts, Cert.AttnCIdeal.Gen.facts, Cert.AttnCRefIdeal.Gen.facts,
  Cert.AttnA.Gen.facts, Cert.AttnAIdeal.Gen.facts, Cert.AttnARefIdeal.Gen.facts, Cert.Pre_finite.Gen.facts,
  Tail.words, Tail.ideal, Tail.reference, Proj.words, Proj.ideal, Proj.reference,
  AttnB.words, AttnB.ideal, AttnB.ideal_finite, AttnB.reference, AttnB.reference_finite,
  AttnD.words, AttnD.ideal, AttnD.ideal_finite, AttnD.reference, AttnD.reference_finite,
  AttnC.words, AttnC.ideal, AttnC.ideal_finite, AttnC.reference, AttnC.reference_finite,
  AttnA.words, AttnA.ideal, AttnA.ideal_finite, AttnA.reference, AttnA.reference_finite,
  trivial, Tail.algebraic, trivial, Proj.algebraic, AttnB.preserves, AttnB.algebraic, AttnD.preserves, AttnD.algebraic,
  AttnC.preserves, AttnC.algebraic, AttnA.preserves, AttnA.algebraic⟩

end Cert.Proof

end
